-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_intensity [hPre_finite_intensity : Cert.Pre_finite_intensity.Facts] (m : (ℓ : Loc Cert.KernelIdeal.nD Cert.KernelIdeal.τ Cert.KernelIdeal.sig) → Buf (Elt Ideal) ℓ) : Prop :=
  ∀ c : Dev Cert.KernelIdeal.nD,
    (Cert.Pre_finite_intensity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_intensity [hPre_finite_intensity : Cert.Pre_finite_intensity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_intensity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_intensity [hKernelIdeal : Cert.KernelIdeal.Facts] [hPre_finite_intensity : Cert.Pre_finite_intensity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_intensity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_intensity [hReferenceIdeal : Cert.ReferenceIdeal.Facts] [hPre_finite_intensity : Cert.Pre_finite_intensity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_intensity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv27" .f32 0x3D17B426#32 ((1 / 27 : ℝ) : EReal)

def algebraic_KernelIdeal_ReferenceIdeal_pre_finite_intensity [hKernelIdeal : Cert.KernelIdeal.Facts] [hReferenceIdeal : Cert.ReferenceIdeal.Facts] [hPre_finite_intensity : Cert.Pre_finite_intensity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_intensity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v228) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_intensity : Cert.Pre_finite_intensity.Facts),
    quiescent_Kernel (hKernel := hKernel)
    ∧ quiescent_KernelIdeal (hKernelIdeal := hKernelIdeal)
    ∧ quiescent_KernelIdeal_pre_finite_intensity (hKernelIdeal := hKernelIdeal) (hPre_finite_intensity := hPre_finite_intensity)
    ∧ quiescent_ReferenceIdeal (hReferenceIdeal := hReferenceIdeal)
    ∧ quiescent_ReferenceIdeal_pre_finite_intensity (hReferenceIdeal := hReferenceIdeal) (hPre_finite_intensity := hPre_finite_intensity)
    ∧ preserves_Kernel_KernelIdeal
    ∧ algebraic_KernelIdeal_ReferenceIdeal_pre_finite_intensity (hKernelIdeal := hKernelIdeal) (hReferenceIdeal := hReferenceIdeal) (hPre_finite_intensity := hPre_finite_intensity)
-- ==== Pre_finite_intensity.lean ====
abbrev S8x1x128x128 : Shape := ⟨4, ![8, 1, 128, 128]⟩
abbrev S_ : Shape := ⟨0, ![]⟩

class Facts : Prop where
  bcast_S_S8x1x128x128 : S_.BroadcastsInDim S8x1x128x128 (![] : Fin 0 → Fin S8x1x128x128.rank)
  reducesTo_S8x1x128x128_S_d0_1_2_3 : S8x1x128x128.ReducesTo [0, 1, 2, 3] S_
  h_S_ : 0 < S_.numel

variable [Facts]

def fn {F : FTy → Type} [FloatOps F] (main_arg0 : FVec F S8x1x128x128 .f32) (main_arg1 : FVec F S8x1x128x128 .f32) : IVec S_ 1 :=
  let main_v0 : FVec F S8x1x128x128 .f32 := Host.absf main_arg1
  let main_cst : FVec F S_ .f32 := constant S_ .f32 0x7F800000#32
  let main_v1 : FVec F S8x1x128x128 .f32 := broadcastInDim S8x1x128x128 ![] bcast_S_S8x1x128x128 main_cst
  let main_v2 : IVec S8x1x128x128 1 := cmpf .olt main_v0 main_v1
  let main_c : IVec S_ 1 := constantI S_ 1 1#1
  let main_v3 : IVec S_ 1 := (fun x v => Host.reduce IntOp.andi x v reducesTo_S8x1x128x128_S_d0_1_2_3 h_S_) main_v2 main_c
  main_v3
-- ==== Kernel.lean ====
abbrev S8x1x128x128 : Shape := ⟨4, ![8, 1, 128, 128]⟩
abbrev S8x128x128x128 : Shape := ⟨4, ![8, 128, 128, 128]⟩
abbrev S1x1x128x128 : Shape := ⟨4, ![1, 1, 128, 128]⟩
abbrev S1x64x128x128 : Shape := ⟨4, ![1, 64, 128, 128]⟩
abbrev S128x128 : Shape := ⟨2, ![128, 128]⟩
abbrev S70x1x1 : Shape := ⟨3, ![70, 1, 1]⟩
abbrev S1x128x128 : Shape := ⟨3, ![1, 128, 128]⟩
abbrev S70x128x128 : Shape := ⟨3, ![70, 128, 128]⟩
abbrev S66x128x128 : Shape := ⟨3, ![66, 128, 128]⟩
abbrev S64x128x128 : Shape := ⟨3, ![64, 128, 128]⟩
abbrev S64x1x128 : Shape := ⟨3, ![64, 1, 128]⟩
abbrev S64x127x128 : Shape := ⟨3, ![64, 127, 128]⟩
abbrev S64x128x1 : Shape := ⟨3, ![64, 128, 1]⟩
abbrev S64x128x127 : Shape := ⟨3, ![64, 128, 127]⟩
abbrev S1x1x128 : Shape := ⟨3, ![1, 1, 128]⟩
abbrev S1x127x128 : Shape := ⟨3, ![1, 127, 128]⟩
abbrev S1x128x1 : Shape := ⟨3, ![1, 128, 1]⟩
abbrev S1x128x127 : Shape := ⟨3, ![1, 128, 127]⟩
abbrev S8x1x128x128x128 : Shape := ⟨5, ![8, 1, 128, 128, 128]⟩

abbrev nBuf : Space → Nat
  | .hbm => 4
  | .vmem => 6
  | .smem => 0
  | _ => 0

abbrev bufTy : (tb : Table) → Fin (tcTables nBuf tb) → BufTy
  | .hbm, ⟨0, _⟩ => ⟨S8x1x128x128, .f32⟩
  | .hbm, ⟨1, _⟩ => ⟨S8x1x128x128, .f32⟩
  | .hbm, ⟨2, _⟩ => ⟨S8x128x128x128, .f32⟩
  | .hbm, ⟨3, _⟩ => ⟨S8x1x128x128x128, .f32⟩
  | .local _ .vmem, ⟨0, _⟩ => ⟨S1x1x128x128, .f32⟩
  | .local _ .vmem, ⟨1, _⟩ => ⟨S1x1x128x128, .f32⟩
  | .local _ .vmem, ⟨2, _⟩ => ⟨S1x1x128x128, .f32⟩
  | .local _ .vmem, ⟨3, _⟩ => ⟨S1x1x128x128, .f32⟩
  | .local _ .vmem, ⟨4, _⟩ => ⟨S1x64x128x128, .f32⟩
  | .local _ .vmem, ⟨5, _⟩ => ⟨S1x64x128x128, .f32⟩
  | _, _ => ⟨S8x1x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelIdeal.lean ====
variable {F : FTy → Type} [FloatOps F] [Named F]
def κ : String → Option EReal := fun
  | "inv27" => some ((1 / 27 : ℝ) : EReal)
  | _ => none
-- ==== ReferenceIdeal.lean ====
abbrev S8x1x128x128 : Shape := ⟨4, ![8, 1, 128, 128]⟩
abbrev S_ : Shape := ⟨0, ![]⟩
abbrev S8x128x128 : Shape := ⟨3, ![8, 128, 128]⟩
abbrev S8x128x128x128 : Shape := ⟨4, ![8, 128, 128, 128]⟩
abbrev S8 : Shape := ⟨1, ![8]⟩
abbrev S8x1x1 : Shape := ⟨3, ![8, 1, 1]⟩
abbrev S128 : Shape := ⟨1, ![128]⟩
abbrev S1x128x1 : Shape := ⟨3, ![1, 128, 1]⟩
abbrev S1x1x128 : Shape := ⟨3, ![1, 1, 128]⟩
abbrev S8x128x128x1 : Shape := ⟨4, ![8, 128, 128, 1]⟩
abbrev S8x128x128x4 : Shape := ⟨4, ![8, 128, 128, 4]⟩
abbrev S8x1x128x128x128 : Shape := ⟨5, ![8, 1, 128, 128, 128]⟩

abbrev nBuf : Space → Nat
  | .hbm => 337
  | .vmem => 0
  | .smem => 0
  | _ => 0

abbrev hbmTy0_0 (i : Nat) : BufTy := match i % 128 with
  | 0 => ⟨S8x1x128x128, .f32⟩
  | 1 => ⟨S8x1x128x128, .f32⟩
  | 2 => ⟨S_, .f32⟩
  | 3 => ⟨S8x1x128x128, .f32⟩
  | 4 => ⟨S8x1x128x128, .f32⟩
  | 5 => ⟨S_, .f32⟩
  | 6 => ⟨S8x1x128x128, .f32⟩
  | 7 => ⟨S8x1x128x128, .f32⟩
  | 8 => ⟨S_, .f32⟩
  | 9 => ⟨S8x1x128x128, .f32⟩
  | 10 => ⟨S8x1x128x128, .f32⟩
  | 11 => ⟨S8x1x128x128, .i32⟩
  | 12 => ⟨S_, .i32⟩
  | 13 => ⟨S_, .i32⟩
  | 14 => ⟨S_, .i32⟩
  | 15 => ⟨S8x1x128x128, .i32⟩
  | 16 => ⟨S8x1x128x128, .i32⟩
  | 17 => ⟨S_, .i32⟩
  | 18 => ⟨S8x1x128x128, .i32⟩
  | 19 => ⟨S8x1x128x128, .i32⟩
  | 20 => ⟨S8x128x128, .i32⟩
  | 21 => ⟨S8x128x128, .f32⟩
  | 22 => ⟨S_, .f32⟩
  | 23 => ⟨S8x128x128x128, .f32⟩
  | 24 => ⟨S8, .i32⟩
  | 25 => ⟨S8x1x1, .i32⟩
  | 26 => ⟨S128, .i32⟩
  | 27 => ⟨S1x128x1, .i32⟩
  | 28 => ⟨S128, .i32⟩
  | 29 => ⟨S1x1x128, .i32⟩
  | 30 => ⟨S_, .i32⟩
  | 31 => ⟨S8x128x128, .i32⟩
  | 32 => ⟨S8x128x128, .i32⟩
  | 33 => ⟨S_, .i32⟩
  | 34 => ⟨S8x128x128, .i32⟩
  | 35 => ⟨S8x128x128, .i1⟩
  | 36 => ⟨S_, .i32⟩
  | 37 => ⟨S8x128x128, .i32⟩
  | 38 => ⟨S8x128x128, .i1⟩
  | 39 => ⟨S8x128x128, .i1⟩
  | 40 => ⟨S_, .f32⟩
  | 41 => ⟨S8x128x128, .f32⟩
  | 42 => ⟨S8x128x128, .f32⟩
  | 43 => ⟨S8x128x128, .f32⟩
  | 44 => ⟨S8x128x128, .f32⟩
  | 45 => ⟨S_, .i32⟩
  | 46 => ⟨S_, .i32⟩
  | 47 => ⟨S_, .i32⟩
  | 48 => ⟨S8x128x128, .i32⟩
  | 49 => ⟨S8x128x128, .i32⟩
  | 50 => ⟨S_, .i32⟩
  | 51 => ⟨S8x128x128, .i32⟩
  | 52 => ⟨S8x128x128, .i32⟩
  | 53 => ⟨S_, .i32⟩
  | 54 => ⟨S8x1x1, .i32⟩
  | 55 => ⟨S8x1x1, .i1⟩
  | 56 => ⟨S_, .i32⟩
  | 57 => ⟨S8x1x1, .i32⟩
  | 58 => ⟨S8x1x1, .i32⟩
  | 59 => ⟨S8x1x1, .i32⟩
  | 60 => ⟨S_, .i32⟩
  | 61 => ⟨S8x128x128, .i32⟩
  | 62 => ⟨S8x128x128, .i1⟩
  | 63 => ⟨S_, .i32⟩
  | 64 => ⟨S8x128x128, .i32⟩
  | 65 => ⟨S8x128x128, .i32⟩
  | 66 => ⟨S8x128x128, .i32⟩
  | 67 => ⟨S_, .i32⟩
  | 68 => ⟨S1x128x1, .i32⟩
  | 69 => ⟨S1x128x1, .i1⟩
  | 70 => ⟨S_, .i32⟩
  | 71 => ⟨S1x128x1, .i32⟩
  | 72 => ⟨S1x128x1, .i32⟩
  | 73 => ⟨S1x128x1, .i32⟩
  | 74 => ⟨S_, .i32⟩
  | 75 => ⟨S1x1x128, .i32⟩
  | 76 => ⟨S1x1x128, .i1⟩
  | 77 => ⟨S_, .i32⟩
  | 78 => ⟨S1x1x128, .i32⟩
  | 79 => ⟨S1x1x128, .i32⟩
  | 80 => ⟨S1x1x128, .i32⟩
  | 81 => ⟨S8x128x128, .i32⟩
  | 82 => ⟨S8x128x128, .i32⟩
  | 83 => ⟨S8x128x128, .i32⟩
  | 84 => ⟨S8x128x128x1, .i32⟩
  | 85 => ⟨S8x128x128x1, .i32⟩
  | 86 => ⟨S8x128x128x1, .i32⟩
  | 87 => ⟨S8x128x128x1, .i32⟩
  | 88 => ⟨S8x128x128x4, .i32⟩
  | 89 => ⟨S8x128x128x128, .f32⟩
  | 90 => ⟨S_, .i32⟩
  | 91 => ⟨S8x128x128, .i32⟩
  | 92 => ⟨S8x128x128, .i32⟩
  | 93 => ⟨S_, .i32⟩
  | 94 => ⟨S8x128x128, .i32⟩
  | 95 => ⟨S8x128x128, .i1⟩
  | 96 => ⟨S_, .i32⟩
  | 97 => ⟨S8x128x128, .i32⟩
  | 98 => ⟨S8x128x128, .i1⟩
  | 99 => ⟨S8x128x128, .i1⟩
  | 100 => ⟨S_, .f32⟩
  | 101 => ⟨S8x128x128, .f32⟩
  | 102 => ⟨S8x128x128, .f32⟩
  | 103 => ⟨S8x128x128, .f32⟩
  | 104 => ⟨S8x128x128, .f32⟩
  | 105 => ⟨S_, .i32⟩
  | 106 => ⟨S_, .i32⟩
  | 107 => ⟨S_, .i32⟩
  | 108 => ⟨S8x128x128, .i32⟩
  | 109 => ⟨S8x128x128, .i32⟩
  | 110 => ⟨S_, .i32⟩
  | 111 => ⟨S8x128x128, .i32⟩
  | 112 => ⟨S8x128x128, .i32⟩
  | 113 => ⟨S_, .i32⟩
  | 114 => ⟨S8x1x1, .i32⟩
  | 115 => ⟨S8x1x1, .i1⟩
  | 116 => ⟨S_, .i32⟩
  | 117 => ⟨S8x1x1, .i32⟩
  | 118 => ⟨S8x1x1, .i32⟩
  | 119 => ⟨S8x1x1, .i32⟩
  | 120 => ⟨S_, .i32⟩
  | 121 => ⟨S8x128x128, .i32⟩
  | 122 => ⟨S8x128x128, .i1⟩
  | 123 => ⟨S_, .i32⟩
  | 124 => ⟨S8x128x128, .i32⟩
  | 125 => ⟨S8x128x128, .i32⟩
  | 126 => ⟨S8x128x128, .i32⟩
  | 127 => ⟨S_, .i32⟩
  | _ => ⟨S8x1x128x128, .f32⟩

abbrev hbmTy0_1 (i : Nat) : BufTy := match i % 128 with
  | 0 => ⟨S1x128x1, .i32⟩
  | 1 => ⟨S1x128x1, .i1⟩
  | 2 => ⟨S_, .i32⟩
  | 3 => ⟨S1x128x1, .i32⟩
  | 4 => ⟨S1x128x1, .i32⟩
  | 5 => ⟨S1x128x1, .i32⟩
  | 6 => ⟨S_, .i32⟩
  | 7 => ⟨S1x1x128, .i32⟩
  | 8 => ⟨S1x1x128, .i1⟩
  | 9 => ⟨S_, .i32⟩
  | 10 => ⟨S1x1x128, .i32⟩
  | 11 => ⟨S1x1x128, .i32⟩
  | 12 => ⟨S1x1x128, .i32⟩
  | 13 => ⟨S8x128x128, .i32⟩
  | 14 => ⟨S8x128x128, .i32⟩
  | 15 => ⟨S8x128x128, .i32⟩
  | 16 => ⟨S8x128x128x1, .i32⟩
  | 17 => ⟨S8x128x128x1, .i32⟩
  | 18 => ⟨S8x128x128x1, .i32⟩
  | 19 => ⟨S8x128x128x1, .i32⟩
  | 20 => ⟨S8x128x128x4, .i32⟩
  | 21 => ⟨S8x128x128x128, .f32⟩
  | 22 => ⟨S_, .i32⟩
  | 23 => ⟨S8x128x128, .i32⟩
  | 24 => ⟨S8x128x128, .i32⟩
  | 25 => ⟨S_, .i32⟩
  | 26 => ⟨S8x128x128, .i32⟩
  | 27 => ⟨S8x128x128, .i1⟩
  | 28 => ⟨S_, .i32⟩
  | 29 => ⟨S8x128x128, .i32⟩
  | 30 => ⟨S8x128x128, .i1⟩
  | 31 => ⟨S8x128x128, .i1⟩
  | 32 => ⟨S_, .f32⟩
  | 33 => ⟨S8x128x128, .f32⟩
  | 34 => ⟨S8x128x128, .f32⟩
  | 35 => ⟨S8x128x128, .f32⟩
  | 36 => ⟨S8x128x128, .f32⟩
  | 37 => ⟨S_, .i32⟩
  | 38 => ⟨S_, .i32⟩
  | 39 => ⟨S_, .i32⟩
  | 40 => ⟨S8x128x128, .i32⟩
  | 41 => ⟨S8x128x128, .i32⟩
  | 42 => ⟨S_, .i32⟩
  | 43 => ⟨S8x128x128, .i32⟩
  | 44 => ⟨S8x128x128, .i32⟩
  | 45 => ⟨S_, .i32⟩
  | 46 => ⟨S8x1x1, .i32⟩
  | 47 => ⟨S8x1x1, .i1⟩
  | 48 => ⟨S_, .i32⟩
  | 49 => ⟨S8x1x1, .i32⟩
  | 50 => ⟨S8x1x1, .i32⟩
  | 51 => ⟨S8x1x1, .i32⟩
  | 52 => ⟨S_, .i32⟩
  | 53 => ⟨S8x128x128, .i32⟩
  | 54 => ⟨S8x128x128, .i1⟩
  | 55 => ⟨S_, .i32⟩
  | 56 => ⟨S8x128x128, .i32⟩
  | 57 => ⟨S8x128x128, .i32⟩
  | 58 => ⟨S8x128x128, .i32⟩
  | 59 => ⟨S_, .i32⟩
  | 60 => ⟨S1x128x1, .i32⟩
  | 61 => ⟨S1x128x1, .i1⟩
  | 62 => ⟨S_, .i32⟩
  | 63 => ⟨S1x128x1, .i32⟩
  | 64 => ⟨S1x128x1, .i32⟩
  | 65 => ⟨S1x128x1, .i32⟩
  | 66 => ⟨S_, .i32⟩
  | 67 => ⟨S1x1x128, .i32⟩
  | 68 => ⟨S1x1x128, .i1⟩
  | 69 => ⟨S_, .i32⟩
  | 70 => ⟨S1x1x128, .i32⟩
  | 71 => ⟨S1x1x128, .i32⟩
  | 72 => ⟨S1x1x128, .i32⟩
  | 73 => ⟨S8x128x128, .i32⟩
  | 74 => ⟨S8x128x128, .i32⟩
  | 75 => ⟨S8x128x128, .i32⟩
  | 76 => ⟨S8x128x128x1, .i32⟩
  | 77 => ⟨S8x128x128x1, .i32⟩
  | 78 => ⟨S8x128x128x1, .i32⟩
  | 79 => ⟨S8x128x128x1, .i32⟩
  | 80 => ⟨S8x128x128x4, .i32⟩
  | 81 => ⟨S8x128x128x128, .f32⟩
  | 82 => ⟨S_, .i32⟩
  | 83 => ⟨S8x128x128, .i32⟩
  | 84 => ⟨S8x128x128, .i32⟩
  | 85 => ⟨S_, .i32⟩
  | 86 => ⟨S8x128x128, .i32⟩
  | 87 => ⟨S8x128x128, .i1⟩
  | 88 => ⟨S_, .i32⟩
  | 89 => ⟨S8x128x128, .i32⟩
  | 90 => ⟨S8x128x128, .i1⟩
  | 91 => ⟨S8x128x128, .i1⟩
  | 92 => ⟨S_, .f32⟩
  | 93 => ⟨S8x128x128, .f32⟩
  | 94 => ⟨S8x128x128, .f32⟩
  | 95 => ⟨S8x128x128, .f32⟩
  | 96 => ⟨S8x128x128, .f32⟩
  | 97 => ⟨S_, .i32⟩
  | 98 => ⟨S_, .i32⟩
  | 99 => ⟨S_, .i32⟩
  | 100 => ⟨S8x128x128, .i32⟩
  | 101 => ⟨S8x128x128, .i32⟩
  | 102 => ⟨S_, .i32⟩
  | 103 => ⟨S8x128x128, .i32⟩
  | 104 => ⟨S8x128x128, .i32⟩
  | 105 => ⟨S_, .i32⟩
  | 106 => ⟨S8x1x1, .i32⟩
  | 107 => ⟨S8x1x1, .i1⟩
  | 108 => ⟨S_, .i32⟩
  | 109 => ⟨S8x1x1, .i32⟩
  | 110 => ⟨S8x1x1, .i32⟩
  | 111 => ⟨S8x1x1, .i32⟩
  | 112 => ⟨S_, .i32⟩
  | 113 => ⟨S8x128x128, .i32⟩
  | 114 => ⟨S8x128x128, .i1⟩
  | 115 => ⟨S_, .i32⟩
  | 116 => ⟨S8x128x128, .i32⟩
  | 117 => ⟨S8x128x128, .i32⟩
  | 118 => ⟨S8x128x128, .i32⟩
  | 119 => ⟨S_, .i32⟩
  | 120 => ⟨S1x128x1, .i32⟩
  | 121 => ⟨S1x128x1, .i1⟩
  | 122 => ⟨S_, .i32⟩
  | 123 => ⟨S1x128x1, .i32⟩
  | 124 => ⟨S1x128x1, .i32⟩
  | 125 => ⟨S1x128x1, .i32⟩
  | 126 => ⟨S_, .i32⟩
  | 127 => ⟨S1x1x128, .i32⟩
  | _ => ⟨S8x1x128x128, .f32⟩

abbrev hbmTy0_2 (i : Nat) : BufTy := match i % 128 with
  | 0 => ⟨S1x1x128, .i1⟩
  | 1 => ⟨S_, .i32⟩
  | 2 => ⟨S1x1x128, .i32⟩
  | 3 => ⟨S1x1x128, .i32⟩
  | 4 => ⟨S1x1x128, .i32⟩
  | 5 => ⟨S8x128x128, .i32⟩
  | 6 => ⟨S8x128x128, .i32⟩
  | 7 => ⟨S8x128x128, .i32⟩
  | 8 => ⟨S8x128x128x1, .i32⟩
  | 9 => ⟨S8x128x128x1, .i32⟩
  | 10 => ⟨S8x128x128x1, .i32⟩
  | 11 => ⟨S8x128x128x1, .i32⟩
  | 12 => ⟨S8x128x128x4, .i32⟩
  | 13 => ⟨S8x128x128x128, .f32⟩
  | 14 => ⟨S_, .i32⟩
  | 15 => ⟨S8x128x128, .i32⟩
  | 16 => ⟨S8x128x128, .i32⟩
  | 17 => ⟨S_, .i32⟩
  | 18 => ⟨S8x128x128, .i32⟩
  | 19 => ⟨S8x128x128, .i1⟩
  | 20 => ⟨S_, .i32⟩
  | 21 => ⟨S8x128x128, .i32⟩
  | 22 => ⟨S8x128x128, .i1⟩
  | 23 => ⟨S8x128x128, .i1⟩
  | 24 => ⟨S_, .f32⟩
  | 25 => ⟨S8x128x128, .f32⟩
  | 26 => ⟨S8x128x128, .f32⟩
  | 27 => ⟨S8x128x128, .f32⟩
  | 28 => ⟨S8x128x128, .f32⟩
  | 29 => ⟨S_, .i32⟩
  | 30 => ⟨S_, .i32⟩
  | 31 => ⟨S_, .i32⟩
  | 32 => ⟨S8x128x128, .i32⟩
  | 33 => ⟨S8x128x128, .i32⟩
  | 34 => ⟨S_, .i32⟩
  | 35 => ⟨S8x128x128, .i32⟩
  | 36 => ⟨S8x128x128, .i32⟩
  | 37 => ⟨S_, .i32⟩
  | 38 => ⟨S8x1x1, .i32⟩
  | 39 => ⟨S8x1x1, .i1⟩
  | 40 => ⟨S_, .i32⟩
  | 41 => ⟨S8x1x1, .i32⟩
  | 42 => ⟨S8x1x1, .i32⟩
  | 43 => ⟨S8x1x1, .i32⟩
  | 44 => ⟨S_, .i32⟩
  | 45 => ⟨S8x128x128, .i32⟩
  | 46 => ⟨S8x128x128, .i1⟩
  | 47 => ⟨S_, .i32⟩
  | 48 => ⟨S8x128x128, .i32⟩
  | 49 => ⟨S8x128x128, .i32⟩
  | 50 => ⟨S8x128x128, .i32⟩
  | 51 => ⟨S_, .i32⟩
  | 52 => ⟨S1x128x1, .i32⟩
  | 53 => ⟨S1x128x1, .i1⟩
  | 54 => ⟨S_, .i32⟩
  | 55 => ⟨S1x128x1, .i32⟩
  | 56 => ⟨S1x128x1, .i32⟩
  | 57 => ⟨S1x128x1, .i32⟩
  | 58 => ⟨S_, .i32⟩
  | 59 => ⟨S1x1x128, .i32⟩
  | 60 => ⟨S1x1x128, .i1⟩
  | 61 => ⟨S_, .i32⟩
  | 62 => ⟨S1x1x128, .i32⟩
  | 63 => ⟨S1x1x128, .i32⟩
  | 64 => ⟨S1x1x128, .i32⟩
  | 65 => ⟨S8x128x128, .i32⟩
  | 66 => ⟨S8x128x128, .i32⟩
  | 67 => ⟨S8x128x128, .i32⟩
  | 68 => ⟨S8x128x128x1, .i32⟩
  | 69 => ⟨S8x128x128x1, .i32⟩
  | 70 => ⟨S8x128x128x1, .i32⟩
  | 71 => ⟨S8x128x128x1, .i32⟩
  | 72 => ⟨S8x128x128x4, .i32⟩
  | 73 => ⟨S8x128x128x128, .f32⟩
  | 74 => ⟨S8x1x128x128x128, .f32⟩
  | 75 => ⟨S_, .f32⟩
  | 76 => ⟨S_, .f32⟩
  | 77 => ⟨S8x1x128x128x128, .f32⟩
  | 78 => ⟨S_, .f32⟩
  | 79 => ⟨S8x1x128x128x128, .f32⟩
  | 80 => ⟨S8x1x128x128x128, .f32⟩
  | _ => ⟨S8x1x128x128, .f32⟩

abbrev hbmTy (i : Nat) : BufTy := match i / 128 with
  | 0 => hbmTy0_0 i
  | 1 => hbmTy0_1 i
  | 2 => hbmTy0_2 i
  | _ => ⟨S8x1x128x128, .f32⟩

abbrev bufTy : (tb : Table) → Fin (tcTables nBuf tb) → BufTy
  | .hbm, ⟨i, _⟩ => hbmTy i
  | _, _ => ⟨S8x1x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v2 : Ref sig .tc := ⟨.hbm, 3, rfl⟩
abbrev main_v3 : Ref sig .tc := ⟨.hbm, 4, rfl⟩
abbrev main_cst_0 : Ref sig .tc := ⟨.hbm, 5, rfl⟩
abbrev main_v4 : Ref sig .tc := ⟨.hbm, 6, rfl⟩
abbrev main_v5 : Ref sig .tc := ⟨.hbm, 7, rfl⟩
abbrev main_cst_1 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_c_2 : Ref sig .tc := ⟨.hbm, 13, rfl⟩
abbrev main_call2_v0 : Ref sig .tc := ⟨.hbm, 14, rfl⟩
abbrev main_call2_v1 : Ref sig .tc := ⟨.hbm, 15, rfl⟩
abbrev main_call2_v2 : Ref sig .tc := ⟨.hbm, 16, rfl⟩
abbrev main_call2_v3 : Ref sig .tc := ⟨.hbm, 17, rfl⟩
abbrev main_call2_v4 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_8 : Ref sig .tc := ⟨.hbm, 45, rfl⟩
abbrev main_c_9 : Ref sig .tc := ⟨.hbm, 46, rfl⟩
abbrev main_call3_v0 : Ref sig .tc := ⟨.hbm, 47, rfl⟩
abbrev main_call3_v1 : Ref sig .tc := ⟨.hbm, 48, rfl⟩
abbrev main_call3_v2 : Ref sig .tc := ⟨.hbm, 49, rfl⟩
abbrev main_call3_v3 : Ref sig .tc := ⟨.hbm, 50, rfl⟩
abbrev main_call3_v4 : Ref sig .tc := ⟨.hbm, 51, rfl⟩
abbrev main_v30 : Ref sig .tc := ⟨.hbm, 52, rfl⟩
abbrev main_c_10 : Ref sig .tc := ⟨.hbm, 53, rfl⟩
abbrev main_v31 : Ref sig .tc := ⟨.hbm, 54, rfl⟩
abbrev main_v32 : Ref sig .tc := ⟨.hbm, 55, rfl⟩
abbrev main_c_11 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_12 : Ref sig .tc := ⟨.hbm, 60, rfl⟩
abbrev main_v36 : Ref sig .tc := ⟨.hbm, 61, rfl⟩
abbrev main_v37 : Ref sig .tc := ⟨.hbm, 62, rfl⟩
abbrev main_c_13 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_14 : Ref sig .tc := ⟨.hbm, 67, rfl⟩
abbrev main_v41 : Ref sig .tc := ⟨.hbm, 68, rfl⟩
abbrev main_v42 : Ref sig .tc := ⟨.hbm, 69, rfl⟩
abbrev main_c_15 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_c_16 : Ref sig .tc := ⟨.hbm, 74, rfl⟩
abbrev main_v46 : Ref sig .tc := ⟨.hbm, 75, rfl⟩
abbrev main_v47 : Ref sig .tc := ⟨.hbm, 76, rfl⟩
abbrev main_c_17 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_18 : Ref sig .tc := ⟨.hbm, 90, rfl⟩
abbrev main_v60 : Ref sig .tc := ⟨.hbm, 91, rfl⟩
abbrev main_v61 : Ref sig .tc := ⟨.hbm, 92, rfl⟩
abbrev main_c_19 : Ref sig .tc := ⟨.hbm, 93, rfl⟩
abbrev main_v62 : Ref sig .tc := ⟨.hbm, 94, rfl⟩
abbrev main_v63 : Ref sig .tc := ⟨.hbm, 95, rfl⟩
abbrev main_c_20 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_21 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_22 : Ref sig .tc := ⟨.hbm, 105, rfl⟩
abbrev main_c_23 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_call4_v3 : Ref sig .tc := ⟨.hbm, 110, rfl⟩
abbrev main_call4_v4 : Ref sig .tc := ⟨.hbm, 111, rfl⟩
abbrev main_v71 : Ref sig .tc := ⟨.hbm, 112, rfl⟩
abbrev main_c_24 : Ref sig .tc := ⟨.hbm, 113, rfl⟩
abbrev main_v72 : Ref sig .tc := ⟨.hbm, 114, rfl⟩
abbrev main_v73 : Ref sig .tc := ⟨.hbm, 115, rfl⟩
abbrev main_c_25 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_c_26 : Ref sig .tc := ⟨.hbm, 120, rfl⟩
abbrev main_v77 : Ref sig .tc := ⟨.hbm, 121, rfl⟩
abbrev main_v78 : Ref sig .tc := ⟨.hbm, 122, rfl⟩
abbrev main_c_27 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_c_28 : Ref sig .tc := ⟨.hbm, 127, rfl⟩
abbrev main_v82 : Ref sig .tc := ⟨.hbm, 128, rfl⟩
abbrev main_v83 : Ref sig .tc := ⟨.hbm, 129, rfl⟩
abbrev main_c_29 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_c_30 : Ref sig .tc := ⟨.hbm, 134, rfl⟩
abbrev main_v87 : Ref sig .tc := ⟨.hbm, 135, rfl⟩
abbrev main_v88 : Ref sig .tc := ⟨.hbm, 136, rfl⟩
abbrev main_c_31 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_c_32 : Ref sig .tc := ⟨.hbm, 150, rfl⟩
abbrev main_v101 : Ref sig .tc := ⟨.hbm, 151, rfl⟩
abbrev main_v102 : Ref sig .tc := ⟨.hbm, 152, rfl⟩
abbrev main_c_33 : Ref sig .tc := ⟨.hbm, 153, rfl⟩
abbrev main_v103 : Ref sig .tc := ⟨.hbm, 154, rfl⟩
abbrev main_v104 : Ref sig .tc := ⟨.hbm, 155, rfl⟩
abbrev main_c_34 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_cst_35 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_c_36 : Ref sig .tc := ⟨.hbm, 165, rfl⟩
abbrev main_c_37 : Ref sig .tc := ⟨.hbm, 166, rfl⟩
abbrev main_call5_v0 : Ref sig .tc := ⟨.hbm, 167, rfl⟩
abbrev main_call5_v1 : Ref sig .tc := ⟨.hbm, 168, rfl⟩
abbrev main_call5_v2 : Ref sig .tc := ⟨.hbm, 169, rfl⟩
abbrev main_call5_v3 : Ref sig .tc := ⟨.hbm, 170, rfl⟩
abbrev main_call5_v4 : Ref sig .tc := ⟨.hbm, 171, rfl⟩
abbrev main_v112 : Ref sig .tc := ⟨.hbm, 172, rfl⟩
abbrev main_c_38 : Ref sig .tc := ⟨.hbm, 173, rfl⟩
abbrev main_v113 : Ref sig .tc := ⟨.hbm, 174, rfl⟩
abbrev main_v114 : Ref sig .tc := ⟨.hbm, 175, rfl⟩
abbrev main_c_39 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_c_40 : Ref sig .tc := ⟨.hbm, 180, rfl⟩
abbrev main_v118 : Ref sig .tc := ⟨.hbm, 181, rfl⟩
abbrev main_v119 : Ref sig .tc := ⟨.hbm, 182, rfl⟩
abbrev main_c_41 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_c_42 : Ref sig .tc := ⟨.hbm, 187, rfl⟩
abbrev main_v123 : Ref sig .tc := ⟨.hbm, 188, rfl⟩
abbrev main_v124 : Ref sig .tc := ⟨.hbm, 189, rfl⟩
abbrev main_c_43 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_c_44 : Ref sig .tc := ⟨.hbm, 194, rfl⟩
abbrev main_v128 : Ref sig .tc := ⟨.hbm, 195, rfl⟩
abbrev main_v129 : Ref sig .tc := ⟨.hbm, 196, rfl⟩
abbrev main_c_45 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_c_46 : Ref sig .tc := ⟨.hbm, 210, rfl⟩
abbrev main_v142 : Ref sig .tc := ⟨.hbm, 211, rfl⟩
abbrev main_v143 : Ref sig .tc := ⟨.hbm, 212, rfl⟩
abbrev main_c_47 : Ref sig .tc := ⟨.hbm, 213, rfl⟩
abbrev main_v144 : Ref sig .tc := ⟨.hbm, 214, rfl⟩
abbrev main_v145 : Ref sig .tc := ⟨.hbm, 215, rfl⟩
abbrev main_c_48 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_cst_49 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_c_50 : Ref sig .tc := ⟨.hbm, 225, rfl⟩
abbrev main_c_51 : Ref sig .tc := ⟨.hbm, 226, rfl⟩
abbrev main_call6_v0 : Ref sig .tc := ⟨.hbm, 227, rfl⟩
abbrev main_call6_v1 : Ref sig .tc := ⟨.hbm, 228, rfl⟩
abbrev main_call6_v2 : Ref sig .tc := ⟨.hbm, 229, rfl⟩
abbrev main_call6_v3 : Ref sig .tc := ⟨.hbm, 230, rfl⟩
abbrev main_call6_v4 : Ref sig .tc := ⟨.hbm, 231, rfl⟩
abbrev main_v153 : Ref sig .tc := ⟨.hbm, 232, rfl⟩
abbrev main_c_52 : Ref sig .tc := ⟨.hbm, 233, rfl⟩
abbrev main_v154 : Ref sig .tc := ⟨.hbm, 234, rfl⟩
abbrev main_v155 : Ref sig .tc := ⟨.hbm, 235, rfl⟩
abbrev main_c_53 : Ref sig .tc := ⟨.hbm, 236, rfl⟩
abbrev main_v156 : Ref sig .tc := ⟨.hbm, 237, rfl⟩
abbrev main_v157 : Ref sig .tc := ⟨.hbm, 238, rfl⟩
abbrev main_v158 : Ref sig .tc := ⟨.hbm, 239, rfl⟩
abbrev main_c_54 : Ref sig .tc := ⟨.hbm, 240, rfl⟩
abbrev main_v159 : Ref sig .tc := ⟨.hbm, 241, rfl⟩
abbrev main_v160 : Ref sig .tc := ⟨.hbm, 242, rfl⟩
abbrev main_c_55 : Ref sig .tc := ⟨.hbm, 243, rfl⟩
abbrev main_v161 : Ref sig .tc := ⟨.hbm, 244, rfl⟩
abbrev main_v162 : Ref sig .tc := ⟨.hbm, 245, rfl⟩
abbrev main_v163 : Ref sig .tc := ⟨.hbm, 246, rfl⟩
abbrev main_c_56 : Ref sig .tc := ⟨.hbm, 247, rfl⟩
abbrev main_v164 : Ref sig .tc := ⟨.hbm, 248, rfl⟩
abbrev main_v165 : Ref sig .tc := ⟨.hbm, 249, rfl⟩
abbrev main_c_57 : Ref sig .tc := ⟨.hbm, 250, rfl⟩
abbrev main_v166 : Ref sig .tc := ⟨.hbm, 251, rfl⟩
abbrev main_v167 : Ref sig .tc := ⟨.hbm, 252, rfl⟩
abbrev main_v168 : Ref sig .tc := ⟨.hbm, 253, rfl⟩
abbrev main_c_58 : Ref sig .tc := ⟨.hbm, 254, rfl⟩
abbrev main_v169 : Ref sig .tc := ⟨.hbm, 255, rfl⟩
abbrev main_v170 : Ref sig .tc := ⟨.hbm, 256, rfl⟩
abbrev main_c_59 : Ref sig .tc := ⟨.hbm, 257, rfl⟩
abbrev main_v171 : Ref sig .tc := ⟨.hbm, 258, rfl⟩
abbrev main_v172 : Ref sig .tc := ⟨.hbm, 259, rfl⟩
abbrev main_v173 : Ref sig .tc := ⟨.hbm, 260, rfl⟩
abbrev main_v174 : Ref sig .tc := ⟨.hbm, 261, rfl⟩
abbrev main_v175 : Ref sig .tc := ⟨.hbm, 262, rfl⟩
abbrev main_v176 : Ref sig .tc := ⟨.hbm, 263, rfl⟩
abbrev main_v177 : Ref sig .tc := ⟨.hbm, 264, rfl⟩
abbrev main_v178 : Ref sig .tc := ⟨.hbm, 265, rfl⟩
abbrev main_v179 : Ref sig .tc := ⟨.hbm, 266, rfl⟩
abbrev main_v180 : Ref sig .tc := ⟨.hbm, 267, rfl⟩
abbrev main_v181 : Ref sig .tc := ⟨.hbm, 268, rfl⟩
abbrev main_v182 : Ref sig .tc := ⟨.hbm, 269, rfl⟩
abbrev main_c_60 : Ref sig .tc := ⟨.hbm, 270, rfl⟩
abbrev main_v183 : Ref sig .tc := ⟨.hbm, 271, rfl⟩
abbrev main_v184 : Ref sig .tc := ⟨.hbm, 272, rfl⟩
abbrev main_c_61 : Ref sig .tc := ⟨.hbm, 273, rfl⟩
abbrev main_v185 : Ref sig .tc := ⟨.hbm, 274, rfl⟩
abbrev main_v186 : Ref sig .tc := ⟨.hbm, 275, rfl⟩
abbrev main_c_62 : Ref sig .tc := ⟨.hbm, 276, rfl⟩
abbrev main_v187 : Ref sig .tc := ⟨.hbm, 277, rfl⟩
abbrev main_v188 : Ref sig .tc := ⟨.hbm, 278, rfl⟩
abbrev main_v189 : Ref sig .tc := ⟨.hbm, 279, rfl⟩
abbrev main_cst_63 : Ref sig .tc := ⟨.hbm, 280, rfl⟩
abbrev main_v190 : Ref sig .tc := ⟨.hbm, 281, rfl⟩
abbrev main_v191 : Ref sig .tc := ⟨.hbm, 282, rfl⟩
abbrev main_v192 : Ref sig .tc := ⟨.hbm, 283, rfl⟩
abbrev main_v193 : Ref sig .tc := ⟨.hbm, 284, rfl⟩
abbrev main_c_64 : Ref sig .tc := ⟨.hbm, 285, rfl⟩
abbrev main_c_65 : Ref sig .tc := ⟨.hbm, 286, rfl⟩
abbrev main_call7_v0 : Ref sig .tc := ⟨.hbm, 287, rfl⟩
abbrev main_call7_v1 : Ref sig .tc := ⟨.hbm, 288, rfl⟩
abbrev main_call7_v2 : Ref sig .tc := ⟨.hbm, 289, rfl⟩
abbrev main_call7_v3 : Ref sig .tc := ⟨.hbm, 290, rfl⟩
abbrev main_call7_v4 : Ref sig .tc := ⟨.hbm, 291, rfl⟩
abbrev main_v194 : Ref sig .tc := ⟨.hbm, 292, rfl⟩
abbrev main_c_66 : Ref sig .tc := ⟨.hbm, 293, rfl⟩
abbrev main_v195 : Ref sig .tc := ⟨.hbm, 294, rfl⟩
abbrev main_v196 : Ref sig .tc := ⟨.hbm, 295, rfl⟩
abbrev main_c_67 : Ref sig .tc := ⟨.hbm, 296, rfl⟩
abbrev main_v197 : Ref sig .tc := ⟨.hbm, 297, rfl⟩
abbrev main_v198 : Ref sig .tc := ⟨.hbm, 298, rfl⟩
abbrev main_v199 : Ref sig .tc := ⟨.hbm, 299, rfl⟩
abbrev main_c_68 : Ref sig .tc := ⟨.hbm, 300, rfl⟩
abbrev main_v200 : Ref sig .tc := ⟨.hbm, 301, rfl⟩
abbrev main_v201 : Ref sig .tc := ⟨.hbm, 302, rfl⟩
abbrev main_c_69 : Ref sig .tc := ⟨.hbm, 303, rfl⟩
abbrev main_v202 : Ref sig .tc := ⟨.hbm, 304, rfl⟩
abbrev main_v203 : Ref sig .tc := ⟨.hbm, 305, rfl⟩
abbrev main_v204 : Ref sig .tc := ⟨.hbm, 306, rfl⟩
abbrev main_c_70 : Ref sig .tc := ⟨.hbm, 307, rfl⟩
abbrev main_v205 : Ref sig .tc := ⟨.hbm, 308, rfl⟩
abbrev main_v206 : Ref sig .tc := ⟨.hbm, 309, rfl⟩
abbrev main_c_71 : Ref sig .tc := ⟨.hbm, 310, rfl⟩
abbrev main_v207 : Ref sig .tc := ⟨.hbm, 311, rfl⟩
abbrev main_v208 : Ref sig .tc := ⟨.hbm, 312, rfl⟩
abbrev main_v209 : Ref sig .tc := ⟨.hbm, 313, rfl⟩
abbrev main_c_72 : Ref sig .tc := ⟨.hbm, 314, rfl⟩
abbrev main_v210 : Ref sig .tc := ⟨.hbm, 315, rfl⟩
abbrev main_v211 : Ref sig .tc := ⟨.hbm, 316, rfl⟩
abbrev main_c_73 : Ref sig .tc := ⟨.hbm, 317, rfl⟩
abbrev main_v212 : Ref sig .tc := ⟨.hbm, 318, rfl⟩
abbrev main_v213 : Ref sig .tc := ⟨.hbm, 319, rfl⟩
abbrev main_v214 : Ref sig .tc := ⟨.hbm, 320, rfl⟩
abbrev main_v215 : Ref sig .tc := ⟨.hbm, 321, rfl⟩
abbrev main_v216 : Ref sig .tc := ⟨.hbm, 322, rfl⟩
abbrev main_v217 : Ref sig .tc := ⟨.hbm, 323, rfl⟩
abbrev main_v218 : Ref sig .tc := ⟨.hbm, 324, rfl⟩
abbrev main_v219 : Ref sig .tc := ⟨.hbm, 325, rfl⟩
abbrev main_v220 : Ref sig .tc := ⟨.hbm, 326, rfl⟩
abbrev main_v221 : Ref sig .tc := ⟨.hbm, 327, rfl⟩
abbrev main_v222 : Ref sig .tc := ⟨.hbm, 328, rfl⟩
abbrev main_v223 : Ref sig .tc := ⟨.hbm, 329, rfl⟩
abbrev main_v224 : Ref sig .tc := ⟨.hbm, 330, rfl⟩
abbrev main_cst_74 : Ref sig .tc := ⟨.hbm, 331, rfl⟩
abbrev main_v225 : Ref sig .tc := ⟨.hbm, 332, rfl⟩
abbrev main_v226 : Ref sig .tc := ⟨.hbm, 333, rfl⟩
abbrev main_cst_75 : Ref sig .tc := ⟨.hbm, 334, rfl⟩
abbrev main_v227 : Ref sig .tc := ⟨.hbm, 335, rfl⟩
abbrev main_v228 : Ref sig .tc := ⟨.hbm, 336, rfl⟩

abbrev nD : Nat := 1
abbrev τ : Topo := Topo.v7x

variable {F : FTy → Type} [FloatOps F]
-- ==== Proof.RefOps.lean ====
module

public import proofs.«01_k».proof.Proof.Gen.ReferenceIdeal
public import Idealize.ShloMosaic.Lib.StableHlo.Run
public import Idealize.ShloMosaic.Lib.Pipeline.Frame

/-! The reference's host operations as a list, window by window, and the facts a run of the list asks for: which buffers each operation touches, and that none of them is fresh. The two calls of `resize` have no operation of their own (the sizes agree), so they drop out of the first window. -/

@[expose] public section

set_option Elab.async false

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v58`, named. It packs its operands into a list of dependent pairs
    whose shapes a later argument's type mentions, so `simp` cannot rewrite an operand where it stands; applied by
    name, the operands are plain arguments, which the window lemmas below rewrite before the name unfolds. -/
def fn_main_v58 : (main_v54 : Ref sig .tc).ty.Contents (Elt F) → (main_v55 : Ref sig .tc).ty.Contents (Elt F) → (main_v56 : Ref sig .tc).ty.Contents (Elt F) → (main_v57 : Ref sig .tc).ty.Contents (Elt F) → (main_v58 : Ref sig .tc).ty.Contents (Elt F) :=
  (fun u0 u1 u2 u3 => (concatenate S8x128x128x4 3 [⟨S8x128x128x1, (u0 : (⟨S8x128x128x1, .i32⟩ : BufTy).Contents (Elt F))⟩, ⟨S8x128x128x1, (u1 : (⟨S8x128x128x1, .i32⟩ : BufTy).Contents (Elt F))⟩, ⟨S8x128x128x1, (u2 : (⟨S8x128x128x1, .i32⟩ : BufTy).Contents (Elt F))⟩, ⟨S8x128x128x1, (u3 : (⟨S8x128x128x1, .i32⟩ : BufTy).Contents (Elt F))⟩] concatenates_S8x128x128x1_S8x128x128x1_S8x128x128x1_S8x128x128x1_S8x128x128x4_d3 : (⟨S8x128x128x4, .i32⟩ : BufTy).Contents (Elt F)))

/-- The function of the operation that writes `main_v99`, named. It packs its operands into a list of dependent pairs
    whose shapes a later argument's type mentions, so `simp` cannot rewrite an operand where it stands; applied by
    name, the operands are plain arguments, which the window lemmas below rewrite before the name unfolds. -/
def fn_main_v99 : (main_v95 : Ref sig .tc).ty.Contents (Elt F) → (main_v96 : Ref sig .tc).ty.Contents (Elt F) → (main_v97 : Ref sig .tc).ty.Contents (Elt F) → (main_v98 : Ref sig .tc).ty.Contents (Elt F) → (main_v99 : Ref sig .tc).ty.Contents (Elt F) :=
  (fun u0 u1 u2 u3 => (concatenate S8x128x128x4 3 [⟨S8x128x128x1, (u0 : (⟨S8x128x128x1, .i32⟩ : BufTy).Contents (Elt F))⟩, ⟨S8x128x128x1, (u1 : (⟨S8x128x128x1, .i32⟩ : BufTy).Contents (Elt F))⟩, ⟨S8x128x128x1, (u2 : (⟨S8x128x128x1, .i32⟩ : BufTy).Contents (Elt F))⟩, ⟨S8x128x128x1, (u3 : (⟨S8x128x128x1, .i32⟩ : BufTy).Contents (Elt F))⟩] concatenates_S8x128x128x1_S8x128x128x1_S8x128x128x1_S8x128x128x1_S8x128x128x4_d3 : (⟨S8x128x128x4, .i32⟩ : BufTy).Contents (Elt F)))

/-- The function of the operation that writes `main_v140`, named. It packs its operands into a list of dependent pairs
    whose shapes a later argument's type mentions, so `simp` cannot rewrite an operand where it stands; applied by
    name, the operands are plain arguments, which the window lemmas below rewrite before the name unfolds. -/
def fn_main_v140 : (main_v136 : Ref sig .tc).ty.Contents (Elt F) → (main_v137 : Ref sig .tc).ty.Contents (Elt F) → (main_v138 : Ref sig .tc).ty.Contents (Elt F) → (main_v139 : Ref sig .tc).ty.Contents (Elt F) → (main_v140 : Ref sig .tc).ty.Contents (Elt F) :=
  (fun u0 u1 u2 u3 => (concatenate S8x128x128x4 3 [⟨S8x128x128x1, (u0 : (⟨S8x128x128x1, .i32⟩ : BufTy).Contents (Elt F))⟩, ⟨S8x128x128x1, (u1 : (⟨S8x128x128x1, .i32⟩ : BufTy).Contents (Elt F))⟩, ⟨S8x128x128x1, (u2 : (⟨S8x128x128x1, .i32⟩ : BufTy).Contents (Elt F))⟩, ⟨S8x128x128x1, (u3 : (⟨S8x128x128x1, .i32⟩ : BufTy).Contents (Elt F))⟩] concatenates_S8x128x128x1_S8x128x128x1_S8x128x128x1_S8x128x128x1_S8x128x128x4_d3 : (⟨S8x128x128x4, .i32⟩ : BufTy).Contents (Elt F)))

/-- The function of the operation that writes `main_v181`, named. It packs its operands into a list of dependent pairs
    whose shapes a later argument's type mentions, so `simp` cannot rewrite an operand where it stands; applied by
    name, the operands are plain arguments, which the window lemmas below rewrite before the name unfolds. -/
def fn_main_v181 : (main_v177 : Ref sig .tc).ty.Contents (Elt F) → (main_v178 : Ref sig .tc).ty.Contents (Elt F) → (main_v179 : Ref sig .tc).ty.Contents (Elt F) → (main_v180 : Ref sig .tc).ty.Contents (Elt F) → (main_v181 : Ref sig .tc).ty.Contents (Elt F) :=
  (fun u0 u1 u2 u3 => (concatenate S8x128x128x4 3 [⟨S8x128x128x1, (u0 : (⟨S8x128x128x1, .i32⟩ : BufTy).Contents (Elt F))⟩, ⟨S8x128x128x1, (u1 : (⟨S8x128x128x1, .i32⟩ : BufTy).Contents (Elt F))⟩, ⟨S8x128x128x1, (u2 : (⟨S8x128x128x1, .i32⟩ : BufTy).Contents (Elt F))⟩, ⟨S8x128x128x1, (u3 : (⟨S8x128x128x1, .i32⟩ : BufTy).Contents (Elt F))⟩] concatenates_S8x128x128x1_S8x128x128x1_S8x128x128x1_S8x128x128x1_S8x128x128x4_d3 : (⟨S8x128x128x4, .i32⟩ : BufTy).Contents (Elt F)))

/-- The function of the operation that writes `main_v222`, named. It packs its operands into a list of dependent pairs
    whose shapes a later argument's type mentions, so `simp` cannot rewrite an operand where it stands; applied by
    name, the operands are plain arguments, which the window lemmas below rewrite before the name unfolds. -/
def fn_main_v222 : (main_v218 : Ref sig .tc).ty.Contents (Elt F) → (main_v219 : Ref sig .tc).ty.Contents (Elt F) → (main_v220 : Ref sig .tc).ty.Contents (Elt F) → (main_v221 : Ref sig .tc).ty.Contents (Elt F) → (main_v222 : Ref sig .tc).ty.Contents (Elt F) :=
  (fun u0 u1 u2 u3 => (concatenate S8x128x128x4 3 [⟨S8x128x128x1, (u0 : (⟨S8x128x128x1, .i32⟩ : BufTy).Contents (Elt F))⟩, ⟨S8x128x128x1, (u1 : (⟨S8x128x128x1, .i32⟩ : BufTy).Contents (Elt F))⟩, ⟨S8x128x128x1, (u2 : (⟨S8x128x128x1, .i32⟩ : BufTy).Contents (Elt F))⟩, ⟨S8x128x128x1, (u3 : (⟨S8x128x128x1, .i32⟩ : BufTy).Contents (Elt F))⟩] concatenates_S8x128x128x1_S8x128x128x1_S8x128x128x1_S8x128x128x1_S8x128x128x4_d3 : (⟨S8x128x128x4, .i32⟩ : BufTy).Contents (Elt F)))

/-- @main's operations 1 … 30 of 335 (window `main_part0`). -/
abbrev ops_part0_0 : List (HloOp τ sig (Elt F)) :=
  [ nullary main_cst (constant S_ .f32 0x00000000#32),
    unary main_cst main_v2 (broadcastInDim S8x1x128x128 ![] bcast_S_S8x1x128x128 : (⟨S_, .f32⟩ : BufTy).Contents (Elt F) → (⟨S8x1x128x128, .f32⟩ : BufTy).Contents (Elt F)),
    binary main_arg0 main_v2 main_v3 (subf : (⟨S8x1x128x128, .f32⟩ : BufTy).Contents (Elt F) → (⟨S8x1x128x128, .f32⟩ : BufTy).Contents (Elt F) → (⟨S8x1x128x128, .f32⟩ : BufTy).Contents (Elt F)),
    nullary main_cst_0 (constant S_ .f32 0x3F800000#32),
    unary main_cst_0 main_v4 (broadcastInDim S8x1x128x128 ![] bcast_S_S8x1x128x128 : (⟨S_, .f32⟩ : BufTy).Contents (Elt F) → (⟨S8x1x128x128, .f32⟩ : BufTy).Contents (Elt F)),
    binary main_v3 main_v4 main_v5 (Host.divf : (⟨S8x1x128x128, .f32⟩ : BufTy).Contents (Elt F) → (⟨S8x1x128x128, .f32⟩ : BufTy).Contents (Elt F) → (⟨S8x1x128x128, .f32⟩ : BufTy).Contents (Elt F)),
    nullary main_cst_1 (constant S_ .f32 0x42FE0000#32),
    unary main_cst_1 main_v6 (broadcastInDim S8x1x128x128 ![] bcast_S_S8x1x128x128 : (⟨S_, .f32⟩ : BufTy).Contents (Elt F) → (⟨S8x1x128x128, .f32⟩ : BufTy).Contents (Elt F)),
    binary main_v5 main_v6 main_v7 (mulf : (⟨S8x1x128x128, .f32⟩ : BufTy).Contents (Elt F) → (⟨S8x1x128x128, .f32⟩ : BufTy).Contents (Elt F) → (⟨S8x1x128x128, .f32⟩ : BufTy).Contents (Elt F)),
    unary main_v7 main_v8 (fptosi 32 : (⟨S8x1x128x128, .f32⟩ : BufTy).Contents (Elt F) → (⟨S8x1x128x128, .i32⟩ : BufTy).Contents (Elt F)),
    nullary main_c (constantI S_ 32 0#32),
    nullary main_c_2 (constantI S_ 32 127#32),
    TRef.unary (TRef.of (T := ⟨S_, .i32⟩) main_c) (TRef.of (T := ⟨S_, .i32⟩) main_call2_v0) id,
    TRef.unary (TRef.of (T := ⟨S_, .i32⟩) main_call2_v0) (TRef.of (T := ⟨S8x1x128x128, .i32⟩) main_call2_v1) (broadcastInDim S8x1x128x128 ![] bcast_S_S8x1x128x128),
    TRef.binary (TRef.of (T := ⟨S8x1x128x128, .i32⟩) main_call2_v1) (TRef.of (T := ⟨S8x1x128x128, .i32⟩) main_v8) (TRef.of (T := ⟨S8x1x128x128, .i32⟩) main_call2_v2) maxsi,
    TRef.unary (TRef.of (T := ⟨S_, .i32⟩) main_c_2) (TRef.of (T := ⟨S_, .i32⟩) main_call2_v3) id,
    TRef.unary (TRef.of (T := ⟨S_, .i32⟩) main_call2_v3) (TRef.of (T := ⟨S8x1x128x128, .i32⟩) main_call2_v4) (broadcastInDim S8x1x128x128 ![] bcast_S_S8x1x128x128),
    TRef.binary (TRef.of (T := ⟨S8x1x128x128, .i32⟩) main_call2_v4) (TRef.of (T := ⟨S8x1x128x128, .i32⟩) main_call2_v2) (TRef.of (T := ⟨S8x1x128x128, .i32⟩) main_v9) minsi,
    reshape main_v9 main_v10 (rfl : (.i32 : EltTy) = .i32) shapeCasts_S8x1x128x128_S8x128x128,
    reshape main_arg1 main_v11 (rfl : (.f32 : EltTy) = .f32) shapeCasts_S8x1x128x128_S8x128x128,
    nullary main_cst_3 (constant S_ .f32 0x00000000#32),
    unary main_cst_3 main_v12 (broadcastInDim S8x128x128x128 ![] bcast_S_S8x128x128x128 : (⟨S_, .f32⟩ : BufTy).Contents (Elt F) → (⟨S8x128x128x128, .f32⟩ : BufTy).Contents (Elt F)),
    nullary main_v13 (iotaInDim S8 32 0),
    unary main_v13 main_v14 (broadcastInDim S8x1x1 ![0] bcast_S8_S8x1x1_0 : (⟨S8, .i32⟩ : BufTy).Contents (Elt F) → (⟨S8x1x1, .i32⟩ : BufTy).Contents (Elt F)),
    nullary main_v15 (iotaInDim S128 32 0),
    unary main_v15 main_v16 (broadcastInDim S1x128x1 ![1] bcast_S128_S1x128x1_1 : (⟨S128, .i32⟩ : BufTy).Contents (Elt F) → (⟨S1x128x1, .i32⟩ : BufTy).Contents (Elt F)),
    nullary main_v17 (iotaInDim S128 32 0),
    unary main_v17 main_v18 (broadcastInDim S1x1x128 ![2] bcast_S128_S1x1x128_2 : (⟨S128, .i32⟩ : BufTy).Contents (Elt F) → (⟨S1x1x128, .i32⟩ : BufTy).Contents (Elt F)),
    nullary main_c_4 (constantI S_ 32 4294967294#32),
    unary main_c_4 main_v19 (broadcastInDim S8x128x128 ![] bcast_S_S8x128x128 : (⟨S_, .i32⟩ : BufTy).Contents (Elt F) → (⟨S8x128x128, .i32⟩ : BufTy).Contents (Elt F)) ]

/-- @main's operations 31 … 60 of 335 (window `main_part0`). -/
abbrev ops_part0_1 : List (HloOp τ sig (Elt F)) :=
  [ binary main_v10 main_v19 main_v20 (addi : (⟨S8x128x128, .i32⟩ : BufTy).Contents (Elt F) → (⟨S8x128x128, .i32⟩ : BufTy).Contents (Elt F) → (⟨S8x128x128, .i32⟩ : BufTy).Contents (Elt F)),
    nullary main_c_5 (constantI S_ 32 0#32),
    unary main_c_5 main_v21 (broadcastInDim S8x128x128 ![] bcast_S_S8x128x128 : (⟨S_, .i32⟩ : BufTy).Contents (Elt F) → (⟨S8x128x128, .i32⟩ : BufTy).Contents (Elt F)),
    binary main_v20 main_v21 main_v22 (cmpi .sge : (⟨S8x128x128, .i32⟩ : BufTy).Contents (Elt F) → (⟨S8x128x128, .i32⟩ : BufTy).Contents (Elt F) → (⟨S8x128x128, .i1⟩ : BufTy).Contents (Elt F)),
    nullary main_c_6 (constantI S_ 32 128#32),
    unary main_c_6 main_v23 (broadcastInDim S8x128x128 ![] bcast_S_S8x128x128 : (⟨S_, .i32⟩ : BufTy).Contents (Elt F) → (⟨S8x128x128, .i32⟩ : BufTy).Contents (Elt F)),
    binary main_v20 main_v23 main_v24 (cmpi .slt : (⟨S8x128x128, .i32⟩ : BufTy).Contents (Elt F) → (⟨S8x128x128, .i32⟩ : BufTy).Contents (Elt F) → (⟨S8x128x128, .i1⟩ : BufTy).Contents (Elt F)),
    binary main_v22 main_v24 main_v25 (andi : (⟨S8x128x128, .i1⟩ : BufTy).Contents (Elt F) → (⟨S8x128x128, .i1⟩ : BufTy).Contents (Elt F) → (⟨S8x128x128, .i1⟩ : BufTy).Contents (Elt F)),
    nullary main_cst_7 (constant S_ .f32 0x3E0A9555#32),
    unary main_cst_7 main_v26 (broadcastInDim S8x128x128 ![] bcast_S_S8x128x128 : (⟨S_, .f32⟩ : BufTy).Contents (Elt F) → (⟨S8x128x128, .f32⟩ : BufTy).Contents (Elt F)),
    binary main_v11 main_v26 main_v27 (mulf : (⟨S8x128x128, .f32⟩ : BufTy).Contents (Elt F) → (⟨S8x128x128, .f32⟩ : BufTy).Contents (Elt F) → (⟨S8x128x128, .f32⟩ : BufTy).Contents (Elt F)),
    unary main_v25 main_v28 (uitofp .f32 : (⟨S8x128x128, .i1⟩ : BufTy).Contents (Elt F) → (⟨S8x128x128, .f32⟩ : BufTy).Contents (Elt F)),
    binary main_v27 main_v28 main_v29 (mulf : (⟨S8x128x128, .f32⟩ : BufTy).Contents (Elt F) → (⟨S8x128x128, .f32⟩ : BufTy).Contents (Elt F) → (⟨S8x128x128, .f32⟩ : BufTy).Contents (Elt F)),
    nullary main_c_8 (constantI S_ 32 0#32),
    nullary main_c_9 (constantI S_ 32 127#32),
    TRef.unary (TRef.of (T := ⟨S_, .i32⟩) main_c_8) (TRef.of (T := ⟨S_, .i32⟩) main_call3_v0) id,
    TRef.unary (TRef.of (T := ⟨S_, .i32⟩) main_call3_v0) (TRef.of (T := ⟨S8x128x128, .i32⟩) main_call3_v1) (broadcastInDim S8x128x128 ![] bcast_S_S8x128x128),
    TRef.binary (TRef.of (T := ⟨S8x128x128, .i32⟩) main_call3_v1) (TRef.of (T := ⟨S8x128x128, .i32⟩) main_v20) (TRef.of (T := ⟨S8x128x128, .i32⟩) main_call3_v2) maxsi,
    TRef.unary (TRef.of (T := ⟨S_, .i32⟩) main_c_9) (TRef.of (T := ⟨S_, .i32⟩) main_call3_v3) id,
    TRef.unary (TRef.of (T := ⟨S_, .i32⟩) main_call3_v3) (TRef.of (T := ⟨S8x128x128, .i32⟩) main_call3_v4) (broadcastInDim S8x128x128 ![] bcast_S_S8x128x128),
    TRef.binary (TRef.of (T := ⟨S8x128x128, .i32⟩) main_call3_v4) (TRef.of (T := ⟨S8x128x128, .i32⟩) main_call3_v2) (TRef.of (T := ⟨S8x128x128, .i32⟩) main_v30) minsi,
    nullary main_c_10 (constantI S_ 32 0#32),
    unary main_c_10 main_v31 (broadcastInDim S8x1x1 ![] bcast_S_S8x1x1 : (⟨S_, .i32⟩ : BufTy).Contents (Elt F) → (⟨S8x1x1, .i32⟩ : BufTy).Contents (Elt F)),
    binary main_v14 main_v31 main_v32 (cmpi .slt : (⟨S8x1x1, .i32⟩ : BufTy).Contents (Elt F) → (⟨S8x1x1, .i32⟩ : BufTy).Contents (Elt F) → (⟨S8x1x1, .i1⟩ : BufTy).Contents (Elt F)),
    nullary main_c_11 (constantI S_ 32 8#32),
    unary main_c_11 main_v33 (broadcastInDim S8x1x1 ![] bcast_S_S8x1x1 : (⟨S_, .i32⟩ : BufTy).Contents (Elt F) → (⟨S8x1x1, .i32⟩ : BufTy).Contents (Elt F)),
    binary main_v14 main_v33 main_v34 (addi : (⟨S8x1x1, .i32⟩ : BufTy).Contents (Elt F) → (⟨S8x1x1, .i32⟩ : BufTy).Contents (Elt F) → (⟨S8x1x1, .i32⟩ : BufTy).Contents (Elt F)),
    ternary main_v32 main_v34 main_v14 main_v35 (select : (⟨S8x1x1, .i1⟩ : BufTy).Contents (Elt F) → (⟨S8x1x1, .i32⟩ : BufTy).Contents (Elt F) → (⟨S8x1x1, .i32⟩ : BufTy).Contents (Elt F) → (⟨S8x1x1, .i32⟩ : BufTy).Contents (Elt F)),
    nullary main_c_12 (constantI S_ 32 0#32),
    unary main_c_12 main_v36 (broadcastInDim S8x128x128 ![] bcast_S_S8x128x128 : (⟨S_, .i32⟩ : BufTy).Contents (Elt F) → (⟨S8x128x128, .i32⟩ : BufTy).Contents (Elt F)) ]

/-- @main's operations 61 … 68 of 335 (window `main_part0`). -/
abbrev ops_part0_2 : List (HloOp τ sig (Elt F)) :=
  [ binary main_v30 main_v36 main_v37 (cmpi .slt : (⟨S8x128x128, .i32⟩ : BufTy).Contents (Elt F) → (⟨S8x128x128, .i32⟩ : BufTy).Contents (Elt F) → (⟨S8x128x128, .i1⟩ : BufTy).Contents (Elt F)),
    nullary main_c_13 (constantI S_ 32 128#32),
    unary main_c_13 main_v38 (broadcastInDim S8x128x128 ![] bcast_S_S8x128x128 : (⟨S_, .i32⟩ : BufTy).Contents (Elt F) → (⟨S8x128x128, .i32⟩ : BufTy).Contents (Elt F)),
    binary main_v30 main_v38 main_v39 (addi : (⟨S8x128x128, .i32⟩ : BufTy).Contents (Elt F) → (⟨S8x128x128, .i32⟩ : BufTy).Contents (Elt F) → (⟨S8x128x128, .i32⟩ : BufTy).Contents (Elt F)),
    ternary main_v37 main_v39 main_v30 main_v40 (select : (⟨S8x128x128, .i1⟩ : BufTy).Contents (Elt F) → (⟨S8x128x128, .i32⟩ : BufTy).Contents (Elt F) → (⟨S8x128x128, .i32⟩ : BufTy).Contents (Elt F) → (⟨S8x128x128, .i32⟩ : BufTy).Contents (Elt F)),
    nullary main_c_14 (constantI S_ 32 0#32),
    unary main_c_14 main_v41 (broadcastInDim S1x128x1 ![] bcast_S_S1x128x1 : (⟨S_, .i32⟩ : BufTy).Contents (Elt F) → (⟨S1x128x1, .i32⟩ : BufTy).Contents (Elt F)),
    binary main_v16 main_v41 main_v42 (cmpi .slt : (⟨S1x128x1, .i32⟩ : BufTy).Contents (Elt F) → (⟨S1x128x1, .i32⟩ : BufTy).Contents (Elt F) → (⟨S1x128x1, .i1⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2))

/-- @main's operations 69 … 98 of 335 (window `main_part1`). -/
abbrev ops_part1_0 : List (HloOp τ sig (Elt F)) :=
  [ nullary main_c_15 (constantI S_ 32 128#32),
    unary main_c_15 main_v43 (broadcastInDim S1x128x1 ![] bcast_S_S1x128x1 : (⟨S_, .i32⟩ : BufTy).Contents (Elt F) → (⟨S1x128x1, .i32⟩ : BufTy).Contents (Elt F)),
    binary main_v16 main_v43 main_v44 (addi : (⟨S1x128x1, .i32⟩ : BufTy).Contents (Elt F) → (⟨S1x128x1, .i32⟩ : BufTy).Contents (Elt F) → (⟨S1x128x1, .i32⟩ : BufTy).Contents (Elt F)),
    ternary main_v42 main_v44 main_v16 main_v45 (select : (⟨S1x128x1, .i1⟩ : BufTy).Contents (Elt F) → (⟨S1x128x1, .i32⟩ : BufTy).Contents (Elt F) → (⟨S1x128x1, .i32⟩ : BufTy).Contents (Elt F) → (⟨S1x128x1, .i32⟩ : BufTy).Contents (Elt F)),
    nullary main_c_16 (constantI S_ 32 0#32),
    unary main_c_16 main_v46 (broadcastInDim S1x1x128 ![] bcast_S_S1x1x128 : (⟨S_, .i32⟩ : BufTy).Contents (Elt F) → (⟨S1x1x128, .i32⟩ : BufTy).Contents (Elt F)),
    binary main_v18 main_v46 main_v47 (cmpi .slt : (⟨S1x1x128, .i32⟩ : BufTy).Contents (Elt F) → (⟨S1x1x128, .i32⟩ : BufTy).Contents (Elt F) → (⟨S1x1x128, .i1⟩ : BufTy).Contents (Elt F)),
    nullary main_c_17 (constantI S_ 32 128#32),
    unary main_c_17 main_v48 (broadcastInDim S1x1x128 ![] bcast_S_S1x1x128 : (⟨S_, .i32⟩ : BufTy).Contents (Elt F) → (⟨S1x1x128, .i32⟩ : BufTy).Contents (Elt F)),
    binary main_v18 main_v48 main_v49 (addi : (⟨S1x1x128, .i32⟩ : BufTy).Contents (Elt F) → (⟨S1x1x128, .i32⟩ : BufTy).Contents (Elt F) → (⟨S1x1x128, .i32⟩ : BufTy).Contents (Elt F)),
    ternary main_v47 main_v49 main_v18 main_v50 (select : (⟨S1x1x128, .i1⟩ : BufTy).Contents (Elt F) → (⟨S1x1x128, .i32⟩ : BufTy).Contents (Elt F) → (⟨S1x1x128, .i32⟩ : BufTy).Contents (Elt F) → (⟨S1x1x128, .i32⟩ : BufTy).Contents (Elt F)),
    unary main_v35 main_v51 (broadcastInDim S8x128x128 ![0, 1, 2] bcast_S8x1x1_S8x128x128_0_1_2 : (⟨S8x1x1, .i32⟩ : BufTy).Contents (Elt F) → (⟨S8x128x128, .i32⟩ : BufTy).Contents (Elt F)),
    unary main_v45 main_v52 (broadcastInDim S8x128x128 ![0, 1, 2] bcast_S1x128x1_S8x128x128_0_1_2 : (⟨S1x128x1, .i32⟩ : BufTy).Contents (Elt F) → (⟨S8x128x128, .i32⟩ : BufTy).Contents (Elt F)),
    unary main_v50 main_v53 (broadcastInDim S8x128x128 ![0, 1, 2] bcast_S1x1x128_S8x128x128_0_1_2 : (⟨S1x1x128, .i32⟩ : BufTy).Contents (Elt F) → (⟨S8x128x128, .i32⟩ : BufTy).Contents (Elt F)),
    unary main_v51 main_v54 (broadcastInDim S8x128x128x1 ![0, 1, 2] bcast_S8x128x128_S8x128x128x1_0_1_2 : (⟨S8x128x128, .i32⟩ : BufTy).Contents (Elt F) → (⟨S8x128x128x1, .i32⟩ : BufTy).Contents (Elt F)),
    unary main_v40 main_v55 (broadcastInDim S8x128x128x1 ![0, 1, 2] bcast_S8x128x128_S8x128x128x1_0_1_2 : (⟨S8x128x128, .i32⟩ : BufTy).Contents (Elt F) → (⟨S8x128x128x1, .i32⟩ : BufTy).Contents (Elt F)),
    unary main_v52 main_v56 (broadcastInDim S8x128x128x1 ![0, 1, 2] bcast_S8x128x128_S8x128x128x1_0_1_2 : (⟨S8x128x128, .i32⟩ : BufTy).Contents (Elt F) → (⟨S8x128x128x1, .i32⟩ : BufTy).Contents (Elt F)),
    unary main_v53 main_v57 (broadcastInDim S8x128x128x1 ![0, 1, 2] bcast_S8x128x128_S8x128x128x1_0_1_2 : (⟨S8x128x128, .i32⟩ : BufTy).Contents (Elt F) → (⟨S8x128x128x1, .i32⟩ : BufTy).Contents (Elt F)),
    nary ![main_v54, main_v55, main_v56, main_v57] main_v58 (fun u => fn_main_v58 (F := F) (u 0) (u 1) (u 2) (u 3)),
    ternary main_v12 main_v58 main_v29 main_v59 ((fun x i u => Host.scatterAdd scatter_S8x128x128x128_S8x128x128x4_S8x128x128_n_0123_0123_3 x i u) : (⟨S8x128x128x128, .f32⟩ : BufTy).Contents (Elt F) → (⟨S8x128x128x4, .i32⟩ : BufTy).Contents (Elt F) → (⟨S8x128x128, .f32⟩ : BufTy).Contents (Elt F) → (⟨S8x128x128x128, .f32⟩ : BufTy).Contents (Elt F)),
    nullary main_c_18 (constantI S_ 32 4294967295#32),
    unary main_c_18 main_v60 (broadcastInDim S8x128x128 ![] bcast_S_S8x128x128 : (⟨S_, .i32⟩ : BufTy).Contents (Elt F) → (⟨S8x128x128, .i32⟩ : BufTy).Contents (Elt F)),
    binary main_v10 main_v60 main_v61 (addi : (⟨S8x128x128, .i32⟩ : BufTy).Contents (Elt F) → (⟨S8x128x128, .i32⟩ : BufTy).Contents (Elt F) → (⟨S8x128x128, .i32⟩ : BufTy).Contents (Elt F)),
    nullary main_c_19 (constantI S_ 32 0#32),
    unary main_c_19 main_v62 (broadcastInDim S8x128x128 ![] bcast_S_S8x128x128 : (⟨S_, .i32⟩ : BufTy).Contents (Elt F) → (⟨S8x128x128, .i32⟩ : BufTy).Contents (Elt F)),
    binary main_v61 main_v62 main_v63 (cmpi .sge : (⟨S8x128x128, .i32⟩ : BufTy).Contents (Elt F) → (⟨S8x128x128, .i32⟩ : BufTy).Contents (Elt F) → (⟨S8x128x128, .i1⟩ : BufTy).Contents (Elt F)),
    nullary main_c_20 (constantI S_ 32 128#32),
    unary main_c_20 main_v64 (broadcastInDim S8x128x128 ![] bcast_S_S8x128x128 : (⟨S_, .i32⟩ : BufTy).Contents (Elt F) → (⟨S8x128x128, .i32⟩ : BufTy).Contents (Elt F)),
    binary main_v61 main_v64 main_v65 (cmpi .slt : (⟨S8x128x128, .i32⟩ : BufTy).Contents (Elt F) → (⟨S8x128x128, .i32⟩ : BufTy).Contents (Elt F) → (⟨S8x128x128, .i1⟩ : BufTy).Contents (Elt F)),
    binary main_v63 main_v65 main_v66 (andi : (⟨S8x128x128, .i1⟩ : BufTy).Contents (Elt F) → (⟨S8x128x128, .i1⟩ : BufTy).Contents (Elt F) → (⟨S8x128x128, .i1⟩ : BufTy).Contents (Elt F)) ]

/-- @main's operations 99 … 128 of 335 (window `main_part1`). -/
abbrev ops_part1_1 : List (HloOp τ sig (Elt F)) :=
  [ nullary main_cst_21 (constant S_ .f32 0x3F1B4598#32),
    unary main_cst_21 main_v67 (broadcastInDim S8x128x128 ![] bcast_S_S8x128x128 : (⟨S_, .f32⟩ : BufTy).Contents (Elt F) → (⟨S8x128x128, .f32⟩ : BufTy).Contents (Elt F)),
    binary main_v11 main_v67 main_v68 (mulf : (⟨S8x128x128, .f32⟩ : BufTy).Contents (Elt F) → (⟨S8x128x128, .f32⟩ : BufTy).Contents (Elt F) → (⟨S8x128x128, .f32⟩ : BufTy).Contents (Elt F)),
    unary main_v66 main_v69 (uitofp .f32 : (⟨S8x128x128, .i1⟩ : BufTy).Contents (Elt F) → (⟨S8x128x128, .f32⟩ : BufTy).Contents (Elt F)),
    binary main_v68 main_v69 main_v70 (mulf : (⟨S8x128x128, .f32⟩ : BufTy).Contents (Elt F) → (⟨S8x128x128, .f32⟩ : BufTy).Contents (Elt F) → (⟨S8x128x128, .f32⟩ : BufTy).Contents (Elt F)),
    nullary main_c_22 (constantI S_ 32 0#32),
    nullary main_c_23 (constantI S_ 32 127#32),
    TRef.unary (TRef.of (T := ⟨S_, .i32⟩) main_c_22) (TRef.of (T := ⟨S_, .i32⟩) main_call4_v0) id,
    TRef.unary (TRef.of (T := ⟨S_, .i32⟩) main_call4_v0) (TRef.of (T := ⟨S8x128x128, .i32⟩) main_call4_v1) (broadcastInDim S8x128x128 ![] bcast_S_S8x128x128),
    TRef.binary (TRef.of (T := ⟨S8x128x128, .i32⟩) main_call4_v1) (TRef.of (T := ⟨S8x128x128, .i32⟩) main_v61) (TRef.of (T := ⟨S8x128x128, .i32⟩) main_call4_v2) maxsi,
    TRef.unary (TRef.of (T := ⟨S_, .i32⟩) main_c_23) (TRef.of (T := ⟨S_, .i32⟩) main_call4_v3) id,
    TRef.unary (TRef.of (T := ⟨S_, .i32⟩) main_call4_v3) (TRef.of (T := ⟨S8x128x128, .i32⟩) main_call4_v4) (broadcastInDim S8x128x128 ![] bcast_S_S8x128x128),
    TRef.binary (TRef.of (T := ⟨S8x128x128, .i32⟩) main_call4_v4) (TRef.of (T := ⟨S8x128x128, .i32⟩) main_call4_v2) (TRef.of (T := ⟨S8x128x128, .i32⟩) main_v71) minsi,
    nullary main_c_24 (constantI S_ 32 0#32),
    unary main_c_24 main_v72 (broadcastInDim S8x1x1 ![] bcast_S_S8x1x1 : (⟨S_, .i32⟩ : BufTy).Contents (Elt F) → (⟨S8x1x1, .i32⟩ : BufTy).Contents (Elt F)),
    binary main_v14 main_v72 main_v73 (cmpi .slt : (⟨S8x1x1, .i32⟩ : BufTy).Contents (Elt F) → (⟨S8x1x1, .i32⟩ : BufTy).Contents (Elt F) → (⟨S8x1x1, .i1⟩ : BufTy).Contents (Elt F)),
    nullary main_c_25 (constantI S_ 32 8#32),
    unary main_c_25 main_v74 (broadcastInDim S8x1x1 ![] bcast_S_S8x1x1 : (⟨S_, .i32⟩ : BufTy).Contents (Elt F) → (⟨S8x1x1, .i32⟩ : BufTy).Contents (Elt F)),
    binary main_v14 main_v74 main_v75 (addi : (⟨S8x1x1, .i32⟩ : BufTy).Contents (Elt F) → (⟨S8x1x1, .i32⟩ : BufTy).Contents (Elt F) → (⟨S8x1x1, .i32⟩ : BufTy).Contents (Elt F)),
    ternary main_v73 main_v75 main_v14 main_v76 (select : (⟨S8x1x1, .i1⟩ : BufTy).Contents (Elt F) → (⟨S8x1x1, .i32⟩ : BufTy).Contents (Elt F) → (⟨S8x1x1, .i32⟩ : BufTy).Contents (Elt F) → (⟨S8x1x1, .i32⟩ : BufTy).Contents (Elt F)),
    nullary main_c_26 (constantI S_ 32 0#32),
    unary main_c_26 main_v77 (broadcastInDim S8x128x128 ![] bcast_S_S8x128x128 : (⟨S_, .i32⟩ : BufTy).Contents (Elt F) → (⟨S8x128x128, .i32⟩ : BufTy).Contents (Elt F)),
    binary main_v71 main_v77 main_v78 (cmpi .slt : (⟨S8x128x128, .i32⟩ : BufTy).Contents (Elt F) → (⟨S8x128x128, .i32⟩ : BufTy).Contents (Elt F) → (⟨S8x128x128, .i1⟩ : BufTy).Contents (Elt F)),
    nullary main_c_27 (constantI S_ 32 128#32),
    unary main_c_27 main_v79 (broadcastInDim S8x128x128 ![] bcast_S_S8x128x128 : (⟨S_, .i32⟩ : BufTy).Contents (Elt F) → (⟨S8x128x128, .i32⟩ : BufTy).Contents (Elt F)),
    binary main_v71 main_v79 main_v80 (addi : (⟨S8x128x128, .i32⟩ : BufTy).Contents (Elt F) → (⟨S8x128x128, .i32⟩ : BufTy).Contents (Elt F) → (⟨S8x128x128, .i32⟩ : BufTy).Contents (Elt F)),
    ternary main_v78 main_v80 main_v71 main_v81 (select : (⟨S8x128x128, .i1⟩ : BufTy).Contents (Elt F) → (⟨S8x128x128, .i32⟩ : BufTy).Contents (Elt F) → (⟨S8x128x128, .i32⟩ : BufTy).Contents (Elt F) → (⟨S8x128x128, .i32⟩ : BufTy).Contents (Elt F)),
    nullary main_c_28 (constantI S_ 32 0#32),
    unary main_c_28 main_v82 (broadcastInDim S1x128x1 ![] bcast_S_S1x128x1 : (⟨S_, .i32⟩ : BufTy).Contents (Elt F) → (⟨S1x128x1, .i32⟩ : BufTy).Contents (Elt F)),
    binary main_v16 main_v82 main_v83 (cmpi .slt : (⟨S1x128x1, .i32⟩ : BufTy).Contents (Elt F) → (⟨S1x128x1, .i32⟩ : BufTy).Contents (Elt F) → (⟨S1x128x1, .i1⟩ : BufTy).Contents (Elt F)) ]

/-- @main's operations 129 … 133 of 335 (window `main_part1`). -/
abbrev ops_part1_2 : List (HloOp τ sig (Elt F)) :=
  [ nullary main_c_29 (constantI S_ 32 128#32),
    unary main_c_29 main_v84 (broadcastInDim S1x128x1 ![] bcast_S_S1x128x1 : (⟨S_, .i32⟩ : BufTy).Contents (Elt F) → (⟨S1x128x1, .i32⟩ : BufTy).Contents (Elt F)),
    binary main_v16 main_v84 main_v85 (addi : (⟨S1x128x1, .i32⟩ : BufTy).Contents (Elt F) → (⟨S1x128x1, .i32⟩ : BufTy).Contents (Elt F) → (⟨S1x128x1, .i32⟩ : BufTy).Contents (Elt F)),
    ternary main_v83 main_v85 main_v16 main_v86 (select : (⟨S1x128x1, .i1⟩ : BufTy).Contents (Elt F) → (⟨S1x128x1, .i32⟩ : BufTy).Contents (Elt F) → (⟨S1x128x1, .i32⟩ : BufTy).Contents (Elt F) → (⟨S1x128x1, .i32⟩ : BufTy).Contents (Elt F)),
    nullary main_c_30 (constantI S_ 32 0#32) ]

/-- Window `main_part1`'s operations. Not an abbreviation: `main_eq` below splits `ops` into the windows and no further. -/
def ops_part1 : List (HloOp τ sig (Elt F)) :=
  ops_part1_0 ++ (ops_part1_1 ++ (ops_part1_2))

/-- @main's operations 134 … 163 of 335 (window `main_part2`). -/
abbrev ops_part2_0 : List (HloOp τ sig (Elt F)) :=
  [ unary main_c_30 main_v87 (broadcastInDim S1x1x128 ![] bcast_S_S1x1x128 : (⟨S_, .i32⟩ : BufTy).Contents (Elt F) → (⟨S1x1x128, .i32⟩ : BufTy).Contents (Elt F)),
    binary main_v18 main_v87 main_v88 (cmpi .slt : (⟨S1x1x128, .i32⟩ : BufTy).Contents (Elt F) → (⟨S1x1x128, .i32⟩ : BufTy).Contents (Elt F) → (⟨S1x1x128, .i1⟩ : BufTy).Contents (Elt F)),
    nullary main_c_31 (constantI S_ 32 128#32),
    unary main_c_31 main_v89 (broadcastInDim S1x1x128 ![] bcast_S_S1x1x128 : (⟨S_, .i32⟩ : BufTy).Contents (Elt F) → (⟨S1x1x128, .i32⟩ : BufTy).Contents (Elt F)),
    binary main_v18 main_v89 main_v90 (addi : (⟨S1x1x128, .i32⟩ : BufTy).Contents (Elt F) → (⟨S1x1x128, .i32⟩ : BufTy).Contents (Elt F) → (⟨S1x1x128, .i32⟩ : BufTy).Contents (Elt F)),
    ternary main_v88 main_v90 main_v18 main_v91 (select : (⟨S1x1x128, .i1⟩ : BufTy).Contents (Elt F) → (⟨S1x1x128, .i32⟩ : BufTy).Contents (Elt F) → (⟨S1x1x128, .i32⟩ : BufTy).Contents (Elt F) → (⟨S1x1x128, .i32⟩ : BufTy).Contents (Elt F)),
    unary main_v76 main_v92 (broadcastInDim S8x128x128 ![0, 1, 2] bcast_S8x1x1_S8x128x128_0_1_2 : (⟨S8x1x1, .i32⟩ : BufTy).Contents (Elt F) → (⟨S8x128x128, .i32⟩ : BufTy).Contents (Elt F)),
    unary main_v86 main_v93 (broadcastInDim S8x128x128 ![0, 1, 2] bcast_S1x128x1_S8x128x128_0_1_2 : (⟨S1x128x1, .i32⟩ : BufTy).Contents (Elt F) → (⟨S8x128x128, .i32⟩ : BufTy).Contents (Elt F)),
    unary main_v91 main_v94 (broadcastInDim S8x128x128 ![0, 1, 2] bcast_S1x1x128_S8x128x128_0_1_2 : (⟨S1x1x128, .i32⟩ : BufTy).Contents (Elt F) → (⟨S8x128x128, .i32⟩ : BufTy).Contents (Elt F)),
    unary main_v92 main_v95 (broadcastInDim S8x128x128x1 ![0, 1, 2] bcast_S8x128x128_S8x128x128x1_0_1_2 : (⟨S8x128x128, .i32⟩ : BufTy).Contents (Elt F) → (⟨S8x128x128x1, .i32⟩ : BufTy).Contents (Elt F)),
    unary main_v81 main_v96 (broadcastInDim S8x128x128x1 ![0, 1, 2] bcast_S8x128x128_S8x128x128x1_0_1_2 : (⟨S8x128x128, .i32⟩ : BufTy).Contents (Elt F) → (⟨S8x128x128x1, .i32⟩ : BufTy).Contents (Elt F)),
    unary main_v93 main_v97 (broadcastInDim S8x128x128x1 ![0, 1, 2] bcast_S8x128x128_S8x128x128x1_0_1_2 : (⟨S8x128x128, .i32⟩ : BufTy).Contents (Elt F) → (⟨S8x128x128x1, .i32⟩ : BufTy).Contents (Elt F)),
    unary main_v94 main_v98 (broadcastInDim S8x128x128x1 ![0, 1, 2] bcast_S8x128x128_S8x128x128x1_0_1_2 : (⟨S8x128x128, .i32⟩ : BufTy).Contents (Elt F) → (⟨S8x128x128x1, .i32⟩ : BufTy).Contents (Elt F)),
    nary ![main_v95, main_v96, main_v97, main_v98] main_v99 (fun u => fn_main_v99 (F := F) (u 0) (u 1) (u 2) (u 3)),
    ternary main_v59 main_v99 main_v70 main_v100 ((fun x i u => Host.scatterAdd scatter_S8x128x128x128_S8x128x128x4_S8x128x128_n_0123_0123_3 x i u) : (⟨S8x128x128x128, .f32⟩ : BufTy).Contents (Elt F) → (⟨S8x128x128x4, .i32⟩ : BufTy).Contents (Elt F) → (⟨S8x128x128, .f32⟩ : BufTy).Contents (Elt F) → (⟨S8x128x128x128, .f32⟩ : BufTy).Contents (Elt F)),
    nullary main_c_32 (constantI S_ 32 0#32),
    unary main_c_32 main_v101 (broadcastInDim S8x128x128 ![] bcast_S_S8x128x128 : (⟨S_, .i32⟩ : BufTy).Contents (Elt F) → (⟨S8x128x128, .i32⟩ : BufTy).Contents (Elt F)),
    binary main_v10 main_v101 main_v102 (addi : (⟨S8x128x128, .i32⟩ : BufTy).Contents (Elt F) → (⟨S8x128x128, .i32⟩ : BufTy).Contents (Elt F) → (⟨S8x128x128, .i32⟩ : BufTy).Contents (Elt F)),
    nullary main_c_33 (constantI S_ 32 0#32),
    unary main_c_33 main_v103 (broadcastInDim S8x128x128 ![] bcast_S_S8x128x128 : (⟨S_, .i32⟩ : BufTy).Contents (Elt F) → (⟨S8x128x128, .i32⟩ : BufTy).Contents (Elt F)),
    binary main_v102 main_v103 main_v104 (cmpi .sge : (⟨S8x128x128, .i32⟩ : BufTy).Contents (Elt F) → (⟨S8x128x128, .i32⟩ : BufTy).Contents (Elt F) → (⟨S8x128x128, .i1⟩ : BufTy).Contents (Elt F)),
    nullary main_c_34 (constantI S_ 32 128#32),
    unary main_c_34 main_v105 (broadcastInDim S8x128x128 ![] bcast_S_S8x128x128 : (⟨S_, .i32⟩ : BufTy).Contents (Elt F) → (⟨S8x128x128, .i32⟩ : BufTy).Contents (Elt F)),
    binary main_v102 main_v105 main_v106 (cmpi .slt : (⟨S8x128x128, .i32⟩ : BufTy).Contents (Elt F) → (⟨S8x128x128, .i32⟩ : BufTy).Contents (Elt F) → (⟨S8x128x128, .i1⟩ : BufTy).Contents (Elt F)),
    binary main_v104 main_v106 main_v107 (andi : (⟨S8x128x128, .i1⟩ : BufTy).Contents (Elt F) → (⟨S8x128x128, .i1⟩ : BufTy).Contents (Elt F) → (⟨S8x128x128, .i1⟩ : BufTy).Contents (Elt F)),
    nullary main_cst_35 (constant S_ .f32 0x3F800000#32),
    unary main_cst_35 main_v108 (broadcastInDim S8x128x128 ![] bcast_S_S8x128x128 : (⟨S_, .f32⟩ : BufTy).Contents (Elt F) → (⟨S8x128x128, .f32⟩ : BufTy).Contents (Elt F)),
    binary main_v11 main_v108 main_v109 (mulf : (⟨S8x128x128, .f32⟩ : BufTy).Contents (Elt F) → (⟨S8x128x128, .f32⟩ : BufTy).Contents (Elt F) → (⟨S8x128x128, .f32⟩ : BufTy).Contents (Elt F)),
    unary main_v107 main_v110 (uitofp .f32 : (⟨S8x128x128, .i1⟩ : BufTy).Contents (Elt F) → (⟨S8x128x128, .f32⟩ : BufTy).Contents (Elt F)),
    binary main_v109 main_v110 main_v111 (mulf : (⟨S8x128x128, .f32⟩ : BufTy).Contents (Elt F) → (⟨S8x128x128, .f32⟩ : BufTy).Contents (Elt F) → (⟨S8x128x128, .f32⟩ : BufTy).Contents (Elt F)) ]

/-- @main's operations 164 … 193 of 335 (window `main_part2`). -/
abbrev ops_part2_1 : List (HloOp τ sig (Elt F)) :=
  [ nullary main_c_36 (constantI S_ 32 0#32),
    nullary main_c_37 (constantI S_ 32 127#32),
    TRef.unary (TRef.of (T := ⟨S_, .i32⟩) main_c_36) (TRef.of (T := ⟨S_, .i32⟩) main_call5_v0) id,
    TRef.unary (TRef.of (T := ⟨S_, .i32⟩) main_call5_v0) (TRef.of (T := ⟨S8x128x128, .i32⟩) main_call5_v1) (broadcastInDim S8x128x128 ![] bcast_S_S8x128x128),
    TRef.binary (TRef.of (T := ⟨S8x128x128, .i32⟩) main_call5_v1) (TRef.of (T := ⟨S8x128x128, .i32⟩) main_v102) (TRef.of (T := ⟨S8x128x128, .i32⟩) main_call5_v2) maxsi,
    TRef.unary (TRef.of (T := ⟨S_, .i32⟩) main_c_37) (TRef.of (T := ⟨S_, .i32⟩) main_call5_v3) id,
    TRef.unary (TRef.of (T := ⟨S_, .i32⟩) main_call5_v3) (TRef.of (T := ⟨S8x128x128, .i32⟩) main_call5_v4) (broadcastInDim S8x128x128 ![] bcast_S_S8x128x128),
    TRef.binary (TRef.of (T := ⟨S8x128x128, .i32⟩) main_call5_v4) (TRef.of (T := ⟨S8x128x128, .i32⟩) main_call5_v2) (TRef.of (T := ⟨S8x128x128, .i32⟩) main_v112) minsi,
    nullary main_c_38 (constantI S_ 32 0#32),
    unary main_c_38 main_v113 (broadcastInDim S8x1x1 ![] bcast_S_S8x1x1 : (⟨S_, .i32⟩ : BufTy).Contents (Elt F) → (⟨S8x1x1, .i32⟩ : BufTy).Contents (Elt F)),
    binary main_v14 main_v113 main_v114 (cmpi .slt : (⟨S8x1x1, .i32⟩ : BufTy).Contents (Elt F) → (⟨S8x1x1, .i32⟩ : BufTy).Contents (Elt F) → (⟨S8x1x1, .i1⟩ : BufTy).Contents (Elt F)),
    nullary main_c_39 (constantI S_ 32 8#32),
    unary main_c_39 main_v115 (broadcastInDim S8x1x1 ![] bcast_S_S8x1x1 : (⟨S_, .i32⟩ : BufTy).Contents (Elt F) → (⟨S8x1x1, .i32⟩ : BufTy).Contents (Elt F)),
    binary main_v14 main_v115 main_v116 (addi : (⟨S8x1x1, .i32⟩ : BufTy).Contents (Elt F) → (⟨S8x1x1, .i32⟩ : BufTy).Contents (Elt F) → (⟨S8x1x1, .i32⟩ : BufTy).Contents (Elt F)),
    ternary main_v114 main_v116 main_v14 main_v117 (select : (⟨S8x1x1, .i1⟩ : BufTy).Contents (Elt F) → (⟨S8x1x1, .i32⟩ : BufTy).Contents (Elt F) → (⟨S8x1x1, .i32⟩ : BufTy).Contents (Elt F) → (⟨S8x1x1, .i32⟩ : BufTy).Contents (Elt F)),
    nullary main_c_40 (constantI S_ 32 0#32),
    unary main_c_40 main_v118 (broadcastInDim S8x128x128 ![] bcast_S_S8x128x128 : (⟨S_, .i32⟩ : BufTy).Contents (Elt F) → (⟨S8x128x128, .i32⟩ : BufTy).Contents (Elt F)),
    binary main_v112 main_v118 main_v119 (cmpi .slt : (⟨S8x128x128, .i32⟩ : BufTy).Contents (Elt F) → (⟨S8x128x128, .i32⟩ : BufTy).Contents (Elt F) → (⟨S8x128x128, .i1⟩ : BufTy).Contents (Elt F)),
    nullary main_c_41 (constantI S_ 32 128#32),
    unary main_c_41 main_v120 (broadcastInDim S8x128x128 ![] bcast_S_S8x128x128 : (⟨S_, .i32⟩ : BufTy).Contents (Elt F) → (⟨S8x128x128, .i32⟩ : BufTy).Contents (Elt F)),
    binary main_v112 main_v120 main_v121 (addi : (⟨S8x128x128, .i32⟩ : BufTy).Contents (Elt F) → (⟨S8x128x128, .i32⟩ : BufTy).Contents (Elt F) → (⟨S8x128x128, .i32⟩ : BufTy).Contents (Elt F)),
    ternary main_v119 main_v121 main_v112 main_v122 (select : (⟨S8x128x128, .i1⟩ : BufTy).Contents (Elt F) → (⟨S8x128x128, .i32⟩ : BufTy).Contents (Elt F) → (⟨S8x128x128, .i32⟩ : BufTy).Contents (Elt F) → (⟨S8x128x128, .i32⟩ : BufTy).Contents (Elt F)),
    nullary main_c_42 (constantI S_ 32 0#32),
    unary main_c_42 main_v123 (broadcastInDim S1x128x1 ![] bcast_S_S1x128x1 : (⟨S_, .i32⟩ : BufTy).Contents (Elt F) → (⟨S1x128x1, .i32⟩ : BufTy).Contents (Elt F)),
    binary main_v16 main_v123 main_v124 (cmpi .slt : (⟨S1x128x1, .i32⟩ : BufTy).Contents (Elt F) → (⟨S1x128x1, .i32⟩ : BufTy).Contents (Elt F) → (⟨S1x128x1, .i1⟩ : BufTy).Contents (Elt F)),
    nullary main_c_43 (constantI S_ 32 128#32),
    unary main_c_43 main_v125 (broadcastInDim S1x128x1 ![] bcast_S_S1x128x1 : (⟨S_, .i32⟩ : BufTy).Contents (Elt F) → (⟨S1x128x1, .i32⟩ : BufTy).Contents (Elt F)),
    binary main_v16 main_v125 main_v126 (addi : (⟨S1x128x1, .i32⟩ : BufTy).Contents (Elt F) → (⟨S1x128x1, .i32⟩ : BufTy).Contents (Elt F) → (⟨S1x128x1, .i32⟩ : BufTy).Contents (Elt F)),
    ternary main_v124 main_v126 main_v16 main_v127 (select : (⟨S1x128x1, .i1⟩ : BufTy).Contents (Elt F) → (⟨S1x128x1, .i32⟩ : BufTy).Contents (Elt F) → (⟨S1x128x1, .i32⟩ : BufTy).Contents (Elt F) → (⟨S1x128x1, .i32⟩ : BufTy).Contents (Elt F)),
    nullary main_c_44 (constantI S_ 32 0#32) ]

/-- @main's operations 194 … 198 of 335 (window `main_part2`). -/
abbrev ops_part2_2 : List (HloOp τ sig (Elt F)) :=
  [ unary main_c_44 main_v128 (broadcastInDim S1x1x128 ![] bcast_S_S1x1x128 : (⟨S_, .i32⟩ : BufTy).Contents (Elt F) → (⟨S1x1x128, .i32⟩ : BufTy).Contents (Elt F)),
    binary main_v18 main_v128 main_v129 (cmpi .slt : (⟨S1x1x128, .i32⟩ : BufTy).Contents (Elt F) → (⟨S1x1x128, .i32⟩ : BufTy).Contents (Elt F) → (⟨S1x1x128, .i1⟩ : BufTy).Contents (Elt F)),
    nullary main_c_45 (constantI S_ 32 128#32),
    unary main_c_45 main_v130 (broadcastInDim S1x1x128 ![] bcast_S_S1x1x128 : (⟨S_, .i32⟩ : BufTy).Contents (Elt F) → (⟨S1x1x128, .i32⟩ : BufTy).Contents (Elt F)),
    binary main_v18 main_v130 main_v131 (addi : (⟨S1x1x128, .i32⟩ : BufTy).Contents (Elt F) → (⟨S1x1x128, .i32⟩ : BufTy).Contents (Elt F) → (⟨S1x1x128, .i32⟩ : BufTy).Contents (Elt F)) ]

/-- Window `main_part2`'s operations. Not an abbreviation: `main_eq` below splits `ops` into the windows and no further. -/
def ops_part2 : List (HloOp τ sig (Elt F)) :=
  ops_part2_0 ++ (ops_part2_1 ++ (ops_part2_2))

/-- @main's operations 199 … 228 of 335 (window `main_part3`). -/
abbrev ops_part3_0 : List (HloOp τ sig (Elt F)) :=
  [ ternary main_v129 main_v131 main_v18 main_v132 (select : (⟨S1x1x128, .i1⟩ : BufTy).Contents (Elt F) → (⟨S1x1x128, .i32⟩ : BufTy).Contents (Elt F) → (⟨S1x1x128, .i32⟩ : BufTy).Contents (Elt F) → (⟨S1x1x128, .i32⟩ : BufTy).Contents (Elt F)),
    unary main_v117 main_v133 (broadcastInDim S8x128x128 ![0, 1, 2] bcast_S8x1x1_S8x128x128_0_1_2 : (⟨S8x1x1, .i32⟩ : BufTy).Contents (Elt F) → (⟨S8x128x128, .i32⟩ : BufTy).Contents (Elt F)),
    unary main_v127 main_v134 (broadcastInDim S8x128x128 ![0, 1, 2] bcast_S1x128x1_S8x128x128_0_1_2 : (⟨S1x128x1, .i32⟩ : BufTy).Contents (Elt F) → (⟨S8x128x128, .i32⟩ : BufTy).Contents (Elt F)),
    unary main_v132 main_v135 (broadcastInDim S8x128x128 ![0, 1, 2] bcast_S1x1x128_S8x128x128_0_1_2 : (⟨S1x1x128, .i32⟩ : BufTy).Contents (Elt F) → (⟨S8x128x128, .i32⟩ : BufTy).Contents (Elt F)),
    unary main_v133 main_v136 (broadcastInDim S8x128x128x1 ![0, 1, 2] bcast_S8x128x128_S8x128x128x1_0_1_2 : (⟨S8x128x128, .i32⟩ : BufTy).Contents (Elt F) → (⟨S8x128x128x1, .i32⟩ : BufTy).Contents (Elt F)),
    unary main_v122 main_v137 (broadcastInDim S8x128x128x1 ![0, 1, 2] bcast_S8x128x128_S8x128x128x1_0_1_2 : (⟨S8x128x128, .i32⟩ : BufTy).Contents (Elt F) → (⟨S8x128x128x1, .i32⟩ : BufTy).Contents (Elt F)),
    unary main_v134 main_v138 (broadcastInDim S8x128x128x1 ![0, 1, 2] bcast_S8x128x128_S8x128x128x1_0_1_2 : (⟨S8x128x128, .i32⟩ : BufTy).Contents (Elt F) → (⟨S8x128x128x1, .i32⟩ : BufTy).Contents (Elt F)),
    unary main_v135 main_v139 (broadcastInDim S8x128x128x1 ![0, 1, 2] bcast_S8x128x128_S8x128x128x1_0_1_2 : (⟨S8x128x128, .i32⟩ : BufTy).Contents (Elt F) → (⟨S8x128x128x1, .i32⟩ : BufTy).Contents (Elt F)),
    nary ![main_v136, main_v137, main_v138, main_v139] main_v140 (fun u => fn_main_v140 (F := F) (u 0) (u 1) (u 2) (u 3)),
    ternary main_v100 main_v140 main_v111 main_v141 ((fun x i u => Host.scatterAdd scatter_S8x128x128x128_S8x128x128x4_S8x128x128_n_0123_0123_3 x i u) : (⟨S8x128x128x128, .f32⟩ : BufTy).Contents (Elt F) → (⟨S8x128x128x4, .i32⟩ : BufTy).Contents (Elt F) → (⟨S8x128x128, .f32⟩ : BufTy).Contents (Elt F) → (⟨S8x128x128x128, .f32⟩ : BufTy).Contents (Elt F)),
    nullary main_c_46 (constantI S_ 32 1#32),
    unary main_c_46 main_v142 (broadcastInDim S8x128x128 ![] bcast_S_S8x128x128 : (⟨S_, .i32⟩ : BufTy).Contents (Elt F) → (⟨S8x128x128, .i32⟩ : BufTy).Contents (Elt F)),
    binary main_v10 main_v142 main_v143 (addi : (⟨S8x128x128, .i32⟩ : BufTy).Contents (Elt F) → (⟨S8x128x128, .i32⟩ : BufTy).Contents (Elt F) → (⟨S8x128x128, .i32⟩ : BufTy).Contents (Elt F)),
    nullary main_c_47 (constantI S_ 32 0#32),
    unary main_c_47 main_v144 (broadcastInDim S8x128x128 ![] bcast_S_S8x128x128 : (⟨S_, .i32⟩ : BufTy).Contents (Elt F) → (⟨S8x128x128, .i32⟩ : BufTy).Contents (Elt F)),
    binary main_v143 main_v144 main_v145 (cmpi .sge : (⟨S8x128x128, .i32⟩ : BufTy).Contents (Elt F) → (⟨S8x128x128, .i32⟩ : BufTy).Contents (Elt F) → (⟨S8x128x128, .i1⟩ : BufTy).Contents (Elt F)),
    nullary main_c_48 (constantI S_ 32 128#32),
    unary main_c_48 main_v146 (broadcastInDim S8x128x128 ![] bcast_S_S8x128x128 : (⟨S_, .i32⟩ : BufTy).Contents (Elt F) → (⟨S8x128x128, .i32⟩ : BufTy).Contents (Elt F)),
    binary main_v143 main_v146 main_v147 (cmpi .slt : (⟨S8x128x128, .i32⟩ : BufTy).Contents (Elt F) → (⟨S8x128x128, .i32⟩ : BufTy).Contents (Elt F) → (⟨S8x128x128, .i1⟩ : BufTy).Contents (Elt F)),
    binary main_v145 main_v147 main_v148 (andi : (⟨S8x128x128, .i1⟩ : BufTy).Contents (Elt F) → (⟨S8x128x128, .i1⟩ : BufTy).Contents (Elt F) → (⟨S8x128x128, .i1⟩ : BufTy).Contents (Elt F)),
    nullary main_cst_49 (constant S_ .f32 0x3F1B4598#32),
    unary main_cst_49 main_v149 (broadcastInDim S8x128x128 ![] bcast_S_S8x128x128 : (⟨S_, .f32⟩ : BufTy).Contents (Elt F) → (⟨S8x128x128, .f32⟩ : BufTy).Contents (Elt F)),
    binary main_v11 main_v149 main_v150 (mulf : (⟨S8x128x128, .f32⟩ : BufTy).Contents (Elt F) → (⟨S8x128x128, .f32⟩ : BufTy).Contents (Elt F) → (⟨S8x128x128, .f32⟩ : BufTy).Contents (Elt F)),
    unary main_v148 main_v151 (uitofp .f32 : (⟨S8x128x128, .i1⟩ : BufTy).Contents (Elt F) → (⟨S8x128x128, .f32⟩ : BufTy).Contents (Elt F)),
    binary main_v150 main_v151 main_v152 (mulf : (⟨S8x128x128, .f32⟩ : BufTy).Contents (Elt F) → (⟨S8x128x128, .f32⟩ : BufTy).Contents (Elt F) → (⟨S8x128x128, .f32⟩ : BufTy).Contents (Elt F)),
    nullary main_c_50 (constantI S_ 32 0#32),
    nullary main_c_51 (constantI S_ 32 127#32),
    TRef.unary (TRef.of (T := ⟨S_, .i32⟩) main_c_50) (TRef.of (T := ⟨S_, .i32⟩) main_call6_v0) id,
    TRef.unary (TRef.of (T := ⟨S_, .i32⟩) main_call6_v0) (TRef.of (T := ⟨S8x128x128, .i32⟩) main_call6_v1) (broadcastInDim S8x128x128 ![] bcast_S_S8x128x128),
    TRef.binary (TRef.of (T := ⟨S8x128x128, .i32⟩) main_call6_v1) (TRef.of (T := ⟨S8x128x128, .i32⟩) main_v143) (TRef.of (T := ⟨S8x128x128, .i32⟩) main_call6_v2) maxsi ]

/-- @main's operations 229 … 258 of 335 (window `main_part3`). -/
abbrev ops_part3_1 : List (HloOp τ sig (Elt F)) :=
  [ TRef.unary (TRef.of (T := ⟨S_, .i32⟩) main_c_51) (TRef.of (T := ⟨S_, .i32⟩) main_call6_v3) id,
    TRef.unary (TRef.of (T := ⟨S_, .i32⟩) main_call6_v3) (TRef.of (T := ⟨S8x128x128, .i32⟩) main_call6_v4) (broadcastInDim S8x128x128 ![] bcast_S_S8x128x128),
    TRef.binary (TRef.of (T := ⟨S8x128x128, .i32⟩) main_call6_v4) (TRef.of (T := ⟨S8x128x128, .i32⟩) main_call6_v2) (TRef.of (T := ⟨S8x128x128, .i32⟩) main_v153) minsi,
    nullary main_c_52 (constantI S_ 32 0#32),
    unary main_c_52 main_v154 (broadcastInDim S8x1x1 ![] bcast_S_S8x1x1 : (⟨S_, .i32⟩ : BufTy).Contents (Elt F) → (⟨S8x1x1, .i32⟩ : BufTy).Contents (Elt F)),
    binary main_v14 main_v154 main_v155 (cmpi .slt : (⟨S8x1x1, .i32⟩ : BufTy).Contents (Elt F) → (⟨S8x1x1, .i32⟩ : BufTy).Contents (Elt F) → (⟨S8x1x1, .i1⟩ : BufTy).Contents (Elt F)),
    nullary main_c_53 (constantI S_ 32 8#32),
    unary main_c_53 main_v156 (broadcastInDim S8x1x1 ![] bcast_S_S8x1x1 : (⟨S_, .i32⟩ : BufTy).Contents (Elt F) → (⟨S8x1x1, .i32⟩ : BufTy).Contents (Elt F)),
    binary main_v14 main_v156 main_v157 (addi : (⟨S8x1x1, .i32⟩ : BufTy).Contents (Elt F) → (⟨S8x1x1, .i32⟩ : BufTy).Contents (Elt F) → (⟨S8x1x1, .i32⟩ : BufTy).Contents (Elt F)),
    ternary main_v155 main_v157 main_v14 main_v158 (select : (⟨S8x1x1, .i1⟩ : BufTy).Contents (Elt F) → (⟨S8x1x1, .i32⟩ : BufTy).Contents (Elt F) → (⟨S8x1x1, .i32⟩ : BufTy).Contents (Elt F) → (⟨S8x1x1, .i32⟩ : BufTy).Contents (Elt F)),
    nullary main_c_54 (constantI S_ 32 0#32),
    unary main_c_54 main_v159 (broadcastInDim S8x128x128 ![] bcast_S_S8x128x128 : (⟨S_, .i32⟩ : BufTy).Contents (Elt F) → (⟨S8x128x128, .i32⟩ : BufTy).Contents (Elt F)),
    binary main_v153 main_v159 main_v160 (cmpi .slt : (⟨S8x128x128, .i32⟩ : BufTy).Contents (Elt F) → (⟨S8x128x128, .i32⟩ : BufTy).Contents (Elt F) → (⟨S8x128x128, .i1⟩ : BufTy).Contents (Elt F)),
    nullary main_c_55 (constantI S_ 32 128#32),
    unary main_c_55 main_v161 (broadcastInDim S8x128x128 ![] bcast_S_S8x128x128 : (⟨S_, .i32⟩ : BufTy).Contents (Elt F) → (⟨S8x128x128, .i32⟩ : BufTy).Contents (Elt F)),
    binary main_v153 main_v161 main_v162 (addi : (⟨S8x128x128, .i32⟩ : BufTy).Contents (Elt F) → (⟨S8x128x128, .i32⟩ : BufTy).Contents (Elt F) → (⟨S8x128x128, .i32⟩ : BufTy).Contents (Elt F)),
    ternary main_v160 main_v162 main_v153 main_v163 (select : (⟨S8x128x128, .i1⟩ : BufTy).Contents (Elt F) → (⟨S8x128x128, .i32⟩ : BufTy).Contents (Elt F) → (⟨S8x128x128, .i32⟩ : BufTy).Contents (Elt F) → (⟨S8x128x128, .i32⟩ : BufTy).Contents (Elt F)),
    nullary main_c_56 (constantI S_ 32 0#32),
    unary main_c_56 main_v164 (broadcastInDim S1x128x1 ![] bcast_S_S1x128x1 : (⟨S_, .i32⟩ : BufTy).Contents (Elt F) → (⟨S1x128x1, .i32⟩ : BufTy).Contents (Elt F)),
    binary main_v16 main_v164 main_v165 (cmpi .slt : (⟨S1x128x1, .i32⟩ : BufTy).Contents (Elt F) → (⟨S1x128x1, .i32⟩ : BufTy).Contents (Elt F) → (⟨S1x128x1, .i1⟩ : BufTy).Contents (Elt F)),
    nullary main_c_57 (constantI S_ 32 128#32),
    unary main_c_57 main_v166 (broadcastInDim S1x128x1 ![] bcast_S_S1x128x1 : (⟨S_, .i32⟩ : BufTy).Contents (Elt F) → (⟨S1x128x1, .i32⟩ : BufTy).Contents (Elt F)),
    binary main_v16 main_v166 main_v167 (addi : (⟨S1x128x1, .i32⟩ : BufTy).Contents (Elt F) → (⟨S1x128x1, .i32⟩ : BufTy).Contents (Elt F) → (⟨S1x128x1, .i32⟩ : BufTy).Contents (Elt F)),
    ternary main_v165 main_v167 main_v16 main_v168 (select : (⟨S1x128x1, .i1⟩ : BufTy).Contents (Elt F) → (⟨S1x128x1, .i32⟩ : BufTy).Contents (Elt F) → (⟨S1x128x1, .i32⟩ : BufTy).Contents (Elt F) → (⟨S1x128x1, .i32⟩ : BufTy).Contents (Elt F)),
    nullary main_c_58 (constantI S_ 32 0#32),
    unary main_c_58 main_v169 (broadcastInDim S1x1x128 ![] bcast_S_S1x1x128 : (⟨S_, .i32⟩ : BufTy).Contents (Elt F) → (⟨S1x1x128, .i32⟩ : BufTy).Contents (Elt F)),
    binary main_v18 main_v169 main_v170 (cmpi .slt : (⟨S1x1x128, .i32⟩ : BufTy).Contents (Elt F) → (⟨S1x1x128, .i32⟩ : BufTy).Contents (Elt F) → (⟨S1x1x128, .i1⟩ : BufTy).Contents (Elt F)),
    nullary main_c_59 (constantI S_ 32 128#32),
    unary main_c_59 main_v171 (broadcastInDim S1x1x128 ![] bcast_S_S1x1x128 : (⟨S_, .i32⟩ : BufTy).Contents (Elt F) → (⟨S1x1x128, .i32⟩ : BufTy).Contents (Elt F)),
    binary main_v18 main_v171 main_v172 (addi : (⟨S1x1x128, .i32⟩ : BufTy).Contents (Elt F) → (⟨S1x1x128, .i32⟩ : BufTy).Contents (Elt F) → (⟨S1x1x128, .i32⟩ : BufTy).Contents (Elt F)) ]

/-- @main's operations 259 … 263 of 335 (window `main_part3`). -/
abbrev ops_part3_2 : List (HloOp τ sig (Elt F)) :=
  [ ternary main_v170 main_v172 main_v18 main_v173 (select : (⟨S1x1x128, .i1⟩ : BufTy).Contents (Elt F) → (⟨S1x1x128, .i32⟩ : BufTy).Contents (Elt F) → (⟨S1x1x128, .i32⟩ : BufTy).Contents (Elt F) → (⟨S1x1x128, .i32⟩ : BufTy).Contents (Elt F)),
    unary main_v158 main_v174 (broadcastInDim S8x128x128 ![0, 1, 2] bcast_S8x1x1_S8x128x128_0_1_2 : (⟨S8x1x1, .i32⟩ : BufTy).Contents (Elt F) → (⟨S8x128x128, .i32⟩ : BufTy).Contents (Elt F)),
    unary main_v168 main_v175 (broadcastInDim S8x128x128 ![0, 1, 2] bcast_S1x128x1_S8x128x128_0_1_2 : (⟨S1x128x1, .i32⟩ : BufTy).Contents (Elt F) → (⟨S8x128x128, .i32⟩ : BufTy).Contents (Elt F)),
    unary main_v173 main_v176 (broadcastInDim S8x128x128 ![0, 1, 2] bcast_S1x1x128_S8x128x128_0_1_2 : (⟨S1x1x128, .i32⟩ : BufTy).Contents (Elt F) → (⟨S8x128x128, .i32⟩ : BufTy).Contents (Elt F)),
    unary main_v174 main_v177 (broadcastInDim S8x128x128x1 ![0, 1, 2] bcast_S8x128x128_S8x128x128x1_0_1_2 : (⟨S8x128x128, .i32⟩ : BufTy).Contents (Elt F) → (⟨S8x128x128x1, .i32⟩ : BufTy).Contents (Elt F)) ]

/-- Window `main_part3`'s operations. Not an abbreviation: `main_eq` below splits `ops` into the windows and no further. -/
def ops_part3 : List (HloOp τ sig (Elt F)) :=
  ops_part3_0 ++ (ops_part3_1 ++ (ops_part3_2))

/-- @main's operations 264 … 293 of 335 (window `main_part4`). -/
abbrev ops_part4_0 : List (HloOp τ sig (Elt F)) :=
  [ unary main_v163 main_v178 (broadcastInDim S8x128x128x1 ![0, 1, 2] bcast_S8x128x128_S8x128x128x1_0_1_2 : (⟨S8x128x128, .i32⟩ : BufTy).Contents (Elt F) → (⟨S8x128x128x1, .i32⟩ : BufTy).Contents (Elt F)),
    unary main_v175 main_v179 (broadcastInDim S8x128x128x1 ![0, 1, 2] bcast_S8x128x128_S8x128x128x1_0_1_2 : (⟨S8x128x128, .i32⟩ : BufTy).Contents (Elt F) → (⟨S8x128x128x1, .i32⟩ : BufTy).Contents (Elt F)),
    unary main_v176 main_v180 (broadcastInDim S8x128x128x1 ![0, 1, 2] bcast_S8x128x128_S8x128x128x1_0_1_2 : (⟨S8x128x128, .i32⟩ : BufTy).Contents (Elt F) → (⟨S8x128x128x1, .i32⟩ : BufTy).Contents (Elt F)),
    nary ![main_v177, main_v178, main_v179, main_v180] main_v181 (fun u => fn_main_v181 (F := F) (u 0) (u 1) (u 2) (u 3)),
    ternary main_v141 main_v181 main_v152 main_v182 ((fun x i u => Host.scatterAdd scatter_S8x128x128x128_S8x128x128x4_S8x128x128_n_0123_0123_3 x i u) : (⟨S8x128x128x128, .f32⟩ : BufTy).Contents (Elt F) → (⟨S8x128x128x4, .i32⟩ : BufTy).Contents (Elt F) → (⟨S8x128x128, .f32⟩ : BufTy).Contents (Elt F) → (⟨S8x128x128x128, .f32⟩ : BufTy).Contents (Elt F)),
    nullary main_c_60 (constantI S_ 32 2#32),
    unary main_c_60 main_v183 (broadcastInDim S8x128x128 ![] bcast_S_S8x128x128 : (⟨S_, .i32⟩ : BufTy).Contents (Elt F) → (⟨S8x128x128, .i32⟩ : BufTy).Contents (Elt F)),
    binary main_v10 main_v183 main_v184 (addi : (⟨S8x128x128, .i32⟩ : BufTy).Contents (Elt F) → (⟨S8x128x128, .i32⟩ : BufTy).Contents (Elt F) → (⟨S8x128x128, .i32⟩ : BufTy).Contents (Elt F)),
    nullary main_c_61 (constantI S_ 32 0#32),
    unary main_c_61 main_v185 (broadcastInDim S8x128x128 ![] bcast_S_S8x128x128 : (⟨S_, .i32⟩ : BufTy).Contents (Elt F) → (⟨S8x128x128, .i32⟩ : BufTy).Contents (Elt F)),
    binary main_v184 main_v185 main_v186 (cmpi .sge : (⟨S8x128x128, .i32⟩ : BufTy).Contents (Elt F) → (⟨S8x128x128, .i32⟩ : BufTy).Contents (Elt F) → (⟨S8x128x128, .i1⟩ : BufTy).Contents (Elt F)),
    nullary main_c_62 (constantI S_ 32 128#32),
    unary main_c_62 main_v187 (broadcastInDim S8x128x128 ![] bcast_S_S8x128x128 : (⟨S_, .i32⟩ : BufTy).Contents (Elt F) → (⟨S8x128x128, .i32⟩ : BufTy).Contents (Elt F)),
    binary main_v184 main_v187 main_v188 (cmpi .slt : (⟨S8x128x128, .i32⟩ : BufTy).Contents (Elt F) → (⟨S8x128x128, .i32⟩ : BufTy).Contents (Elt F) → (⟨S8x128x128, .i1⟩ : BufTy).Contents (Elt F)),
    binary main_v186 main_v188 main_v189 (andi : (⟨S8x128x128, .i1⟩ : BufTy).Contents (Elt F) → (⟨S8x128x128, .i1⟩ : BufTy).Contents (Elt F) → (⟨S8x128x128, .i1⟩ : BufTy).Contents (Elt F)),
    nullary main_cst_63 (constant S_ .f32 0x3E0A9555#32),
    unary main_cst_63 main_v190 (broadcastInDim S8x128x128 ![] bcast_S_S8x128x128 : (⟨S_, .f32⟩ : BufTy).Contents (Elt F) → (⟨S8x128x128, .f32⟩ : BufTy).Contents (Elt F)),
    binary main_v11 main_v190 main_v191 (mulf : (⟨S8x128x128, .f32⟩ : BufTy).Contents (Elt F) → (⟨S8x128x128, .f32⟩ : BufTy).Contents (Elt F) → (⟨S8x128x128, .f32⟩ : BufTy).Contents (Elt F)),
    unary main_v189 main_v192 (uitofp .f32 : (⟨S8x128x128, .i1⟩ : BufTy).Contents (Elt F) → (⟨S8x128x128, .f32⟩ : BufTy).Contents (Elt F)),
    binary main_v191 main_v192 main_v193 (mulf : (⟨S8x128x128, .f32⟩ : BufTy).Contents (Elt F) → (⟨S8x128x128, .f32⟩ : BufTy).Contents (Elt F) → (⟨S8x128x128, .f32⟩ : BufTy).Contents (Elt F)),
    nullary main_c_64 (constantI S_ 32 0#32),
    nullary main_c_65 (constantI S_ 32 127#32),
    TRef.unary (TRef.of (T := ⟨S_, .i32⟩) main_c_64) (TRef.of (T := ⟨S_, .i32⟩) main_call7_v0) id,
    TRef.unary (TRef.of (T := ⟨S_, .i32⟩) main_call7_v0) (TRef.of (T := ⟨S8x128x128, .i32⟩) main_call7_v1) (broadcastInDim S8x128x128 ![] bcast_S_S8x128x128),
    TRef.binary (TRef.of (T := ⟨S8x128x128, .i32⟩) main_call7_v1) (TRef.of (T := ⟨S8x128x128, .i32⟩) main_v184) (TRef.of (T := ⟨S8x128x128, .i32⟩) main_call7_v2) maxsi,
    TRef.unary (TRef.of (T := ⟨S_, .i32⟩) main_c_65) (TRef.of (T := ⟨S_, .i32⟩) main_call7_v3) id,
    TRef.unary (TRef.of (T := ⟨S_, .i32⟩) main_call7_v3) (TRef.of (T := ⟨S8x128x128, .i32⟩) main_call7_v4) (broadcastInDim S8x128x128 ![] bcast_S_S8x128x128),
    TRef.binary (TRef.of (T := ⟨S8x128x128, .i32⟩) main_call7_v4) (TRef.of (T := ⟨S8x128x128, .i32⟩) main_call7_v2) (TRef.of (T := ⟨S8x128x128, .i32⟩) main_v194) minsi,
    nullary main_c_66 (constantI S_ 32 0#32),
    unary main_c_66 main_v195 (broadcastInDim S8x1x1 ![] bcast_S_S8x1x1 : (⟨S_, .i32⟩ : BufTy).Contents (Elt F) → (⟨S8x1x1, .i32⟩ : BufTy).Contents (Elt F)) ]

/-- @main's operations 294 … 323 of 335 (window `main_part4`). -/
abbrev ops_part4_1 : List (HloOp τ sig (Elt F)) :=
  [ binary main_v14 main_v195 main_v196 (cmpi .slt : (⟨S8x1x1, .i32⟩ : BufTy).Contents (Elt F) → (⟨S8x1x1, .i32⟩ : BufTy).Contents (Elt F) → (⟨S8x1x1, .i1⟩ : BufTy).Contents (Elt F)),
    nullary main_c_67 (constantI S_ 32 8#32),
    unary main_c_67 main_v197 (broadcastInDim S8x1x1 ![] bcast_S_S8x1x1 : (⟨S_, .i32⟩ : BufTy).Contents (Elt F) → (⟨S8x1x1, .i32⟩ : BufTy).Contents (Elt F)),
    binary main_v14 main_v197 main_v198 (addi : (⟨S8x1x1, .i32⟩ : BufTy).Contents (Elt F) → (⟨S8x1x1, .i32⟩ : BufTy).Contents (Elt F) → (⟨S8x1x1, .i32⟩ : BufTy).Contents (Elt F)),
    ternary main_v196 main_v198 main_v14 main_v199 (select : (⟨S8x1x1, .i1⟩ : BufTy).Contents (Elt F) → (⟨S8x1x1, .i32⟩ : BufTy).Contents (Elt F) → (⟨S8x1x1, .i32⟩ : BufTy).Contents (Elt F) → (⟨S8x1x1, .i32⟩ : BufTy).Contents (Elt F)),
    nullary main_c_68 (constantI S_ 32 0#32),
    unary main_c_68 main_v200 (broadcastInDim S8x128x128 ![] bcast_S_S8x128x128 : (⟨S_, .i32⟩ : BufTy).Contents (Elt F) → (⟨S8x128x128, .i32⟩ : BufTy).Contents (Elt F)),
    binary main_v194 main_v200 main_v201 (cmpi .slt : (⟨S8x128x128, .i32⟩ : BufTy).Contents (Elt F) → (⟨S8x128x128, .i32⟩ : BufTy).Contents (Elt F) → (⟨S8x128x128, .i1⟩ : BufTy).Contents (Elt F)),
    nullary main_c_69 (constantI S_ 32 128#32),
    unary main_c_69 main_v202 (broadcastInDim S8x128x128 ![] bcast_S_S8x128x128 : (⟨S_, .i32⟩ : BufTy).Contents (Elt F) → (⟨S8x128x128, .i32⟩ : BufTy).Contents (Elt F)),
    binary main_v194 main_v202 main_v203 (addi : (⟨S8x128x128, .i32⟩ : BufTy).Contents (Elt F) → (⟨S8x128x128, .i32⟩ : BufTy).Contents (Elt F) → (⟨S8x128x128, .i32⟩ : BufTy).Contents (Elt F)),
    ternary main_v201 main_v203 main_v194 main_v204 (select : (⟨S8x128x128, .i1⟩ : BufTy).Contents (Elt F) → (⟨S8x128x128, .i32⟩ : BufTy).Contents (Elt F) → (⟨S8x128x128, .i32⟩ : BufTy).Contents (Elt F) → (⟨S8x128x128, .i32⟩ : BufTy).Contents (Elt F)),
    nullary main_c_70 (constantI S_ 32 0#32),
    unary main_c_70 main_v205 (broadcastInDim S1x128x1 ![] bcast_S_S1x128x1 : (⟨S_, .i32⟩ : BufTy).Contents (Elt F) → (⟨S1x128x1, .i32⟩ : BufTy).Contents (Elt F)),
    binary main_v16 main_v205 main_v206 (cmpi .slt : (⟨S1x128x1, .i32⟩ : BufTy).Contents (Elt F) → (⟨S1x128x1, .i32⟩ : BufTy).Contents (Elt F) → (⟨S1x128x1, .i1⟩ : BufTy).Contents (Elt F)),
    nullary main_c_71 (constantI S_ 32 128#32),
    unary main_c_71 main_v207 (broadcastInDim S1x128x1 ![] bcast_S_S1x128x1 : (⟨S_, .i32⟩ : BufTy).Contents (Elt F) → (⟨S1x128x1, .i32⟩ : BufTy).Contents (Elt F)),
    binary main_v16 main_v207 main_v208 (addi : (⟨S1x128x1, .i32⟩ : BufTy).Contents (Elt F) → (⟨S1x128x1, .i32⟩ : BufTy).Contents (Elt F) → (⟨S1x128x1, .i32⟩ : BufTy).Contents (Elt F)),
    ternary main_v206 main_v208 main_v16 main_v209 (select : (⟨S1x128x1, .i1⟩ : BufTy).Contents (Elt F) → (⟨S1x128x1, .i32⟩ : BufTy).Contents (Elt F) → (⟨S1x128x1, .i32⟩ : BufTy).Contents (Elt F) → (⟨S1x128x1, .i32⟩ : BufTy).Contents (Elt F)),
    nullary main_c_72 (constantI S_ 32 0#32),
    unary main_c_72 main_v210 (broadcastInDim S1x1x128 ![] bcast_S_S1x1x128 : (⟨S_, .i32⟩ : BufTy).Contents (Elt F) → (⟨S1x1x128, .i32⟩ : BufTy).Contents (Elt F)),
    binary main_v18 main_v210 main_v211 (cmpi .slt : (⟨S1x1x128, .i32⟩ : BufTy).Contents (Elt F) → (⟨S1x1x128, .i32⟩ : BufTy).Contents (Elt F) → (⟨S1x1x128, .i1⟩ : BufTy).Contents (Elt F)),
    nullary main_c_73 (constantI S_ 32 128#32),
    unary main_c_73 main_v212 (broadcastInDim S1x1x128 ![] bcast_S_S1x1x128 : (⟨S_, .i32⟩ : BufTy).Contents (Elt F) → (⟨S1x1x128, .i32⟩ : BufTy).Contents (Elt F)),
    binary main_v18 main_v212 main_v213 (addi : (⟨S1x1x128, .i32⟩ : BufTy).Contents (Elt F) → (⟨S1x1x128, .i32⟩ : BufTy).Contents (Elt F) → (⟨S1x1x128, .i32⟩ : BufTy).Contents (Elt F)),
    ternary main_v211 main_v213 main_v18 main_v214 (select : (⟨S1x1x128, .i1⟩ : BufTy).Contents (Elt F) → (⟨S1x1x128, .i32⟩ : BufTy).Contents (Elt F) → (⟨S1x1x128, .i32⟩ : BufTy).Contents (Elt F) → (⟨S1x1x128, .i32⟩ : BufTy).Contents (Elt F)),
    unary main_v199 main_v215 (broadcastInDim S8x128x128 ![0, 1, 2] bcast_S8x1x1_S8x128x128_0_1_2 : (⟨S8x1x1, .i32⟩ : BufTy).Contents (Elt F) → (⟨S8x128x128, .i32⟩ : BufTy).Contents (Elt F)),
    unary main_v209 main_v216 (broadcastInDim S8x128x128 ![0, 1, 2] bcast_S1x128x1_S8x128x128_0_1_2 : (⟨S1x128x1, .i32⟩ : BufTy).Contents (Elt F) → (⟨S8x128x128, .i32⟩ : BufTy).Contents (Elt F)),
    unary main_v214 main_v217 (broadcastInDim S8x128x128 ![0, 1, 2] bcast_S1x1x128_S8x128x128_0_1_2 : (⟨S1x1x128, .i32⟩ : BufTy).Contents (Elt F) → (⟨S8x128x128, .i32⟩ : BufTy).Contents (Elt F)),
    unary main_v215 main_v218 (broadcastInDim S8x128x128x1 ![0, 1, 2] bcast_S8x128x128_S8x128x128x1_0_1_2 : (⟨S8x128x128, .i32⟩ : BufTy).Contents (Elt F) → (⟨S8x128x128x1, .i32⟩ : BufTy).Contents (Elt F)) ]

/-- @main's operations 324 … 328 of 335 (window `main_part4`). -/
abbrev ops_part4_2 : List (HloOp τ sig (Elt F)) :=
  [ unary main_v204 main_v219 (broadcastInDim S8x128x128x1 ![0, 1, 2] bcast_S8x128x128_S8x128x128x1_0_1_2 : (⟨S8x128x128, .i32⟩ : BufTy).Contents (Elt F) → (⟨S8x128x128x1, .i32⟩ : BufTy).Contents (Elt F)),
    unary main_v216 main_v220 (broadcastInDim S8x128x128x1 ![0, 1, 2] bcast_S8x128x128_S8x128x128x1_0_1_2 : (⟨S8x128x128, .i32⟩ : BufTy).Contents (Elt F) → (⟨S8x128x128x1, .i32⟩ : BufTy).Contents (Elt F)),
    unary main_v217 main_v221 (broadcastInDim S8x128x128x1 ![0, 1, 2] bcast_S8x128x128_S8x128x128x1_0_1_2 : (⟨S8x128x128, .i32⟩ : BufTy).Contents (Elt F) → (⟨S8x128x128x1, .i32⟩ : BufTy).Contents (Elt F)),
    nary ![main_v218, main_v219, main_v220, main_v221] main_v222 (fun u => fn_main_v222 (F := F) (u 0) (u 1) (u 2) (u 3)),
    ternary main_v182 main_v222 main_v193 main_v223 ((fun x i u => Host.scatterAdd scatter_S8x128x128x128_S8x128x128x4_S8x128x128_n_0123_0123_3 x i u) : (⟨S8x128x128x128, .f32⟩ : BufTy).Contents (Elt F) → (⟨S8x128x128x4, .i32⟩ : BufTy).Contents (Elt F) → (⟨S8x128x128, .f32⟩ : BufTy).Contents (Elt F) → (⟨S8x128x128x128, .f32⟩ : BufTy).Contents (Elt F)) ]

/-- Window `main_part4`'s operations. Not an abbreviation: `main_eq` below splits `ops` into the windows and no further. -/
def ops_part4 : List (HloOp τ sig (Elt F)) :=
  ops_part4_0 ++ (ops_part4_1 ++ (ops_part4_2))

/-- @main's operations 329 … 335 of 335 (window `main_part5`). -/
abbrev ops_part5 : List (HloOp τ sig (Elt F)) :=
  [ unary main_v223 main_v224 (broadcastInDim S8x1x128x128x128 ![0, 2, 3, 4] bcast_S8x128x128x128_S8x1x128x128x128_0_2_3_4 : (⟨S8x128x128x128, .f32⟩ : BufTy).Contents (Elt F) → (⟨S8x1x128x128x128, .f32⟩ : BufTy).Contents (Elt F)),
    nullary main_cst_74 (constant S_ .f32 0x00000000#32),
    unary main_cst_74 main_v225 (broadcastInDim S_ ![] bcast_S_S_ : (⟨S_, .f32⟩ : BufTy).Contents (Elt F) → (⟨S_, .f32⟩ : BufTy).Contents (Elt F)),
    binary main_v224 main_v225 main_v226 ((fun x v => Host.reduceWindowAdd ![1, 1, 3, 3, 3] ![1, 1, 1, 1, 1] ![0, 0, 1, 1, 1] ![0, 0, 1, 1, 1] x v reduceWindows_S8x1x128x128x128_S8x1x128x128x128_w1s1p0_0_w1s1p0_0_w3s1p1_1_w3s1p1_1_w3s1p1_1 h_S_) : (⟨S8x1x128x128x128, .f32⟩ : BufTy).Contents (Elt F) → (⟨S_, .f32⟩ : BufTy).Contents (Elt F) → (⟨S8x1x128x128x128, .f32⟩ : BufTy).Contents (Elt F)),
    nullary main_cst_75 (constant S_ .f32 0x41D80000#32),
    unary main_cst_75 main_v227 (broadcastInDim S8x1x128x128x128 ![] bcast_S_S8x1x128x128x128 : (⟨S_, .f32⟩ : BufTy).Contents (Elt F) → (⟨S8x1x128x128x128, .f32⟩ : BufTy).Contents (Elt F)),
    binary main_v226 main_v227 main_v228 (Host.divf : (⟨S8x1x128x128x128, .f32⟩ : BufTy).Contents (Elt F) → (⟨S8x1x128x128x128, .f32⟩ : BufTy).Contents (Elt F) → (⟨S8x1x128x128x128, .f32⟩ : BufTy).Contents (Elt F)) ]

/-- @main's 335 operations, in order (a called function's operations stand in its call's place, spelt `TRef.…`). -/
abbrev ops : List (HloOp τ sig (Elt F)) :=
  ops_part0 ++ (ops_part1 ++ (ops_part2 ++ (ops_part3 ++ (ops_part4 ++ (ops_part5)))))

set_option maxRecDepth 8192 in
set_option maxHeartbeats 4000000 in
/-- This part of the reference is the sequence of its operations. -/
theorem main_part0_eq (c : Dev nD) : main_part0 (F := F) c = seq ops_part0 := by
  have h0 : ∀ k : Prog (TpuEff nD τ sig (Elt F) (Pipeline.Sig Λ₀ (Fin 0) fun p => (pcfgs (F := F) p).Adm) .tc) PUnit, (fn_resize.body (F := F) (.of main_arg0) main_call0 >>= fun _ => k) = k := fun _ => rfl
  have h1 : ∀ k : Prog (TpuEff nD τ sig (Elt F) (Pipeline.Sig Λ₀ (Fin 0) fun p => (pcfgs (F := F) p).Adm) .tc) PUnit, (fn_resize.body (F := F) (.of main_arg1) main_call1 >>= fun _ => k) = k := fun _ => rfl
  unfold main_part0
  rw [h0, h1]
  rfl
set_option maxRecDepth 8192 in
set_option maxHeartbeats 4000000 in
/-- This part of the reference is the sequence of its operations. -/
theorem main_part1_eq (c : Dev nD) : main_part1 (F := F) c = seq ops_part1 := rfl
set_option maxRecDepth 8192 in
set_option maxHeartbeats 4000000 in
/-- This part of the reference is the sequence of its operations. -/
theorem main_part2_eq (c : Dev nD) : main_part2 (F := F) c = seq ops_part2 := rfl
set_option maxRecDepth 8192 in
set_option maxHeartbeats 4000000 in
/-- This part of the reference is the sequence of its operations. -/
theorem main_part3_eq (c : Dev nD) : main_part3 (F := F) c = seq ops_part3 := rfl
set_option maxRecDepth 8192 in
set_option maxHeartbeats 4000000 in
/-- This part of the reference is the sequence of its operations. -/
theorem main_part4_eq (c : Dev nD) : main_part4 (F := F) c = seq ops_part4 := rfl
set_option maxRecDepth 8192 in
/-- This part of the reference is the sequence of its operations. -/
theorem main_part5_eq (c : Dev nD) : main_part5 (F := F) c = seq ops_part5 := rfl
set_option maxRecDepth 8192 in
/-- The reference is the sequence of its operations. -/
theorem main_eq (c : Dev nD) : main (F := F) c = seq ops := by
  simp only [ops, seq_append, ← main_part0_eq c, ← main_part1_eq c, ← main_part2_eq c, ← main_part3_eq c, ← main_part4_eq c, ← main_part5_eq c]
  rfl
/-- The reference has no scoped buffers. -/
theorem scopedRefs_eq : (Finset.univ.filter fun b : Ref sig .tc => b.isScoped) = ∅ := by decide
/-- The reference has no scoped semaphores. -/
theorem scopedSems_eq : (Finset.univ.filter fun sm : SemLoc sig => sm.isScoped .tc) = ∅ := by decide
set_option maxRecDepth 8192 in
/-- Every buffer that these operations use is one of the program's. -/
theorem ops_part0_0_sub : (ops_part0_0 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., reshape_bufs_sub .., reshape_bufs_sub .., nullary_bufs_sub .., unary_bufs_sub .., nullary_bufs_sub .., unary_bufs_sub .., nullary_bufs_sub .., unary_bufs_sub .., nullary_bufs_sub .., unary_bufs_sub .., nullary_bufs_sub .., unary_bufs_sub ..⟩
set_option maxRecDepth 8192 in
/-- These operations allocate no buffer. -/
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- Every buffer that these operations use is one of the program's. -/
theorem ops_part0_1_sub : (ops_part0_1 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub ..⟩
set_option maxRecDepth 8192 in
/-- These operations allocate no buffer. -/
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- Every buffer that these operations use is one of the program's. -/
theorem ops_part0_2_sub : (ops_part0_2 : List (HloOp τ sig (Elt F))).Forall fun op => op.bufs ⊆ tcRefs τ sig :=
  ⟨binary_bufs_sub .., nullary_bufs_sub .., unary_bufs_sub .., binary_bufs_sub .., ternary_bufs_sub .., nullary_bufs_sub .., unary_bufs_sub .., binary_bufs_sub ..⟩
set_option maxRecDepth 8192 in
/-- These operations allocate no buffer. -/
theorem ops_part0_2_fresh : (ops_part0_2 : List (HloOp τ sig (Elt F))).Forall fun op => op.fresh = ∅ :=
  ⟨rfl, rfl, rfl, rfl, rfl, rfl, rfl, rfl⟩
set_option maxRecDepth 8192 in
/-- Every buffer that these operations use is one of the program's. -/
theorem ops_part1_0_sub : (ops_part1_0 : List (HloOp τ sig (Elt F))).Forall fun op => op.bufs ⊆ tcRefs τ sig :=
  ⟨nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., unary_bufs_sub .., unary_bufs_sub .., unary_bufs_sub .., nary_bufs_sub .., ternary_bufs_sub .., nullary_bufs_sub .., unary_bufs_sub .., binary_bufs_sub .., nullary_bufs_sub .., unary_bufs_sub .., binary_bufs_sub .., nullary_bufs_sub .., unary_bufs_sub .., binary_bufs_sub .., binary_bufs_sub ..⟩
set_option maxRecDepth 8192 in
/-- These operations allocate no buffer. -/
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- Every buffer that these operations use is one of the program's. -/
theorem ops_part1_1_sub : (ops_part1_1 : List (HloOp τ sig (Elt F))).Forall fun op => op.bufs ⊆ tcRefs τ sig :=
  ⟨nullary_bufs_sub .., unary_bufs_sub .., binary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub ..⟩
set_option maxRecDepth 8192 in
/-- These operations allocate no buffer. -/
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- Every buffer that these operations use is one of the program's. -/
theorem ops_part1_2_sub : (ops_part1_2 : List (HloOp τ sig (Elt F))).Forall fun op => op.bufs ⊆ tcRefs τ sig :=
  ⟨nullary_bufs_sub .., unary_bufs_sub .., binary_bufs_sub .., ternary_bufs_sub .., nullary_bufs_sub ..⟩
set_option maxRecDepth 8192 in
/-- These operations allocate no buffer. -/
theorem ops_part1_2_fresh : (ops_part1_2 : List (HloOp τ sig (Elt F))).Forall fun op => op.fresh = ∅ :=
  ⟨rfl, rfl, rfl, rfl, rfl⟩
set_option maxRecDepth 8192 in
/-- Every buffer that these operations use is one of the program's. -/
theorem ops_part2_0_sub : (ops_part2_0 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., unary_bufs_sub .., unary_bufs_sub .., unary_bufs_sub .., unary_bufs_sub .., unary_bufs_sub .., unary_bufs_sub .., nary_bufs_sub .., ternary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., binary_bufs_sub ..⟩
set_option maxRecDepth 8192 in
/-- These operations allocate no buffer. -/
theorem ops_part2_0_fresh : (ops_part2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- Every buffer that these operations use is one of the program's. -/
theorem ops_part2_1_sub : (ops_part2_1 : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub ..⟩
set_option maxRecDepth 8192 in
/-- These operations allocate no buffer. -/
theorem ops_part2_1_fresh : (ops_part2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- Every buffer that these operations use is one of the program's. -/
theorem ops_part2_2_sub : (ops_part2_2 : List (HloOp τ sig (Elt F))).Forall fun op => op.bufs ⊆ tcRefs τ sig :=
  ⟨unary_bufs_sub .., binary_bufs_sub .., nullary_bufs_sub .., unary_bufs_sub .., binary_bufs_sub ..⟩
set_option maxRecDepth 8192 in
/-- These operations allocate no buffer. -/
theorem ops_part2_2_fresh : (ops_part2_2 : List (HloOp τ sig (Elt F))).Forall fun op => op.fresh = ∅ :=
  ⟨rfl, rfl, rfl, rfl, rfl⟩
set_option maxRecDepth 8192 in
/-- Every buffer that these operations use is one of the program's. -/
theorem ops_part3_0_sub : (ops_part3_0 : List (HloOp τ sig (Elt F))).Forall fun op => op.bufs ⊆ tcRefs τ sig :=
  ⟨ternary_bufs_sub .., unary_bufs_sub .., unary_bufs_sub .., unary_bufs_sub .., unary_bufs_sub .., unary_bufs_sub .., unary_bufs_sub .., unary_bufs_sub .., nary_bufs_sub .., ternary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., binary_bufs_sub .., nullary_bufs_sub .., nullary_bufs_sub .., unary_bufs_sub .., unary_bufs_sub .., binary_bufs_sub ..⟩
set_option maxRecDepth 8192 in
/-- These operations allocate no buffer. -/
theorem ops_part3_0_fresh : (ops_part3_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- Every buffer that these operations use is one of the program's. -/
theorem ops_part3_1_sub : (ops_part3_1 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub ..⟩
set_option maxRecDepth 8192 in
/-- These operations allocate no buffer. -/
theorem ops_part3_1_fresh : (ops_part3_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- Every buffer that these operations use is one of the program's. -/
theorem ops_part3_2_sub : (ops_part3_2 : List (HloOp τ sig (Elt F))).Forall fun op => op.bufs ⊆ tcRefs τ sig :=
  ⟨ternary_bufs_sub .., unary_bufs_sub .., unary_bufs_sub .., unary_bufs_sub .., unary_bufs_sub ..⟩
set_option maxRecDepth 8192 in
/-- These operations allocate no buffer. -/
theorem ops_part3_2_fresh : (ops_part3_2 : List (HloOp τ sig (Elt F))).Forall fun op => op.fresh = ∅ :=
  ⟨rfl, rfl, rfl, rfl, rfl⟩
set_option maxRecDepth 8192 in
/-- Every buffer that these operations use is one of the program's. -/
theorem ops_part4_0_sub : (ops_part4_0 : List (HloOp τ sig (Elt F))).Forall fun op => op.bufs ⊆ tcRefs τ sig :=
  ⟨unary_bufs_sub .., unary_bufs_sub .., unary_bufs_sub .., nary_bufs_sub .., ternary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub ..⟩
set_option maxRecDepth 8192 in
/-- These operations allocate no buffer. -/
theorem ops_part4_0_fresh : (ops_part4_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- Every buffer that these operations use is one of the program's. -/
theorem ops_part4_1_sub : (ops_part4_1 : List (HloOp τ sig (Elt F))).Forall fun op => op.bufs ⊆ tcRefs τ sig :=
  ⟨binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub ..⟩
set_option maxRecDepth 8192 in
/-- These operations allocate no buffer. -/
theorem ops_part4_1_fresh : (ops_part4_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- Every buffer that these operations use is one of the program's. -/
theorem ops_part4_2_sub : (ops_part4_2 : List (HloOp τ sig (Elt F))).Forall fun op => op.bufs ⊆ tcRefs τ sig :=
  ⟨unary_bufs_sub .., unary_bufs_sub .., unary_bufs_sub .., nary_bufs_sub .., ternary_bufs_sub ..⟩
set_option maxRecDepth 8192 in
/-- These operations allocate no buffer. -/
theorem ops_part4_2_fresh : (ops_part4_2 : List (HloOp τ sig (Elt F))).Forall fun op => op.fresh = ∅ :=
  ⟨rfl, rfl, rfl, rfl, rfl⟩
set_option maxRecDepth 8192 in
/-- Every buffer that these operations use is one of the program's. -/
theorem ops_part5_sub : (ops_part5 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub ..⟩
set_option maxRecDepth 8192 in
/-- These operations allocate no buffer. -/
theorem ops_part5_fresh : (ops_part5 : List (HloOp τ sig (Elt F))).Forall fun op => op.fresh = ∅ :=
  ⟨rfl, rfl, rfl, rfl, rfl, rfl, rfl⟩
/-- Every buffer that these operations use is one of the program's. -/
theorem ops_sub : (ops : List (HloOp τ sig (Elt F))).Forall fun op => op.bufs ⊆ tcRefs τ sig :=
  List.forall_iff_forall_mem.mpr fun op h => by
    simp only [ops, ops_part0, ops_part1, ops_part2, ops_part3, ops_part4, List.mem_append, or_assoc] at h
    rcases h with h | h | h | h | h | h | h | h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_0_sub op h, List.forall_iff_forall_mem.mp ops_part1_1_sub op h, List.forall_iff_forall_mem.mp ops_part1_2_sub op h, List.forall_iff_forall_mem.mp ops_part2_0_sub op h, List.forall_iff_forall_mem.mp ops_part2_1_sub op h, List.forall_iff_forall_mem.mp ops_part2_2_sub op h, List.forall_iff_forall_mem.mp ops_part3_0_sub op h, List.forall_iff_forall_mem.mp ops_part3_1_sub op h, List.forall_iff_forall_mem.mp ops_part3_2_sub op h, List.forall_iff_forall_mem.mp ops_part4_0_sub op h, List.forall_iff_forall_mem.mp ops_part4_1_sub op h, List.forall_iff_forall_mem.mp ops_part4_2_sub op h, List.forall_iff_forall_mem.mp ops_part5_sub op h]
/-- These operations allocate no buffer. -/
theorem ops_fresh : ∀ op ∈ (ops : List (HloOp τ sig (Elt F))), op.fresh = ∅ := fun op h => by
    simp only [ops, ops_part0, ops_part1, ops_part2, ops_part3, ops_part4, List.mem_append, or_assoc] at h
    rcases h with h | h | h | h | h | h | h | h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_0_fresh op h, List.forall_iff_forall_mem.mp ops_part1_1_fresh op h, List.forall_iff_forall_mem.mp ops_part1_2_fresh op h, List.forall_iff_forall_mem.mp ops_part2_0_fresh op h, List.forall_iff_forall_mem.mp ops_part2_1_fresh op h, List.forall_iff_forall_mem.mp ops_part2_2_fresh op h, List.forall_iff_forall_mem.mp ops_part3_0_fresh op h, List.forall_iff_forall_mem.mp ops_part3_1_fresh op h, List.forall_iff_forall_mem.mp ops_part3_2_fresh op h, List.forall_iff_forall_mem.mp ops_part4_0_fresh op h, List.forall_iff_forall_mem.mp ops_part4_1_fresh op h, List.forall_iff_forall_mem.mp ops_part4_2_fresh op h, List.forall_iff_forall_mem.mp ops_part5_fresh op h]

end Cert.ReferenceIdeal.Run

end
-- ==== Proof.RefVal.lean ====
module

public import proofs.«01_k».proof.Proof.RefOps

/-! The buffers' contents after the first windows of the reference's operations, as terms of the arguments. -/

@[expose] public section

set_option Elab.async false

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- `main_v10`'s composed term of the arguments (named: it is used 5 times). -/
def res_main_v10 (V0 : Valuation τ sig (Elt F)) : (Proc.devRef .tc main_v10 : DevRef τ sig).ty.Contents (Elt F) :=
  shapeCast _ (minsi (broadcastInDim S8x1x128x128 ![] bcast_S_S8x1x128x128 (id (constantI S_ 32 127#32))) (maxsi (broadcastInDim S8x1x128x128 ![] bcast_S_S8x1x128x128 (id (constantI S_ 32 0#32))) (fptosi 32 (mulf (Host.divf (subf (V0 (Proc.devRef .tc main_arg0)) (broadcastInDim S8x1x128x128 ![] bcast_S_S8x1x128x128 (constant S_ .f32 0x00000000#32))) (broadcastInDim S8x1x128x128 ![] bcast_S_S8x1x128x128 (constant S_ .f32 0x3F800000#32))) (broadcastInDim S8x1x128x128 ![] bcast_S_S8x1x128x128 (constant S_ .f32 0x42FE0000#32)))))) shapeCasts_S8x1x128x128_S8x128x128

set_option maxRecDepth 8192 in
/-- `main_v11`'s composed term of the arguments (named: it is used 5 times). -/
def res_main_v11 (V0 : Valuation τ sig (Elt F)) : (Proc.devRef .tc main_v11 : DevRef τ sig).ty.Contents (Elt F) :=
  shapeCast _ (V0 (Proc.devRef .tc main_arg1)) shapeCasts_S8x1x128x128_S8x128x128

set_option maxRecDepth 8192 in
/-- `main_v14`'s composed term of the arguments (named: it is used 15 times). -/
def res_main_v14 (V0 : Valuation τ sig (Elt F)) : (Proc.devRef .tc main_v14 : DevRef τ sig).ty.Contents (Elt F) :=
  broadcastInDim S8x1x1 ![0] bcast_S8_S8x1x1_0 (iotaInDim S8 32 0)

set_option maxRecDepth 8192 in
/-- `main_v16`'s composed term of the arguments (named: it is used 15 times). -/
def res_main_v16 (V0 : Valuation τ sig (Elt F)) : (Proc.devRef .tc main_v16 : DevRef τ sig).ty.Contents (Elt F) :=
  broadcastInDim S1x128x1 ![1] bcast_S128_S1x128x1_1 (iotaInDim S128 32 0)

set_option maxRecDepth 8192 in
/-- `main_v18`'s composed term of the arguments (named: it is used 15 times). -/
def res_main_v18 (V0 : Valuation τ sig (Elt F)) : (Proc.devRef .tc main_v18 : DevRef τ sig).ty.Contents (Elt F) :=
  broadcastInDim S1x1x128 ![2] bcast_S128_S1x1x128_2 (iotaInDim S128 32 0)

set_option maxRecDepth 8192 in
/-- `main_v20`'s composed term of the arguments (named: it is used 3 times). -/
def res_main_v20 (V0 : Valuation τ sig (Elt F)) : (Proc.devRef .tc main_v20 : DevRef τ sig).ty.Contents (Elt F) :=
  addi (res_main_v10 V0) (broadcastInDim S8x128x128 ![] bcast_S_S8x128x128 (constantI S_ 32 4294967294#32))

set_option maxRecDepth 8192 in
/-- `main_v30`'s composed term of the arguments (named: it is used 3 times). -/
def res_main_v30 (V0 : Valuation τ sig (Elt F)) : (Proc.devRef .tc main_v30 : DevRef τ sig).ty.Contents (Elt F) :=
  minsi (broadcastInDim S8x128x128 ![] bcast_S_S8x128x128 (id (constantI S_ 32 127#32))) (maxsi (broadcastInDim S8x128x128 ![] bcast_S_S8x128x128 (id (constantI S_ 32 0#32))) (res_main_v20 V0))

set_option maxRecDepth 8192 in
/-- `main_v61`'s composed term of the arguments (named: it is used 3 times). -/
def res_main_v61 (V0 : Valuation τ sig (Elt F)) : (Proc.devRef .tc main_v61 : DevRef τ sig).ty.Contents (Elt F) :=
  addi (res_main_v10 V0) (broadcastInDim S8x128x128 ![] bcast_S_S8x128x128 (constantI S_ 32 4294967295#32))

set_option maxRecDepth 8192 in
/-- `main_v71`'s composed term of the arguments (named: it is used 3 times). -/
def res_main_v71 (V0 : Valuation τ sig (Elt F)) : (Proc.devRef .tc main_v71 : DevRef τ sig).ty.Contents (Elt F) :=
  minsi (broadcastInDim S8x128x128 ![] bcast_S_S8x128x128 (id (constantI S_ 32 127#32))) (maxsi (broadcastInDim S8x128x128 ![] bcast_S_S8x128x128 (id (constantI S_ 32 0#32))) (res_main_v61 V0))

set_option maxRecDepth 8192 in
/-- `main_v100`'s composed term of the arguments (named: it is long). -/
def res_main_v100 (V0 : Valuation τ sig (Elt F)) : (Proc.devRef .tc main_v100 : DevRef τ sig).ty.Contents (Elt F) :=
  Host.scatterAdd scatter_S8x128x128x128_S8x128x128x4_S8x128x128_n_0123_0123_3 (Host.scatterAdd scatter_S8x128x128x128_S8x128x128x4_S8x128x128_n_0123_0123_3 (broadcastInDim S8x128x128x128 ![] bcast_S_S8x128x128x128 (constant S_ .f32 0x00000000#32)) ((concatenate S8x128x128x4 3 [⟨S8x128x128x1, ((broadcastInDim S8x128x128x1 ![0, 1, 2] bcast_S8x128x128_S8x128x128x1_0_1_2 (broadcastInDim S8x128x128 ![0, 1, 2] bcast_S8x1x1_S8x128x128_0_1_2 (select (cmpi .slt (res_main_v14 V0) (broadcastInDim S8x1x1 ![] bcast_S_S8x1x1 (constantI S_ 32 0#32))) (addi (res_main_v14 V0) (broadcastInDim S8x1x1 ![] bcast_S_S8x1x1 (constantI S_ 32 8#32))) (res_main_v14 V0)))) : (⟨S8x128x128x1, .i32⟩ : BufTy).Contents (Elt F))⟩, ⟨S8x128x128x1, ((broadcastInDim S8x128x128x1 ![0, 1, 2] bcast_S8x128x128_S8x128x128x1_0_1_2 (select (cmpi .slt (res_main_v30 V0) (broadcastInDim S8x128x128 ![] bcast_S_S8x128x128 (constantI S_ 32 0#32))) (addi (res_main_v30 V0) (broadcastInDim S8x128x128 ![] bcast_S_S8x128x128 (constantI S_ 32 128#32))) (res_main_v30 V0))) : (⟨S8x128x128x1, .i32⟩ : BufTy).Contents (Elt F))⟩, ⟨S8x128x128x1, ((broadcastInDim S8x128x128x1 ![0, 1, 2] bcast_S8x128x128_S8x128x128x1_0_1_2 (broadcastInDim S8x128x128 ![0, 1, 2] bcast_S1x128x1_S8x128x128_0_1_2 (select (cmpi .slt (res_main_v16 V0) (broadcastInDim S1x128x1 ![] bcast_S_S1x128x1 (constantI S_ 32 0#32))) (addi (res_main_v16 V0) (broadcastInDim S1x128x1 ![] bcast_S_S1x128x1 (constantI S_ 32 128#32))) (res_main_v16 V0)))) : (⟨S8x128x128x1, .i32⟩ : BufTy).Contents (Elt F))⟩, ⟨S8x128x128x1, ((broadcastInDim S8x128x128x1 ![0, 1, 2] bcast_S8x128x128_S8x128x128x1_0_1_2 (broadcastInDim S8x128x128 ![0, 1, 2] bcast_S1x1x128_S8x128x128_0_1_2 (select (cmpi .slt (res_main_v18 V0) (broadcastInDim S1x1x128 ![] bcast_S_S1x1x128 (constantI S_ 32 0#32))) (addi (res_main_v18 V0) (broadcastInDim S1x1x128 ![] bcast_S_S1x1x128 (constantI S_ 32 128#32))) (res_main_v18 V0)))) : (⟨S8x128x128x1, .i32⟩ : BufTy).Contents (Elt F))⟩] concatenates_S8x128x128x1_S8x128x128x1_S8x128x128x1_S8x128x128x1_S8x128x128x4_d3 : (⟨S8x128x128x4, .i32⟩ : BufTy).Contents (Elt F))) (mulf (mulf (res_main_v11 V0) (broadcastInDim S8x128x128 ![] bcast_S_S8x128x128 (constant S_ .f32 0x3E0A9555#32))) (uitofp .f32 (andi (cmpi .sge (res_main_v20 V0) (broadcastInDim S8x128x128 ![] bcast_S_S8x128x128 (constantI S_ 32 0#32))) (cmpi .slt (res_main_v20 V0) (broadcastInDim S8x128x128 ![] bcast_S_S8x128x128 (constantI S_ 32 128#32))))))) ((concatenate S8x128x128x4 3 [⟨S8x128x128x1, ((broadcastInDim S8x128x128x1 ![0, 1, 2] bcast_S8x128x128_S8x128x128x1_0_1_2 (broadcastInDim S8x128x128 ![0, 1, 2] bcast_S8x1x1_S8x128x128_0_1_2 (select (cmpi .slt (res_main_v14 V0) (broadcastInDim S8x1x1 ![] bcast_S_S8x1x1 (constantI S_ 32 0#32))) (addi (res_main_v14 V0) (broadcastInDim S8x1x1 ![] bcast_S_S8x1x1 (constantI S_ 32 8#32))) (res_main_v14 V0)))) : (⟨S8x128x128x1, .i32⟩ : BufTy).Contents (Elt F))⟩, ⟨S8x128x128x1, ((broadcastInDim S8x128x128x1 ![0, 1, 2] bcast_S8x128x128_S8x128x128x1_0_1_2 (select (cmpi .slt (res_main_v71 V0) (broadcastInDim S8x128x128 ![] bcast_S_S8x128x128 (constantI S_ 32 0#32))) (addi (res_main_v71 V0) (broadcastInDim S8x128x128 ![] bcast_S_S8x128x128 (constantI S_ 32 128#32))) (res_main_v71 V0))) : (⟨S8x128x128x1, .i32⟩ : BufTy).Contents (Elt F))⟩, ⟨S8x128x128x1, ((broadcastInDim S8x128x128x1 ![0, 1, 2] bcast_S8x128x128_S8x128x128x1_0_1_2 (broadcastInDim S8x128x128 ![0, 1, 2] bcast_S1x128x1_S8x128x128_0_1_2 (select (cmpi .slt (res_main_v16 V0) (broadcastInDim S1x128x1 ![] bcast_S_S1x128x1 (constantI S_ 32 0#32))) (addi (res_main_v16 V0) (broadcastInDim S1x128x1 ![] bcast_S_S1x128x1 (constantI S_ 32 128#32))) (res_main_v16 V0)))) : (⟨S8x128x128x1, .i32⟩ : BufTy).Contents (Elt F))⟩, ⟨S8x128x128x1, ((broadcastInDim S8x128x128x1 ![0, 1, 2] bcast_S8x128x128_S8x128x128x1_0_1_2 (broadcastInDim S8x128x128 ![0, 1, 2] bcast_S1x1x128_S8x128x128_0_1_2 (select (cmpi .slt (res_main_v18 V0) (broadcastInDim S1x1x128 ![] bcast_S_S1x1x128 (constantI S_ 32 0#32))) (addi (res_main_v18 V0) (broadcastInDim S1x1x128 ![] bcast_S_S1x1x128 (constantI S_ 32 128#32))) (res_main_v18 V0)))) : (⟨S8x128x128x1, .i32⟩ : BufTy).Contents (Elt F))⟩] concatenates_S8x128x128x1_S8x128x128x1_S8x128x128x1_S8x128x128x1_S8x128x128x4_d3 : (⟨S8x128x128x4, .i32⟩ : BufTy).Contents (Elt F))) (mulf (mulf (res_main_v11 V0) (broadcastInDim S8x128x128 ![] bcast_S_S8x128x128 (constant S_ .f32 0x3F1B4598#32))) (uitofp .f32 (andi (cmpi .sge (res_main_v61 V0) (broadcastInDim S8x128x128 ![] bcast_S_S8x128x128 (constantI S_ 32 0#32))) (cmpi .slt (res_main_v61 V0) (broadcastInDim S8x128x128 ![] bcast_S_S8x128x128 (constantI S_ 32 128#32))))))

set_option maxRecDepth 8192 in
/-- `main_v102`'s composed term of the arguments (named: it is used 3 times). -/
def res_main_v102 (V0 : Valuation τ sig (Elt F)) : (Proc.devRef .tc main_v102 : DevRef τ sig).ty.Contents (Elt F) :=
  addi (res_main_v10 V0) (broadcastInDim S8x128x128 ![] bcast_S_S8x128x128 (constantI S_ 32 0#32))

set_option maxRecDepth 8192 in
/-- `main_v112`'s composed term of the arguments (named: it is used 3 times). -/
def res_main_v112 (V0 : Valuation τ sig (Elt F)) : (Proc.devRef .tc main_v112 : DevRef τ sig).ty.Contents (Elt F) :=
  minsi (broadcastInDim S8x128x128 ![] bcast_S_S8x128x128 (id (constantI S_ 32 127#32))) (maxsi (broadcastInDim S8x128x128 ![] bcast_S_S8x128x128 (id (constantI S_ 32 0#32))) (res_main_v102 V0))

set_option maxRecDepth 8192 in
/-- `main_v143`'s composed term of the arguments (named: it is used 3 times). -/
def res_main_v143 (V0 : Valuation τ sig (Elt F)) : (Proc.devRef .tc main_v143 : DevRef τ sig).ty.Contents (Elt F) :=
  addi (res_main_v10 V0) (broadcastInDim S8x128x128 ![] bcast_S_S8x128x128 (constantI S_ 32 1#32))

set_option maxRecDepth 8192 in
/-- `main_v153`'s composed term of the arguments (named: it is used 3 times). -/
def res_main_v153 (V0 : Valuation τ sig (Elt F)) : (Proc.devRef .tc main_v153 : DevRef τ sig).ty.Contents (Elt F) :=
  minsi (broadcastInDim S8x128x128 ![] bcast_S_S8x128x128 (id (constantI S_ 32 127#32))) (maxsi (broadcastInDim S8x128x128 ![] bcast_S_S8x128x128 (id (constantI S_ 32 0#32))) (res_main_v143 V0))

set_option maxRecDepth 8192 in
/-- `main_v182`'s composed term of the arguments (named: it is long). -/
def res_main_v182 (V0 : Valuation τ sig (Elt F)) : (Proc.devRef .tc main_v182 : DevRef τ sig).ty.Contents (Elt F) :=
  Host.scatterAdd scatter_S8x128x128x128_S8x128x128x4_S8x128x128_n_0123_0123_3 (Host.scatterAdd scatter_S8x128x128x128_S8x128x128x4_S8x128x128_n_0123_0123_3 (res_main_v100 V0) ((concatenate S8x128x128x4 3 [⟨S8x128x128x1, ((broadcastInDim S8x128x128x1 ![0, 1, 2] bcast_S8x128x128_S8x128x128x1_0_1_2 (broadcastInDim S8x128x128 ![0, 1, 2] bcast_S8x1x1_S8x128x128_0_1_2 (select (cmpi .slt (res_main_v14 V0) (broadcastInDim S8x1x1 ![] bcast_S_S8x1x1 (constantI S_ 32 0#32))) (addi (res_main_v14 V0) (broadcastInDim S8x1x1 ![] bcast_S_S8x1x1 (constantI S_ 32 8#32))) (res_main_v14 V0)))) : (⟨S8x128x128x1, .i32⟩ : BufTy).Contents (Elt F))⟩, ⟨S8x128x128x1, ((broadcastInDim S8x128x128x1 ![0, 1, 2] bcast_S8x128x128_S8x128x128x1_0_1_2 (select (cmpi .slt (res_main_v112 V0) (broadcastInDim S8x128x128 ![] bcast_S_S8x128x128 (constantI S_ 32 0#32))) (addi (res_main_v112 V0) (broadcastInDim S8x128x128 ![] bcast_S_S8x128x128 (constantI S_ 32 128#32))) (res_main_v112 V0))) : (⟨S8x128x128x1, .i32⟩ : BufTy).Contents (Elt F))⟩, ⟨S8x128x128x1, ((broadcastInDim S8x128x128x1 ![0, 1, 2] bcast_S8x128x128_S8x128x128x1_0_1_2 (broadcastInDim S8x128x128 ![0, 1, 2] bcast_S1x128x1_S8x128x128_0_1_2 (select (cmpi .slt (res_main_v16 V0) (broadcastInDim S1x128x1 ![] bcast_S_S1x128x1 (constantI S_ 32 0#32))) (addi (res_main_v16 V0) (broadcastInDim S1x128x1 ![] bcast_S_S1x128x1 (constantI S_ 32 128#32))) (res_main_v16 V0)))) : (⟨S8x128x128x1, .i32⟩ : BufTy).Contents (Elt F))⟩, ⟨S8x128x128x1, ((broadcastInDim S8x128x128x1 ![0, 1, 2] bcast_S8x128x128_S8x128x128x1_0_1_2 (broadcastInDim S8x128x128 ![0, 1, 2] bcast_S1x1x128_S8x128x128_0_1_2 (select (cmpi .slt (res_main_v18 V0) (broadcastInDim S1x1x128 ![] bcast_S_S1x1x128 (constantI S_ 32 0#32))) (addi (res_main_v18 V0) (broadcastInDim S1x1x128 ![] bcast_S_S1x1x128 (constantI S_ 32 128#32))) (res_main_v18 V0)))) : (⟨S8x128x128x1, .i32⟩ : BufTy).Contents (Elt F))⟩] concatenates_S8x128x128x1_S8x128x128x1_S8x128x128x1_S8x128x128x1_S8x128x128x4_d3 : (⟨S8x128x128x4, .i32⟩ : BufTy).Contents (Elt F))) (mulf (mulf (res_main_v11 V0) (broadcastInDim S8x128x128 ![] bcast_S_S8x128x128 (constant S_ .f32 0x3F800000#32))) (uitofp .f32 (andi (cmpi .sge (res_main_v102 V0) (broadcastInDim S8x128x128 ![] bcast_S_S8x128x128 (constantI S_ 32 0#32))) (cmpi .slt (res_main_v102 V0) (broadcastInDim S8x128x128 ![] bcast_S_S8x128x128 (constantI S_ 32 128#32))))))) ((concatenate S8x128x128x4 3 [⟨S8x128x128x1, ((broadcastInDim S8x128x128x1 ![0, 1, 2] bcast_S8x128x128_S8x128x128x1_0_1_2 (broadcastInDim S8x128x128 ![0, 1, 2] bcast_S8x1x1_S8x128x128_0_1_2 (select (cmpi .slt (res_main_v14 V0) (broadcastInDim S8x1x1 ![] bcast_S_S8x1x1 (constantI S_ 32 0#32))) (addi (res_main_v14 V0) (broadcastInDim S8x1x1 ![] bcast_S_S8x1x1 (constantI S_ 32 8#32))) (res_main_v14 V0)))) : (⟨S8x128x128x1, .i32⟩ : BufTy).Contents (Elt F))⟩, ⟨S8x128x128x1, ((broadcastInDim S8x128x128x1 ![0, 1, 2] bcast_S8x128x128_S8x128x128x1_0_1_2 (select (cmpi .slt (res_main_v153 V0) (broadcastInDim S8x128x128 ![] bcast_S_S8x128x128 (constantI S_ 32 0#32))) (addi (res_main_v153 V0) (broadcastInDim S8x128x128 ![] bcast_S_S8x128x128 (constantI S_ 32 128#32))) (res_main_v153 V0))) : (⟨S8x128x128x1, .i32⟩ : BufTy).Contents (Elt F))⟩, ⟨S8x128x128x1, ((broadcastInDim S8x128x128x1 ![0, 1, 2] bcast_S8x128x128_S8x128x128x1_0_1_2 (broadcastInDim S8x128x128 ![0, 1, 2] bcast_S1x128x1_S8x128x128_0_1_2 (select (cmpi .slt (res_main_v16 V0) (broadcastInDim S1x128x1 ![] bcast_S_S1x128x1 (constantI S_ 32 0#32))) (addi (res_main_v16 V0) (broadcastInDim S1x128x1 ![] bcast_S_S1x128x1 (constantI S_ 32 128#32))) (res_main_v16 V0)))) : (⟨S8x128x128x1, .i32⟩ : BufTy).Contents (Elt F))⟩, ⟨S8x128x128x1, ((broadcastInDim S8x128x128x1 ![0, 1, 2] bcast_S8x128x128_S8x128x128x1_0_1_2 (broadcastInDim S8x128x128 ![0, 1, 2] bcast_S1x1x128_S8x128x128_0_1_2 (select (cmpi .slt (res_main_v18 V0) (broadcastInDim S1x1x128 ![] bcast_S_S1x1x128 (constantI S_ 32 0#32))) (addi (res_main_v18 V0) (broadcastInDim S1x1x128 ![] bcast_S_S1x1x128 (constantI S_ 32 128#32))) (res_main_v18 V0)))) : (⟨S8x128x128x1, .i32⟩ : BufTy).Contents (Elt F))⟩] concatenates_S8x128x128x1_S8x128x128x1_S8x128x128x1_S8x128x128x1_S8x128x128x4_d3 : (⟨S8x128x128x4, .i32⟩ : BufTy).Contents (Elt F))) (mulf (mulf (res_main_v11 V0) (broadcastInDim S8x128x128 ![] bcast_S_S8x128x128 (constant S_ .f32 0x3F1B4598#32))) (uitofp .f32 (andi (cmpi .sge (res_main_v143 V0) (broadcastInDim S8x128x128 ![] bcast_S_S8x128x128 (constantI S_ 32 0#32))) (cmpi .slt (res_main_v143 V0) (broadcastInDim S8x128x128 ![] bcast_S_S8x128x128 (constantI S_ 32 128#32))))))

set_option maxRecDepth 8192 in
/-- `main_v184`'s composed term of the arguments (named: it is used 3 times). -/
def res_main_v184 (V0 : Valuation τ sig (Elt F)) : (Proc.devRef .tc main_v184 : DevRef τ sig).ty.Contents (Elt F) :=
  addi (res_main_v10 V0) (broadcastInDim S8x128x128 ![] bcast_S_S8x128x128 (constantI S_ 32 2#32))

set_option maxRecDepth 8192 in
/-- `main_v194`'s composed term of the arguments (named: it is used 3 times). -/
def res_main_v194 (V0 : Valuation τ sig (Elt F)) : (Proc.devRef .tc main_v194 : DevRef τ sig).ty.Contents (Elt F) :=
  minsi (broadcastInDim S8x128x128 ![] bcast_S_S8x128x128 (id (constantI S_ 32 127#32))) (maxsi (broadcastInDim S8x128x128 ![] bcast_S_S8x128x128 (id (constantI S_ 32 0#32))) (res_main_v184 V0))

/-- The device's buffer contents before @main's first window. -/
def val0 (V0 : Valuation τ sig (Elt F)) : Valuation τ sig (Elt F) := V0
/-- What `main_arg0` holds at this point. -/
theorem val0_main_arg0 (V0 : Valuation τ sig (Elt F)) : val0 V0 (no_index (Proc.devRef .tc main_arg0)) = V0 (Proc.devRef .tc main_arg0) := rfl
/-- What `main_arg1` holds at this point. -/
theorem val0_main_arg1 (V0 : Valuation τ sig (Elt F)) : val0 V0 (no_index (Proc.devRef .tc main_arg1)) = V0 (Proc.devRef .tc main_arg1) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_cst, main_v2, main_v3, main_cst_0, main_v4, main_v5, main_cst_1, main_v6, main_v7, main_v8, main_c, main_c_2, main_call2_v0, main_call2_v1, main_call2_v2, main_call2_v3, main_call2_v4, main_v9, main_v10, main_v11, main_cst_3, main_v12, main_v13, main_v14, main_v15, main_v16, main_v17, main_v18, main_c_4, main_v19]
set_option maxRecDepth 8192 in
/-- These operations write only the buffers listed. -/
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
/-- What `main_arg0` holds at this point. -/
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
/-- What `main_arg1` holds at this point. -/
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
set_option maxRecDepth 8192 in
set_option maxHeartbeats 2000000 in
/-- What `main_v10` holds at this point. -/
theorem val0_1_main_v10 (V0 : Valuation τ sig (Elt F)) : val0_1 V0 (no_index (Proc.devRef .tc main_v10)) = res_main_v10 V0 := by
  unfold val0_1
  simp only [ops_part0_0, TRef.binary, TRef.unary, TRef.toBuf, TRef.ofBuf, cast_eq]
  after_results_simp
  simp only [val0_main_arg0] <;> rfl
set_option maxRecDepth 8192 in
set_option maxHeartbeats 2000000 in
/-- What `main_v11` holds at this point. -/
theorem val0_1_main_v11 (V0 : Valuation τ sig (Elt F)) : val0_1 V0 (no_index (Proc.devRef .tc main_v11)) = res_main_v11 V0 := by
  unfold val0_1
  simp only [ops_part0_0, TRef.binary, TRef.unary, TRef.toBuf, TRef.ofBuf, cast_eq]
  after_results_simp
  simp only [val0_main_arg1] <;> rfl
set_option maxRecDepth 8192 in
set_option maxHeartbeats 2000000 in
/-- What `main_v12` holds at this point. -/
theorem val0_1_main_v12 (V0 : Valuation τ sig (Elt F)) : val0_1 V0 (no_index (Proc.devRef .tc main_v12)) = broadcastInDim S8x128x128x128 ![] bcast_S_S8x128x128x128 (constant S_ .f32 0x00000000#32) := by
  unfold val0_1
  simp only [ops_part0_0, TRef.binary, TRef.unary, TRef.toBuf, TRef.ofBuf, cast_eq]
  after_results_simp
  all_goals rfl
set_option maxRecDepth 8192 in
set_option maxHeartbeats 2000000 in
/-- What `main_v14` holds at this point. -/
theorem val0_1_main_v14 (V0 : Valuation τ sig (Elt F)) : val0_1 V0 (no_index (Proc.devRef .tc main_v14)) = res_main_v14 V0 := by
  unfold val0_1
  simp only [ops_part0_0, TRef.binary, TRef.unary, TRef.toBuf, TRef.ofBuf, cast_eq]
  after_results_simp
  all_goals rfl
set_option maxRecDepth 8192 in
set_option maxHeartbeats 2000000 in
/-- What `main_v16` holds at this point. -/
theorem val0_1_main_v16 (V0 : Valuation τ sig (Elt F)) : val0_1 V0 (no_index (Proc.devRef .tc main_v16)) = res_main_v16 V0 := by
  unfold val0_1
  simp only [ops_part0_0, TRef.binary, TRef.unary, TRef.toBuf, TRef.ofBuf, cast_eq]
  after_results_simp
  all_goals rfl
set_option maxRecDepth 8192 in
set_option maxHeartbeats 2000000 in
/-- What `main_v18` holds at this point. -/
theorem val0_1_main_v18 (V0 : Valuation τ sig (Elt F)) : val0_1 V0 (no_index (Proc.devRef .tc main_v18)) = res_main_v18 V0 := by
  unfold val0_1
  simp only [ops_part0_0, TRef.binary, TRef.unary, TRef.toBuf, TRef.ofBuf, cast_eq]
  after_results_simp
  all_goals rfl
set_option maxRecDepth 8192 in
set_option maxHeartbeats 2000000 in
/-- What `main_v19` holds at this point. -/
theorem val0_1_main_v19 (V0 : Valuation τ sig (Elt F)) : val0_1 V0 (no_index (Proc.devRef .tc main_v19)) = broadcastInDim S8x128x128 ![] bcast_S_S8x128x128 (constantI S_ 32 4294967294#32) := by
  unfold val0_1
  simp only [ops_part0_0, TRef.binary, TRef.unary, TRef.toBuf, TRef.ofBuf, cast_eq]
  after_results_simp
  all_goals rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v20, main_c_5, main_v21, main_v22, main_c_6, main_v23, main_v24, main_v25, main_cst_7, main_v26, main_v27, main_v28, main_v29, main_c_8, main_c_9, main_call3_v0, main_call3_v1, main_call3_v2, main_call3_v3, main_call3_v4, main_v30, main_c_10, main_v31, main_v32, main_c_11, main_v33, main_v34, main_v35, main_c_12, main_v36]
set_option maxRecDepth 8192 in
/-- These operations write only the buffers listed. -/
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
/-- What `main_arg0` holds at this point. -/
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
/-- What `main_arg1` holds at this point. -/
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
/-- What `main_v10` holds at this point. -/
theorem val0_2_main_v10 (V0 : Valuation τ sig (Elt F)) : val0_2 V0 (no_index (Proc.devRef .tc main_v10)) = res_main_v10 V0 :=
  (val0_2_keep V0 main_v10 (by decide)).trans (val0_1_main_v10 V0)
/-- What `main_v11` holds at this point. -/
theorem val0_2_main_v11 (V0 : Valuation τ sig (Elt F)) : val0_2 V0 (no_index (Proc.devRef .tc main_v11)) = res_main_v11 V0 :=
  (val0_2_keep V0 main_v11 (by decide)).trans (val0_1_main_v11 V0)
/-- What `main_v12` holds at this point. -/
theorem val0_2_main_v12 (V0 : Valuation τ sig (Elt F)) : val0_2 V0 (no_index (Proc.devRef .tc main_v12)) = broadcastInDim S8x128x128x128 ![] bcast_S_S8x128x128x128 (constant S_ .f32 0x00000000#32) :=
  (val0_2_keep V0 main_v12 (by decide)).trans (val0_1_main_v12 V0)
/-- What `main_v14` holds at this point. -/
theorem val0_2_main_v14 (V0 : Valuation τ sig (Elt F)) : val0_2 V0 (no_index (Proc.devRef .tc main_v14)) = res_main_v14 V0 :=
  (val0_2_keep V0 main_v14 (by decide)).trans (val0_1_main_v14 V0)
/-- What `main_v16` holds at this point. -/
theorem val0_2_main_v16 (V0 : Valuation τ sig (Elt F)) : val0_2 V0 (no_index (Proc.devRef .tc main_v16)) = res_main_v16 V0 :=
  (val0_2_keep V0 main_v16 (by decide)).trans (val0_1_main_v16 V0)
/-- What `main_v18` holds at this point. -/
theorem val0_2_main_v18 (V0 : Valuation τ sig (Elt F)) : val0_2 V0 (no_index (Proc.devRef .tc main_v18)) = res_main_v18 V0 :=
  (val0_2_keep V0 main_v18 (by decide)).trans (val0_1_main_v18 V0)
set_option maxRecDepth 8192 in
set_option maxHeartbeats 2000000 in
/-- What `main_v29` holds at this point. -/
theorem val0_2_main_v29 (V0 : Valuation τ sig (Elt F)) : val0_2 V0 (no_index (Proc.devRef .tc main_v29)) = mulf (mulf (res_main_v11 V0) (broadcastInDim S8x128x128 ![] bcast_S_S8x128x128 (constant S_ .f32 0x3E0A9555#32))) (uitofp .f32 (andi (cmpi .sge (res_main_v20 V0) (broadcastInDim S8x128x128 ![] bcast_S_S8x128x128 (constantI S_ 32 0#32))) (cmpi .slt (res_main_v20 V0) (broadcastInDim S8x128x128 ![] bcast_S_S8x128x128 (constantI S_ 32 128#32))))) := by
  unfold val0_2
  simp only [ops_part0_1, TRef.binary, TRef.unary, TRef.toBuf, TRef.ofBuf, cast_eq]
  after_results_simp
  simp only [val0_1_main_v19, val0_1_main_v10, val0_1_main_v11] <;> rfl
set_option maxRecDepth 8192 in
set_option maxHeartbeats 2000000 in
/-- What `main_v30` holds at this point. -/
theorem val0_2_main_v30 (V0 : Valuation τ sig (Elt F)) : val0_2 V0 (no_index (Proc.devRef .tc main_v30)) = res_main_v30 V0 := by
  unfold val0_2
  simp only [ops_part0_1, TRef.binary, TRef.unary, TRef.toBuf, TRef.ofBuf, cast_eq]
  after_results_simp
  simp only [val0_1_main_v19, val0_1_main_v10] <;> rfl
set_option maxRecDepth 8192 in
set_option maxHeartbeats 2000000 in
/-- What `main_v35` holds at this point. -/
theorem val0_2_main_v35 (V0 : Valuation τ sig (Elt F)) : val0_2 V0 (no_index (Proc.devRef .tc main_v35)) = select (cmpi .slt (res_main_v14 V0) (broadcastInDim S8x1x1 ![] bcast_S_S8x1x1 (constantI S_ 32 0#32))) (addi (res_main_v14 V0) (broadcastInDim S8x1x1 ![] bcast_S_S8x1x1 (constantI S_ 32 8#32))) (res_main_v14 V0) := by
  unfold val0_2
  simp only [ops_part0_1, TRef.binary, TRef.unary, TRef.toBuf, TRef.ofBuf, cast_eq]
  after_results_simp
  simp only [val0_1_main_v14] <;> rfl
set_option maxRecDepth 8192 in
set_option maxHeartbeats 2000000 in
/-- What `main_v36` holds at this point. -/
theorem val0_2_main_v36 (V0 : Valuation τ sig (Elt F)) : val0_2 V0 (no_index (Proc.devRef .tc main_v36)) = broadcastInDim S8x128x128 ![] bcast_S_S8x128x128 (constantI S_ 32 0#32) := by
  unfold val0_2
  simp only [ops_part0_1, TRef.binary, TRef.unary, TRef.toBuf, TRef.ofBuf, cast_eq]
  after_results_simp
  all_goals rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_v37, main_c_13, main_v38, main_v39, main_v40, main_c_14, main_v41, main_v42]
set_option maxRecDepth 8192 in
/-- These operations write only the buffers listed. -/
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
/-- What `main_arg0` holds at this point. -/
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
/-- What `main_arg1` holds at this point. -/
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
/-- What `main_v10` holds at this point. -/
theorem val1_main_v10 (V0 : Valuation τ sig (Elt F)) : val1 V0 (no_index (Proc.devRef .tc main_v10)) = res_main_v10 V0 :=
  (val1_keep V0 main_v10 (by decide)).trans (val0_2_main_v10 V0)
/-- What `main_v11` holds at this point. -/
theorem val1_main_v11 (V0 : Valuation τ sig (Elt F)) : val1 V0 (no_index (Proc.devRef .tc main_v11)) = res_main_v11 V0 :=
  (val1_keep V0 main_v11 (by decide)).trans (val0_2_main_v11 V0)
/-- What `main_v12` holds at this point. -/
theorem val1_main_v12 (V0 : Valuation τ sig (Elt F)) : val1 V0 (no_index (Proc.devRef .tc main_v12)) = broadcastInDim S8x128x128x128 ![] bcast_S_S8x128x128x128 (constant S_ .f32 0x00000000#32) :=
  (val1_keep V0 main_v12 (by decide)).trans (val0_2_main_v12 V0)
/-- What `main_v14` holds at this point. -/
theorem val1_main_v14 (V0 : Valuation τ sig (Elt F)) : val1 V0 (no_index (Proc.devRef .tc main_v14)) = res_main_v14 V0 :=
  (val1_keep V0 main_v14 (by decide)).trans (val0_2_main_v14 V0)
/-- What `main_v16` holds at this point. -/
theorem val1_main_v16 (V0 : Valuation τ sig (Elt F)) : val1 V0 (no_index (Proc.devRef .tc main_v16)) = res_main_v16 V0 :=
  (val1_keep V0 main_v16 (by decide)).trans (val0_2_main_v16 V0)
/-- What `main_v18` holds at this point. -/
theorem val1_main_v18 (V0 : Valuation τ sig (Elt F)) : val1 V0 (no_index (Proc.devRef .tc main_v18)) = res_main_v18 V0 :=
  (val1_keep V0 main_v18 (by decide)).trans (val0_2_main_v18 V0)
/-- What `main_v29` holds at this point. -/
theorem val1_main_v29 (V0 : Valuation τ sig (Elt F)) : val1 V0 (no_index (Proc.devRef .tc main_v29)) = mulf (mulf (res_main_v11 V0) (broadcastInDim S8x128x128 ![] bcast_S_S8x128x128 (constant S_ .f32 0x3E0A9555#32))) (uitofp .f32 (andi (cmpi .sge (res_main_v20 V0) (broadcastInDim S8x128x128 ![] bcast_S_S8x128x128 (constantI S_ 32 0#32))) (cmpi .slt (res_main_v20 V0) (broadcastInDim S8x128x128 ![] bcast_S_S8x128x128 (constantI S_ 32 128#32))))) :=
  (val1_keep V0 main_v29 (by decide)).trans (val0_2_main_v29 V0)
/-- What `main_v35` holds at this point. -/
theorem val1_main_v35 (V0 : Valuation τ sig (Elt F)) : val1 V0 (no_index (Proc.devRef .tc main_v35)) = select (cmpi .slt (res_main_v14 V0) (broadcastInDim S8x1x1 ![] bcast_S_S8x1x1 (constantI S_ 32 0#32))) (addi (res_main_v14 V0) (broadcastInDim S8x1x1 ![] bcast_S_S8x1x1 (constantI S_ 32 8#32))) (res_main_v14 V0) :=
  (val1_keep V0 main_v35 (by decide)).trans (val0_2_main_v35 V0)
set_option maxRecDepth 8192 in
/-- What `main_v40` holds at this point. -/
theorem val1_main_v40 (V0 : Valuation τ sig (Elt F)) : val1 V0 (no_index (Proc.devRef .tc main_v40)) = select (cmpi .slt (res_main_v30 V0) (broadcastInDim S8x128x128 ![] bcast_S_S8x128x128 (constantI S_ 32 0#32))) (addi (res_main_v30 V0) (broadcastInDim S8x128x128 ![] bcast_S_S8x128x128 (constantI S_ 32 128#32))) (res_main_v30 V0) := by
  unfold val1
  simp only [ops_part0_2]
  after_results_simp
  simp only [val0_2_main_v30, val0_2_main_v36] <;> rfl
set_option maxRecDepth 8192 in
/-- What `main_v42` holds at this point. -/
theorem val1_main_v42 (V0 : Valuation τ sig (Elt F)) : val1 V0 (no_index (Proc.devRef .tc main_v42)) = cmpi .slt (res_main_v16 V0) (broadcastInDim S1x128x1 ![] bcast_S_S1x128x1 (constantI S_ 32 0#32)) := by
  unfold val1
  simp only [ops_part0_2]
  after_results_simp
  simp only [val0_2_main_v16] <;> rfl

/-- The device's buffer contents after @main's first 98 operations. -/
def val1_1 (V0 : Valuation τ sig (Elt F)) : Valuation τ sig (Elt F) := after ops_part1_0 (val1 V0)
/-- The buffers that window `ops_part1_0`'s operations write. -/
abbrev ops_part1_0_W : List (Ref sig .tc) := [main_c_15, main_v43, main_v44, main_v45, main_c_16, main_v46, main_v47, main_c_17, main_v48, main_v49, main_v50, main_v51, main_v52, main_v53, main_v54, main_v55, main_v56, main_v57, main_v58, main_v59, main_c_18, main_v60, main_v61, main_c_19, main_v62, main_v63, main_c_20, main_v64, main_v65, main_v66]
set_option maxRecDepth 8192 in
/-- These operations write only the buffers listed. -/
theorem ops_part1_0_writes : (ops_part1_0 : List (HloOp τ sig (Elt F))).Forall fun op => op.writes ⊆ (ops_part1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
/-- What `main_arg0` holds at this point. -/
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
/-- What `main_arg1` holds at this point. -/
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
/-- What `main_v10` holds at this point. -/
theorem val1_1_main_v10 (V0 : Valuation τ sig (Elt F)) : val1_1 V0 (no_index (Proc.devRef .tc main_v10)) = res_main_v10 V0 :=
  (val1_1_keep V0 main_v10 (by decide)).trans (val1_main_v10 V0)
/-- What `main_v11` holds at this point. -/
theorem val1_1_main_v11 (V0 : Valuation τ sig (Elt F)) : val1_1 V0 (no_index (Proc.devRef .tc main_v11)) = res_main_v11 V0 :=
  (val1_1_keep V0 main_v11 (by decide)).trans (val1_main_v11 V0)
/-- What `main_v14` holds at this point. -/
theorem val1_1_main_v14 (V0 : Valuation τ sig (Elt F)) : val1_1 V0 (no_index (Proc.devRef .tc main_v14)) = res_main_v14 V0 :=
  (val1_1_keep V0 main_v14 (by decide)).trans (val1_main_v14 V0)
/-- What `main_v16` holds at this point. -/
theorem val1_1_main_v16 (V0 : Valuation τ sig (Elt F)) : val1_1 V0 (no_index (Proc.devRef .tc main_v16)) = res_main_v16 V0 :=
  (val1_1_keep V0 main_v16 (by decide)).trans (val1_main_v16 V0)
/-- What `main_v18` holds at this point. -/
theorem val1_1_main_v18 (V0 : Valuation τ sig (Elt F)) : val1_1 V0 (no_index (Proc.devRef .tc main_v18)) = res_main_v18 V0 :=
  (val1_1_keep V0 main_v18 (by decide)).trans (val1_main_v18 V0)
set_option maxRecDepth 8192 in
set_option maxHeartbeats 2000000 in
/-- What `main_v59` holds at this point. -/
theorem val1_1_main_v59 (V0 : Valuation τ sig (Elt F)) : val1_1 V0 (no_index (Proc.devRef .tc main_v59)) = Host.scatterAdd scatter_S8x128x128x128_S8x128x128x4_S8x128x128_n_0123_0123_3 (broadcastInDim S8x128x128x128 ![] bcast_S_S8x128x128x128 (constant S_ .f32 0x00000000#32)) ((concatenate S8x128x128x4 3 [⟨S8x128x128x1, ((broadcastInDim S8x128x128x1 ![0, 1, 2] bcast_S8x128x128_S8x128x128x1_0_1_2 (broadcastInDim S8x128x128 ![0, 1, 2] bcast_S8x1x1_S8x128x128_0_1_2 (select (cmpi .slt (res_main_v14 V0) (broadcastInDim S8x1x1 ![] bcast_S_S8x1x1 (constantI S_ 32 0#32))) (addi (res_main_v14 V0) (broadcastInDim S8x1x1 ![] bcast_S_S8x1x1 (constantI S_ 32 8#32))) (res_main_v14 V0)))) : (⟨S8x128x128x1, .i32⟩ : BufTy).Contents (Elt F))⟩, ⟨S8x128x128x1, ((broadcastInDim S8x128x128x1 ![0, 1, 2] bcast_S8x128x128_S8x128x128x1_0_1_2 (select (cmpi .slt (res_main_v30 V0) (broadcastInDim S8x128x128 ![] bcast_S_S8x128x128 (constantI S_ 32 0#32))) (addi (res_main_v30 V0) (broadcastInDim S8x128x128 ![] bcast_S_S8x128x128 (constantI S_ 32 128#32))) (res_main_v30 V0))) : (⟨S8x128x128x1, .i32⟩ : BufTy).Contents (Elt F))⟩, ⟨S8x128x128x1, ((broadcastInDim S8x128x128x1 ![0, 1, 2] bcast_S8x128x128_S8x128x128x1_0_1_2 (broadcastInDim S8x128x128 ![0, 1, 2] bcast_S1x128x1_S8x128x128_0_1_2 (select (cmpi .slt (res_main_v16 V0) (broadcastInDim S1x128x1 ![] bcast_S_S1x128x1 (constantI S_ 32 0#32))) (addi (res_main_v16 V0) (broadcastInDim S1x128x1 ![] bcast_S_S1x128x1 (constantI S_ 32 128#32))) (res_main_v16 V0)))) : (⟨S8x128x128x1, .i32⟩ : BufTy).Contents (Elt F))⟩, ⟨S8x128x128x1, ((broadcastInDim S8x128x128x1 ![0, 1, 2] bcast_S8x128x128_S8x128x128x1_0_1_2 (broadcastInDim S8x128x128 ![0, 1, 2] bcast_S1x1x128_S8x128x128_0_1_2 (select (cmpi .slt (res_main_v18 V0) (broadcastInDim S1x1x128 ![] bcast_S_S1x1x128 (constantI S_ 32 0#32))) (addi (res_main_v18 V0) (broadcastInDim S1x1x128 ![] bcast_S_S1x1x128 (constantI S_ 32 128#32))) (res_main_v18 V0)))) : (⟨S8x128x128x1, .i32⟩ : BufTy).Contents (Elt F))⟩] concatenates_S8x128x128x1_S8x128x128x1_S8x128x128x1_S8x128x128x1_S8x128x128x4_d3 : (⟨S8x128x128x4, .i32⟩ : BufTy).Contents (Elt F))) (mulf (mulf (res_main_v11 V0) (broadcastInDim S8x128x128 ![] bcast_S_S8x128x128 (constant S_ .f32 0x3E0A9555#32))) (uitofp .f32 (andi (cmpi .sge (res_main_v20 V0) (broadcastInDim S8x128x128 ![] bcast_S_S8x128x128 (constantI S_ 32 0#32))) (cmpi .slt (res_main_v20 V0) (broadcastInDim S8x128x128 ![] bcast_S_S8x128x128 (constantI S_ 32 128#32)))))) := by
  unfold val1_1
  simp only [ops_part1_0]
  after_results_simp
  try dsimp only [Matrix.cons_val]
  try after_results_simp
  simp only [val1_main_v29, val1_main_v18, val1_main_v16, val1_main_v42, val1_main_v40, val1_main_v35, val1_main_v12] <;> rfl
set_option maxRecDepth 8192 in
set_option maxHeartbeats 2000000 in
/-- What `main_v61` holds at this point. -/
theorem val1_1_main_v61 (V0 : Valuation τ sig (Elt F)) : val1_1 V0 (no_index (Proc.devRef .tc main_v61)) = res_main_v61 V0 := by
  unfold val1_1
  simp only [ops_part1_0]
  after_results_simp
  try dsimp only [Matrix.cons_val]
  try after_results_simp
  simp only [val1_main_v10] <;> rfl
set_option maxRecDepth 8192 in
set_option maxHeartbeats 2000000 in
/-- What `main_v66` holds at this point. -/
theorem val1_1_main_v66 (V0 : Valuation τ sig (Elt F)) : val1_1 V0 (no_index (Proc.devRef .tc main_v66)) = andi (cmpi .sge (res_main_v61 V0) (broadcastInDim S8x128x128 ![] bcast_S_S8x128x128 (constantI S_ 32 0#32))) (cmpi .slt (res_main_v61 V0) (broadcastInDim S8x128x128 ![] bcast_S_S8x128x128 (constantI S_ 32 128#32))) := by
  unfold val1_1
  simp only [ops_part1_0]
  after_results_simp
  try dsimp only [Matrix.cons_val]
  try after_results_simp
  simp only [val1_main_v10] <;> rfl

/-- The device's buffer contents after @main's first 128 operations. -/
def val1_2 (V0 : Valuation τ sig (Elt F)) : Valuation τ sig (Elt F) := after ops_part1_1 (val1_1 V0)
/-- The buffers that window `ops_part1_1`'s operations write. -/
abbrev ops_part1_1_W : List (Ref sig .tc) := [main_cst_21, main_v67, main_v68, main_v69, main_v70, main_c_22, main_c_23, main_call4_v0, main_call4_v1, main_call4_v2, main_call4_v3, main_call4_v4, main_v71, main_c_24, main_v72, main_v73, main_c_25, main_v74, main_v75, main_v76, main_c_26, main_v77, main_v78, main_c_27, main_v79, main_v80, main_v81, main_c_28, main_v82, main_v83]
set_option maxRecDepth 8192 in
/-- These operations write only the buffers listed. -/
theorem ops_part1_1_writes : (ops_part1_1 : List (HloOp τ sig (Elt F))).Forall fun op => op.writes ⊆ (ops_part1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
/-- What `main_arg0` holds at this point. -/
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
/-- What `main_arg1` holds at this point. -/
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
/-- What `main_v10` holds at this point. -/
theorem val1_2_main_v10 (V0 : Valuation τ sig (Elt F)) : val1_2 V0 (no_index (Proc.devRef .tc main_v10)) = res_main_v10 V0 :=
  (val1_2_keep V0 main_v10 (by decide)).trans (val1_1_main_v10 V0)
/-- What `main_v11` holds at this point. -/
theorem val1_2_main_v11 (V0 : Valuation τ sig (Elt F)) : val1_2 V0 (no_index (Proc.devRef .tc main_v11)) = res_main_v11 V0 :=
  (val1_2_keep V0 main_v11 (by decide)).trans (val1_1_main_v11 V0)
/-- What `main_v14` holds at this point. -/
theorem val1_2_main_v14 (V0 : Valuation τ sig (Elt F)) : val1_2 V0 (no_index (Proc.devRef .tc main_v14)) = res_main_v14 V0 :=
  (val1_2_keep V0 main_v14 (by decide)).trans (val1_1_main_v14 V0)
/-- What `main_v16` holds at this point. -/
theorem val1_2_main_v16 (V0 : Valuation τ sig (Elt F)) : val1_2 V0 (no_index (Proc.devRef .tc main_v16)) = res_main_v16 V0 :=
  (val1_2_keep V0 main_v16 (by decide)).trans (val1_1_main_v16 V0)
/-- What `main_v18` holds at this point. -/
theorem val1_2_main_v18 (V0 : Valuation τ sig (Elt F)) : val1_2 V0 (no_index (Proc.devRef .tc main_v18)) = res_main_v18 V0 :=
  (val1_2_keep V0 main_v18 (by decide)).trans (val1_1_main_v18 V0)
/-- What `main_v59` holds at this point. -/
theorem val1_2_main_v59 (V0 : Valuation τ sig (Elt F)) : val1_2 V0 (no_index (Proc.devRef .tc main_v59)) = Host.scatterAdd scatter_S8x128x128x128_S8x128x128x4_S8x128x128_n_0123_0123_3 (broadcastInDim S8x128x128x128 ![] bcast_S_S8x128x128x128 (constant S_ .f32 0x00000000#32)) ((concatenate S8x128x128x4 3 [⟨S8x128x128x1, ((broadcastInDim S8x128x128x1 ![0, 1, 2] bcast_S8x128x128_S8x128x128x1_0_1_2 (broadcastInDim S8x128x128 ![0, 1, 2] bcast_S8x1x1_S8x128x128_0_1_2 (select (cmpi .slt (res_main_v14 V0) (broadcastInDim S8x1x1 ![] bcast_S_S8x1x1 (constantI S_ 32 0#32))) (addi (res_main_v14 V0) (broadcastInDim S8x1x1 ![] bcast_S_S8x1x1 (constantI S_ 32 8#32))) (res_main_v14 V0)))) : (⟨S8x128x128x1, .i32⟩ : BufTy).Contents (Elt F))⟩, ⟨S8x128x128x1, ((broadcastInDim S8x128x128x1 ![0, 1, 2] bcast_S8x128x128_S8x128x128x1_0_1_2 (select (cmpi .slt (res_main_v30 V0) (broadcastInDim S8x128x128 ![] bcast_S_S8x128x128 (constantI S_ 32 0#32))) (addi (res_main_v30 V0) (broadcastInDim S8x128x128 ![] bcast_S_S8x128x128 (constantI S_ 32 128#32))) (res_main_v30 V0))) : (⟨S8x128x128x1, .i32⟩ : BufTy).Contents (Elt F))⟩, ⟨S8x128x128x1, ((broadcastInDim S8x128x128x1 ![0, 1, 2] bcast_S8x128x128_S8x128x128x1_0_1_2 (broadcastInDim S8x128x128 ![0, 1, 2] bcast_S1x128x1_S8x128x128_0_1_2 (select (cmpi .slt (res_main_v16 V0) (broadcastInDim S1x128x1 ![] bcast_S_S1x128x1 (constantI S_ 32 0#32))) (addi (res_main_v16 V0) (broadcastInDim S1x128x1 ![] bcast_S_S1x128x1 (constantI S_ 32 128#32))) (res_main_v16 V0)))) : (⟨S8x128x128x1, .i32⟩ : BufTy).Contents (Elt F))⟩, ⟨S8x128x128x1, ((broadcastInDim S8x128x128x1 ![0, 1, 2] bcast_S8x128x128_S8x128x128x1_0_1_2 (broadcastInDim S8x128x128 ![0, 1, 2] bcast_S1x1x128_S8x128x128_0_1_2 (select (cmpi .slt (res_main_v18 V0) (broadcastInDim S1x1x128 ![] bcast_S_S1x1x128 (constantI S_ 32 0#32))) (addi (res_main_v18 V0) (broadcastInDim S1x1x128 ![] bcast_S_S1x1x128 (constantI S_ 32 128#32))) (res_main_v18 V0)))) : (⟨S8x128x128x1, .i32⟩ : BufTy).Contents (Elt F))⟩] concatenates_S8x128x128x1_S8x128x128x1_S8x128x128x1_S8x128x128x1_S8x128x128x4_d3 : (⟨S8x128x128x4, .i32⟩ : BufTy).Contents (Elt F))) (mulf (mulf (res_main_v11 V0) (broadcastInDim S8x128x128 ![] bcast_S_S8x128x128 (constant S_ .f32 0x3E0A9555#32))) (uitofp .f32 (andi (cmpi .sge (res_main_v20 V0) (broadcastInDim S8x128x128 ![] bcast_S_S8x128x128 (constantI S_ 32 0#32))) (cmpi .slt (res_main_v20 V0) (broadcastInDim S8x128x128 ![] bcast_S_S8x128x128 (constantI S_ 32 128#32)))))) :=
  (val1_2_keep V0 main_v59 (by decide)).trans (val1_1_main_v59 V0)
set_option maxRecDepth 8192 in
set_option maxHeartbeats 2000000 in
/-- What `main_v70` holds at this point. -/
theorem val1_2_main_v70 (V0 : Valuation τ sig (Elt F)) : val1_2 V0 (no_index (Proc.devRef .tc main_v70)) = mulf (mulf (res_main_v11 V0) (broadcastInDim S8x128x128 ![] bcast_S_S8x128x128 (constant S_ .f32 0x3F1B4598#32))) (uitofp .f32 (andi (cmpi .sge (res_main_v61 V0) (broadcastInDim S8x128x128 ![] bcast_S_S8x128x128 (constantI S_ 32 0#32))) (cmpi .slt (res_main_v61 V0) (broadcastInDim S8x128x128 ![] bcast_S_S8x128x128 (constantI S_ 32 128#32))))) := by
  unfold val1_2
  simp only [ops_part1_1, TRef.binary, TRef.unary, TRef.toBuf, TRef.ofBuf, cast_eq]
  after_results_simp
  simp only [val1_1_main_v66, val1_1_main_v11] <;> rfl
set_option maxRecDepth 8192 in
set_option maxHeartbeats 2000000 in
/-- What `main_v76` holds at this point. -/
theorem val1_2_main_v76 (V0 : Valuation τ sig (Elt F)) : val1_2 V0 (no_index (Proc.devRef .tc main_v76)) = select (cmpi .slt (res_main_v14 V0) (broadcastInDim S8x1x1 ![] bcast_S_S8x1x1 (constantI S_ 32 0#32))) (addi (res_main_v14 V0) (broadcastInDim S8x1x1 ![] bcast_S_S8x1x1 (constantI S_ 32 8#32))) (res_main_v14 V0) := by
  unfold val1_2
  simp only [ops_part1_1, TRef.binary, TRef.unary, TRef.toBuf, TRef.ofBuf, cast_eq]
  after_results_simp
  simp only [val1_1_main_v14] <;> rfl
set_option maxRecDepth 8192 in
set_option maxHeartbeats 2000000 in
/-- What `main_v81` holds at this point. -/
theorem val1_2_main_v81 (V0 : Valuation τ sig (Elt F)) : val1_2 V0 (no_index (Proc.devRef .tc main_v81)) = select (cmpi .slt (res_main_v71 V0) (broadcastInDim S8x128x128 ![] bcast_S_S8x128x128 (constantI S_ 32 0#32))) (addi (res_main_v71 V0) (broadcastInDim S8x128x128 ![] bcast_S_S8x128x128 (constantI S_ 32 128#32))) (res_main_v71 V0) := by
  unfold val1_2
  simp only [ops_part1_1, TRef.binary, TRef.unary, TRef.toBuf, TRef.ofBuf, cast_eq]
  after_results_simp
  simp only [val1_1_main_v61] <;> rfl
set_option maxRecDepth 8192 in
set_option maxHeartbeats 2000000 in
/-- What `main_v83` holds at this point. -/
theorem val1_2_main_v83 (V0 : Valuation τ sig (Elt F)) : val1_2 V0 (no_index (Proc.devRef .tc main_v83)) = cmpi .slt (res_main_v16 V0) (broadcastInDim S1x128x1 ![] bcast_S_S1x128x1 (constantI S_ 32 0#32)) := by
  unfold val1_2
  simp only [ops_part1_1, TRef.binary, TRef.unary, TRef.toBuf, TRef.ofBuf, cast_eq]
  after_results_simp
  simp only [val1_1_main_v16] <;> rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_c_29, main_v84, main_v85, main_v86, main_c_30]
set_option maxRecDepth 8192 in
/-- These operations write only the buffers listed. -/
theorem ops_part1_2_writes : (ops_part1_2 : List (HloOp τ sig (Elt F))).Forall fun op => op.writes ⊆ (ops_part1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
/-- What `main_arg0` holds at this point. -/
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
/-- What `main_arg1` holds at this point. -/
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
/-- What `main_v10` holds at this point. -/
theorem val2_main_v10 (V0 : Valuation τ sig (Elt F)) : val2 V0 (no_index (Proc.devRef .tc main_v10)) = res_main_v10 V0 :=
  (val2_keep V0 main_v10 (by decide)).trans (val1_2_main_v10 V0)
/-- What `main_v11` holds at this point. -/
theorem val2_main_v11 (V0 : Valuation τ sig (Elt F)) : val2 V0 (no_index (Proc.devRef .tc main_v11)) = res_main_v11 V0 :=
  (val2_keep V0 main_v11 (by decide)).trans (val1_2_main_v11 V0)
/-- What `main_v14` holds at this point. -/
theorem val2_main_v14 (V0 : Valuation τ sig (Elt F)) : val2 V0 (no_index (Proc.devRef .tc main_v14)) = res_main_v14 V0 :=
  (val2_keep V0 main_v14 (by decide)).trans (val1_2_main_v14 V0)
/-- What `main_v16` holds at this point. -/
theorem val2_main_v16 (V0 : Valuation τ sig (Elt F)) : val2 V0 (no_index (Proc.devRef .tc main_v16)) = res_main_v16 V0 :=
  (val2_keep V0 main_v16 (by decide)).trans (val1_2_main_v16 V0)
/-- What `main_v18` holds at this point. -/
theorem val2_main_v18 (V0 : Valuation τ sig (Elt F)) : val2 V0 (no_index (Proc.devRef .tc main_v18)) = res_main_v18 V0 :=
  (val2_keep V0 main_v18 (by decide)).trans (val1_2_main_v18 V0)
/-- What `main_v59` holds at this point. -/
theorem val2_main_v59 (V0 : Valuation τ sig (Elt F)) : val2 V0 (no_index (Proc.devRef .tc main_v59)) = Host.scatterAdd scatter_S8x128x128x128_S8x128x128x4_S8x128x128_n_0123_0123_3 (broadcastInDim S8x128x128x128 ![] bcast_S_S8x128x128x128 (constant S_ .f32 0x00000000#32)) ((concatenate S8x128x128x4 3 [⟨S8x128x128x1, ((broadcastInDim S8x128x128x1 ![0, 1, 2] bcast_S8x128x128_S8x128x128x1_0_1_2 (broadcastInDim S8x128x128 ![0, 1, 2] bcast_S8x1x1_S8x128x128_0_1_2 (select (cmpi .slt (res_main_v14 V0) (broadcastInDim S8x1x1 ![] bcast_S_S8x1x1 (constantI S_ 32 0#32))) (addi (res_main_v14 V0) (broadcastInDim S8x1x1 ![] bcast_S_S8x1x1 (constantI S_ 32 8#32))) (res_main_v14 V0)))) : (⟨S8x128x128x1, .i32⟩ : BufTy).Contents (Elt F))⟩, ⟨S8x128x128x1, ((broadcastInDim S8x128x128x1 ![0, 1, 2] bcast_S8x128x128_S8x128x128x1_0_1_2 (select (cmpi .slt (res_main_v30 V0) (broadcastInDim S8x128x128 ![] bcast_S_S8x128x128 (constantI S_ 32 0#32))) (addi (res_main_v30 V0) (broadcastInDim S8x128x128 ![] bcast_S_S8x128x128 (constantI S_ 32 128#32))) (res_main_v30 V0))) : (⟨S8x128x128x1, .i32⟩ : BufTy).Contents (Elt F))⟩, ⟨S8x128x128x1, ((broadcastInDim S8x128x128x1 ![0, 1, 2] bcast_S8x128x128_S8x128x128x1_0_1_2 (broadcastInDim S8x128x128 ![0, 1, 2] bcast_S1x128x1_S8x128x128_0_1_2 (select (cmpi .slt (res_main_v16 V0) (broadcastInDim S1x128x1 ![] bcast_S_S1x128x1 (constantI S_ 32 0#32))) (addi (res_main_v16 V0) (broadcastInDim S1x128x1 ![] bcast_S_S1x128x1 (constantI S_ 32 128#32))) (res_main_v16 V0)))) : (⟨S8x128x128x1, .i32⟩ : BufTy).Contents (Elt F))⟩, ⟨S8x128x128x1, ((broadcastInDim S8x128x128x1 ![0, 1, 2] bcast_S8x128x128_S8x128x128x1_0_1_2 (broadcastInDim S8x128x128 ![0, 1, 2] bcast_S1x1x128_S8x128x128_0_1_2 (select (cmpi .slt (res_main_v18 V0) (broadcastInDim S1x1x128 ![] bcast_S_S1x1x128 (constantI S_ 32 0#32))) (addi (res_main_v18 V0) (broadcastInDim S1x1x128 ![] bcast_S_S1x1x128 (constantI S_ 32 128#32))) (res_main_v18 V0)))) : (⟨S8x128x128x1, .i32⟩ : BufTy).Contents (Elt F))⟩] concatenates_S8x128x128x1_S8x128x128x1_S8x128x128x1_S8x128x128x1_S8x128x128x4_d3 : (⟨S8x128x128x4, .i32⟩ : BufTy).Contents (Elt F))) (mulf (mulf (res_main_v11 V0) (broadcastInDim S8x128x128 ![] bcast_S_S8x128x128 (constant S_ .f32 0x3E0A9555#32))) (uitofp .f32 (andi (cmpi .sge (res_main_v20 V0) (broadcastInDim S8x128x128 ![] bcast_S_S8x128x128 (constantI S_ 32 0#32))) (cmpi .slt (res_main_v20 V0) (broadcastInDim S8x128x128 ![] bcast_S_S8x128x128 (constantI S_ 32 128#32)))))) :=
  (val2_keep V0 main_v59 (by decide)).trans (val1_2_main_v59 V0)
/-- What `main_v70` holds at this point. -/
theorem val2_main_v70 (V0 : Valuation τ sig (Elt F)) : val2 V0 (no_index (Proc.devRef .tc main_v70)) = mulf (mulf (res_main_v11 V0) (broadcastInDim S8x128x128 ![] bcast_S_S8x128x128 (constant S_ .f32 0x3F1B4598#32))) (uitofp .f32 (andi (cmpi .sge (res_main_v61 V0) (broadcastInDim S8x128x128 ![] bcast_S_S8x128x128 (constantI S_ 32 0#32))) (cmpi .slt (res_main_v61 V0) (broadcastInDim S8x128x128 ![] bcast_S_S8x128x128 (constantI S_ 32 128#32))))) :=
  (val2_keep V0 main_v70 (by decide)).trans (val1_2_main_v70 V0)
/-- What `main_v76` holds at this point. -/
theorem val2_main_v76 (V0 : Valuation τ sig (Elt F)) : val2 V0 (no_index (Proc.devRef .tc main_v76)) = select (cmpi .slt (res_main_v14 V0) (broadcastInDim S8x1x1 ![] bcast_S_S8x1x1 (constantI S_ 32 0#32))) (addi (res_main_v14 V0) (broadcastInDim S8x1x1 ![] bcast_S_S8x1x1 (constantI S_ 32 8#32))) (res_main_v14 V0) :=
  (val2_keep V0 main_v76 (by decide)).trans (val1_2_main_v76 V0)
/-- What `main_v81` holds at this point. -/
theorem val2_main_v81 (V0 : Valuation τ sig (Elt F)) : val2 V0 (no_index (Proc.devRef .tc main_v81)) = select (cmpi .slt (res_main_v71 V0) (broadcastInDim S8x128x128 ![] bcast_S_S8x128x128 (constantI S_ 32 0#32))) (addi (res_main_v71 V0) (broadcastInDim S8x128x128 ![] bcast_S_S8x128x128 (constantI S_ 32 128#32))) (res_main_v71 V0) :=
  (val2_keep V0 main_v81 (by decide)).trans (val1_2_main_v81 V0)
set_option maxRecDepth 8192 in
/-- What `main_v86` holds at this point. -/
theorem val2_main_v86 (V0 : Valuation τ sig (Elt F)) : val2 V0 (no_index (Proc.devRef .tc main_v86)) = select (cmpi .slt (res_main_v16 V0) (broadcastInDim S1x128x1 ![] bcast_S_S1x128x1 (constantI S_ 32 0#32))) (addi (res_main_v16 V0) (broadcastInDim S1x128x1 ![] bcast_S_S1x128x1 (constantI S_ 32 128#32))) (res_main_v16 V0) := by
  unfold val2
  simp only [ops_part1_2]
  after_results_simp
  simp only [val1_2_main_v16, val1_2_main_v83] <;> rfl
set_option maxRecDepth 8192 in
/-- What `main_c_30` holds at this point. -/
theorem val2_main_c_30 (V0 : Valuation τ sig (Elt F)) : val2 V0 (no_index (Proc.devRef .tc main_c_30)) = constantI S_ 32 0#32 := by
  unfold val2
  simp only [ops_part1_2]
  after_results_simp
  all_goals rfl

/-- The device's buffer contents after @main's first 163 operations. -/
def val2_1 (V0 : Valuation τ sig (Elt F)) : Valuation τ sig (Elt F) := after ops_part2_0 (val2 V0)
/-- The buffers that window `ops_part2_0`'s operations write. -/
abbrev ops_part2_0_W : List (Ref sig .tc) := [main_v87, main_v88, main_c_31, main_v89, main_v90, main_v91, main_v92, main_v93, main_v94, main_v95, main_v96, main_v97, main_v98, main_v99, main_v100, main_c_32, main_v101, main_v102, main_c_33, main_v103, main_v104, main_c_34, main_v105, main_v106, main_v107, main_cst_35, main_v108, main_v109, main_v110, main_v111]
set_option maxRecDepth 8192 in
/-- These operations write only the buffers listed. -/
theorem ops_part2_0_writes : (ops_part2_0 : List (HloOp τ sig (Elt F))).Forall fun op => op.writes ⊆ (ops_part2_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_0` does not write keeps its contents through it. -/
theorem val2_1_keep (V0 : Valuation τ sig (Elt F)) (r : Ref sig .tc) (h : r ∉ ops_part2_0_W) :
    val2_1 V0 (Proc.devRef .tc r) = val2 V0 (Proc.devRef .tc r) :=
  after_of_writes_sub ops_part2_0 _ ops_part2_0_writes h
/-- What `main_arg0` holds at this point. -/
theorem val2_1_main_arg0 (V0 : Valuation τ sig (Elt F)) : val2_1 V0 (no_index (Proc.devRef .tc main_arg0)) = V0 (Proc.devRef .tc main_arg0) :=
  (val2_1_keep V0 main_arg0 (by decide)).trans (val2_main_arg0 V0)
/-- What `main_arg1` holds at this point. -/
theorem val2_1_main_arg1 (V0 : Valuation τ sig (Elt F)) : val2_1 V0 (no_index (Proc.devRef .tc main_arg1)) = V0 (Proc.devRef .tc main_arg1) :=
  (val2_1_keep V0 main_arg1 (by decide)).trans (val2_main_arg1 V0)
/-- What `main_v10` holds at this point. -/
theorem val2_1_main_v10 (V0 : Valuation τ sig (Elt F)) : val2_1 V0 (no_index (Proc.devRef .tc main_v10)) = res_main_v10 V0 :=
  (val2_1_keep V0 main_v10 (by decide)).trans (val2_main_v10 V0)
/-- What `main_v11` holds at this point. -/
theorem val2_1_main_v11 (V0 : Valuation τ sig (Elt F)) : val2_1 V0 (no_index (Proc.devRef .tc main_v11)) = res_main_v11 V0 :=
  (val2_1_keep V0 main_v11 (by decide)).trans (val2_main_v11 V0)
/-- What `main_v14` holds at this point. -/
theorem val2_1_main_v14 (V0 : Valuation τ sig (Elt F)) : val2_1 V0 (no_index (Proc.devRef .tc main_v14)) = res_main_v14 V0 :=
  (val2_1_keep V0 main_v14 (by decide)).trans (val2_main_v14 V0)
/-- What `main_v16` holds at this point. -/
theorem val2_1_main_v16 (V0 : Valuation τ sig (Elt F)) : val2_1 V0 (no_index (Proc.devRef .tc main_v16)) = res_main_v16 V0 :=
  (val2_1_keep V0 main_v16 (by decide)).trans (val2_main_v16 V0)
/-- What `main_v18` holds at this point. -/
theorem val2_1_main_v18 (V0 : Valuation τ sig (Elt F)) : val2_1 V0 (no_index (Proc.devRef .tc main_v18)) = res_main_v18 V0 :=
  (val2_1_keep V0 main_v18 (by decide)).trans (val2_main_v18 V0)
set_option maxRecDepth 8192 in
set_option maxHeartbeats 2000000 in
/-- What `main_v100` holds at this point. -/
theorem val2_1_main_v100 (V0 : Valuation τ sig (Elt F)) : val2_1 V0 (no_index (Proc.devRef .tc main_v100)) = res_main_v100 V0 := by
  unfold val2_1
  simp only [ops_part2_0]
  after_results_simp
  try dsimp only [Matrix.cons_val]
  try after_results_simp
  simp only [val2_main_v70, val2_main_v18, val2_main_c_30, val2_main_v86, val2_main_v81, val2_main_v76, val2_main_v59] <;> rfl
set_option maxRecDepth 8192 in
set_option maxHeartbeats 2000000 in
/-- What `main_v102` holds at this point. -/
theorem val2_1_main_v102 (V0 : Valuation τ sig (Elt F)) : val2_1 V0 (no_index (Proc.devRef .tc main_v102)) = res_main_v102 V0 := by
  unfold val2_1
  simp only [ops_part2_0]
  after_results_simp
  try dsimp only [Matrix.cons_val]
  try after_results_simp
  simp only [val2_main_v10] <;> rfl
set_option maxRecDepth 8192 in
set_option maxHeartbeats 2000000 in
/-- What `main_v111` holds at this point. -/
theorem val2_1_main_v111 (V0 : Valuation τ sig (Elt F)) : val2_1 V0 (no_index (Proc.devRef .tc main_v111)) = mulf (mulf (res_main_v11 V0) (broadcastInDim S8x128x128 ![] bcast_S_S8x128x128 (constant S_ .f32 0x3F800000#32))) (uitofp .f32 (andi (cmpi .sge (res_main_v102 V0) (broadcastInDim S8x128x128 ![] bcast_S_S8x128x128 (constantI S_ 32 0#32))) (cmpi .slt (res_main_v102 V0) (broadcastInDim S8x128x128 ![] bcast_S_S8x128x128 (constantI S_ 32 128#32))))) := by
  unfold val2_1
  simp only [ops_part2_0]
  after_results_simp
  try dsimp only [Matrix.cons_val]
  try after_results_simp
  simp only [val2_main_v10, val2_main_v11] <;> rfl

/-- The device's buffer contents after @main's first 193 operations. -/
def val2_2 (V0 : Valuation τ sig (Elt F)) : Valuation τ sig (Elt F) := after ops_part2_1 (val2_1 V0)
/-- The buffers that window `ops_part2_1`'s operations write. -/
abbrev ops_part2_1_W : List (Ref sig .tc) := [main_c_36, main_c_37, main_call5_v0, main_call5_v1, main_call5_v2, main_call5_v3, main_call5_v4, main_v112, main_c_38, main_v113, main_v114, main_c_39, main_v115, main_v116, main_v117, main_c_40, main_v118, main_v119, main_c_41, main_v120, main_v121, main_v122, main_c_42, main_v123, main_v124, main_c_43, main_v125, main_v126, main_v127, main_c_44]
set_option maxRecDepth 8192 in
/-- These operations write only the buffers listed. -/
theorem ops_part2_1_writes : (ops_part2_1 : List (HloOp τ sig (Elt F))).Forall fun op => op.writes ⊆ (ops_part2_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_1` does not write keeps its contents through it. -/
theorem val2_2_keep (V0 : Valuation τ sig (Elt F)) (r : Ref sig .tc) (h : r ∉ ops_part2_1_W) :
    val2_2 V0 (Proc.devRef .tc r) = val2_1 V0 (Proc.devRef .tc r) :=
  after_of_writes_sub ops_part2_1 _ ops_part2_1_writes h
/-- What `main_arg0` holds at this point. -/
theorem val2_2_main_arg0 (V0 : Valuation τ sig (Elt F)) : val2_2 V0 (no_index (Proc.devRef .tc main_arg0)) = V0 (Proc.devRef .tc main_arg0) :=
  (val2_2_keep V0 main_arg0 (by decide)).trans (val2_1_main_arg0 V0)
/-- What `main_arg1` holds at this point. -/
theorem val2_2_main_arg1 (V0 : Valuation τ sig (Elt F)) : val2_2 V0 (no_index (Proc.devRef .tc main_arg1)) = V0 (Proc.devRef .tc main_arg1) :=
  (val2_2_keep V0 main_arg1 (by decide)).trans (val2_1_main_arg1 V0)
/-- What `main_v10` holds at this point. -/
theorem val2_2_main_v10 (V0 : Valuation τ sig (Elt F)) : val2_2 V0 (no_index (Proc.devRef .tc main_v10)) = res_main_v10 V0 :=
  (val2_2_keep V0 main_v10 (by decide)).trans (val2_1_main_v10 V0)
/-- What `main_v11` holds at this point. -/
theorem val2_2_main_v11 (V0 : Valuation τ sig (Elt F)) : val2_2 V0 (no_index (Proc.devRef .tc main_v11)) = res_main_v11 V0 :=
  (val2_2_keep V0 main_v11 (by decide)).trans (val2_1_main_v11 V0)
/-- What `main_v14` holds at this point. -/
theorem val2_2_main_v14 (V0 : Valuation τ sig (Elt F)) : val2_2 V0 (no_index (Proc.devRef .tc main_v14)) = res_main_v14 V0 :=
  (val2_2_keep V0 main_v14 (by decide)).trans (val2_1_main_v14 V0)
/-- What `main_v16` holds at this point. -/
theorem val2_2_main_v16 (V0 : Valuation τ sig (Elt F)) : val2_2 V0 (no_index (Proc.devRef .tc main_v16)) = res_main_v16 V0 :=
  (val2_2_keep V0 main_v16 (by decide)).trans (val2_1_main_v16 V0)
/-- What `main_v18` holds at this point. -/
theorem val2_2_main_v18 (V0 : Valuation τ sig (Elt F)) : val2_2 V0 (no_index (Proc.devRef .tc main_v18)) = res_main_v18 V0 :=
  (val2_2_keep V0 main_v18 (by decide)).trans (val2_1_main_v18 V0)
/-- What `main_v100` holds at this point. -/
theorem val2_2_main_v100 (V0 : Valuation τ sig (Elt F)) : val2_2 V0 (no_index (Proc.devRef .tc main_v100)) = res_main_v100 V0 :=
  (val2_2_keep V0 main_v100 (by decide)).trans (val2_1_main_v100 V0)
/-- What `main_v111` holds at this point. -/
theorem val2_2_main_v111 (V0 : Valuation τ sig (Elt F)) : val2_2 V0 (no_index (Proc.devRef .tc main_v111)) = mulf (mulf (res_main_v11 V0) (broadcastInDim S8x128x128 ![] bcast_S_S8x128x128 (constant S_ .f32 0x3F800000#32))) (uitofp .f32 (andi (cmpi .sge (res_main_v102 V0) (broadcastInDim S8x128x128 ![] bcast_S_S8x128x128 (constantI S_ 32 0#32))) (cmpi .slt (res_main_v102 V0) (broadcastInDim S8x128x128 ![] bcast_S_S8x128x128 (constantI S_ 32 128#32))))) :=
  (val2_2_keep V0 main_v111 (by decide)).trans (val2_1_main_v111 V0)
set_option maxRecDepth 8192 in
set_option maxHeartbeats 2000000 in
/-- What `main_v117` holds at this point. -/
theorem val2_2_main_v117 (V0 : Valuation τ sig (Elt F)) : val2_2 V0 (no_index (Proc.devRef .tc main_v117)) = select (cmpi .slt (res_main_v14 V0) (broadcastInDim S8x1x1 ![] bcast_S_S8x1x1 (constantI S_ 32 0#32))) (addi (res_main_v14 V0) (broadcastInDim S8x1x1 ![] bcast_S_S8x1x1 (constantI S_ 32 8#32))) (res_main_v14 V0) := by
  unfold val2_2
  simp only [ops_part2_1, TRef.binary, TRef.unary, TRef.toBuf, TRef.ofBuf, cast_eq]
  after_results_simp
  simp only [val2_1_main_v14] <;> rfl
set_option maxRecDepth 8192 in
set_option maxHeartbeats 2000000 in
/-- What `main_v122` holds at this point. -/
theorem val2_2_main_v122 (V0 : Valuation τ sig (Elt F)) : val2_2 V0 (no_index (Proc.devRef .tc main_v122)) = select (cmpi .slt (res_main_v112 V0) (broadcastInDim S8x128x128 ![] bcast_S_S8x128x128 (constantI S_ 32 0#32))) (addi (res_main_v112 V0) (broadcastInDim S8x128x128 ![] bcast_S_S8x128x128 (constantI S_ 32 128#32))) (res_main_v112 V0) := by
  unfold val2_2
  simp only [ops_part2_1, TRef.binary, TRef.unary, TRef.toBuf, TRef.ofBuf, cast_eq]
  after_results_simp
  simp only [val2_1_main_v102] <;> rfl
set_option maxRecDepth 8192 in
set_option maxHeartbeats 2000000 in
/-- What `main_v127` holds at this point. -/
theorem val2_2_main_v127 (V0 : Valuation τ sig (Elt F)) : val2_2 V0 (no_index (Proc.devRef .tc main_v127)) = select (cmpi .slt (res_main_v16 V0) (broadcastInDim S1x128x1 ![] bcast_S_S1x128x1 (constantI S_ 32 0#32))) (addi (res_main_v16 V0) (broadcastInDim S1x128x1 ![] bcast_S_S1x128x1 (constantI S_ 32 128#32))) (res_main_v16 V0) := by
  unfold val2_2
  simp only [ops_part2_1, TRef.binary, TRef.unary, TRef.toBuf, TRef.ofBuf, cast_eq]
  after_results_simp
  simp only [val2_1_main_v16] <;> rfl
set_option maxRecDepth 8192 in
set_option maxHeartbeats 2000000 in
/-- What `main_c_44` holds at this point. -/
theorem val2_2_main_c_44 (V0 : Valuation τ sig (Elt F)) : val2_2 V0 (no_index (Proc.devRef .tc main_c_44)) = constantI S_ 32 0#32 := by
  unfold val2_2
  simp only [ops_part2_1, TRef.binary, TRef.unary, TRef.toBuf, TRef.ofBuf, cast_eq]
  after_results_simp
  all_goals rfl

/-- The device's buffer contents after @main's first 3 windows. -/
def val3 (V0 : Valuation τ sig (Elt F)) : Valuation τ sig (Elt F) := after ops_part2_2 (val2_2 V0)
/-- The buffers that window `ops_part2_2`'s operations write. -/
abbrev ops_part2_2_W : List (Ref sig .tc) := [main_v128, main_v129, main_c_45, main_v130, main_v131]
set_option maxRecDepth 8192 in
/-- These operations write only the buffers listed. -/
theorem ops_part2_2_writes : (ops_part2_2 : List (HloOp τ sig (Elt F))).Forall fun op => op.writes ⊆ (ops_part2_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_2` does not write keeps its contents through it. -/
theorem val3_keep (V0 : Valuation τ sig (Elt F)) (r : Ref sig .tc) (h : r ∉ ops_part2_2_W) :
    val3 V0 (Proc.devRef .tc r) = val2_2 V0 (Proc.devRef .tc r) :=
  after_of_writes_sub ops_part2_2 _ ops_part2_2_writes h
/-- What `main_arg0` holds at this point. -/
theorem val3_main_arg0 (V0 : Valuation τ sig (Elt F)) : val3 V0 (no_index (Proc.devRef .tc main_arg0)) = V0 (Proc.devRef .tc main_arg0) :=
  (val3_keep V0 main_arg0 (by decide)).trans (val2_2_main_arg0 V0)
/-- What `main_arg1` holds at this point. -/
theorem val3_main_arg1 (V0 : Valuation τ sig (Elt F)) : val3 V0 (no_index (Proc.devRef .tc main_arg1)) = V0 (Proc.devRef .tc main_arg1) :=
  (val3_keep V0 main_arg1 (by decide)).trans (val2_2_main_arg1 V0)
/-- What `main_v10` holds at this point. -/
theorem val3_main_v10 (V0 : Valuation τ sig (Elt F)) : val3 V0 (no_index (Proc.devRef .tc main_v10)) = res_main_v10 V0 :=
  (val3_keep V0 main_v10 (by decide)).trans (val2_2_main_v10 V0)
/-- What `main_v11` holds at this point. -/
theorem val3_main_v11 (V0 : Valuation τ sig (Elt F)) : val3 V0 (no_index (Proc.devRef .tc main_v11)) = res_main_v11 V0 :=
  (val3_keep V0 main_v11 (by decide)).trans (val2_2_main_v11 V0)
/-- What `main_v14` holds at this point. -/
theorem val3_main_v14 (V0 : Valuation τ sig (Elt F)) : val3 V0 (no_index (Proc.devRef .tc main_v14)) = res_main_v14 V0 :=
  (val3_keep V0 main_v14 (by decide)).trans (val2_2_main_v14 V0)
/-- What `main_v16` holds at this point. -/
theorem val3_main_v16 (V0 : Valuation τ sig (Elt F)) : val3 V0 (no_index (Proc.devRef .tc main_v16)) = res_main_v16 V0 :=
  (val3_keep V0 main_v16 (by decide)).trans (val2_2_main_v16 V0)
/-- What `main_v18` holds at this point. -/
theorem val3_main_v18 (V0 : Valuation τ sig (Elt F)) : val3 V0 (no_index (Proc.devRef .tc main_v18)) = res_main_v18 V0 :=
  (val3_keep V0 main_v18 (by decide)).trans (val2_2_main_v18 V0)
/-- What `main_v100` holds at this point. -/
theorem val3_main_v100 (V0 : Valuation τ sig (Elt F)) : val3 V0 (no_index (Proc.devRef .tc main_v100)) = res_main_v100 V0 :=
  (val3_keep V0 main_v100 (by decide)).trans (val2_2_main_v100 V0)
/-- What `main_v111` holds at this point. -/
theorem val3_main_v111 (V0 : Valuation τ sig (Elt F)) : val3 V0 (no_index (Proc.devRef .tc main_v111)) = mulf (mulf (res_main_v11 V0) (broadcastInDim S8x128x128 ![] bcast_S_S8x128x128 (constant S_ .f32 0x3F800000#32))) (uitofp .f32 (andi (cmpi .sge (res_main_v102 V0) (broadcastInDim S8x128x128 ![] bcast_S_S8x128x128 (constantI S_ 32 0#32))) (cmpi .slt (res_main_v102 V0) (broadcastInDim S8x128x128 ![] bcast_S_S8x128x128 (constantI S_ 32 128#32))))) :=
  (val3_keep V0 main_v111 (by decide)).trans (val2_2_main_v111 V0)
/-- What `main_v117` holds at this point. -/
theorem val3_main_v117 (V0 : Valuation τ sig (Elt F)) : val3 V0 (no_index (Proc.devRef .tc main_v117)) = select (cmpi .slt (res_main_v14 V0) (broadcastInDim S8x1x1 ![] bcast_S_S8x1x1 (constantI S_ 32 0#32))) (addi (res_main_v14 V0) (broadcastInDim S8x1x1 ![] bcast_S_S8x1x1 (constantI S_ 32 8#32))) (res_main_v14 V0) :=
  (val3_keep V0 main_v117 (by decide)).trans (val2_2_main_v117 V0)
/-- What `main_v122` holds at this point. -/
theorem val3_main_v122 (V0 : Valuation τ sig (Elt F)) : val3 V0 (no_index (Proc.devRef .tc main_v122)) = select (cmpi .slt (res_main_v112 V0) (broadcastInDim S8x128x128 ![] bcast_S_S8x128x128 (constantI S_ 32 0#32))) (addi (res_main_v112 V0) (broadcastInDim S8x128x128 ![] bcast_S_S8x128x128 (constantI S_ 32 128#32))) (res_main_v112 V0) :=
  (val3_keep V0 main_v122 (by decide)).trans (val2_2_main_v122 V0)
/-- What `main_v127` holds at this point. -/
theorem val3_main_v127 (V0 : Valuation τ sig (Elt F)) : val3 V0 (no_index (Proc.devRef .tc main_v127)) = select (cmpi .slt (res_main_v16 V0) (broadcastInDim S1x128x1 ![] bcast_S_S1x128x1 (constantI S_ 32 0#32))) (addi (res_main_v16 V0) (broadcastInDim S1x128x1 ![] bcast_S_S1x128x1 (constantI S_ 32 128#32))) (res_main_v16 V0) :=
  (val3_keep V0 main_v127 (by decide)).trans (val2_2_main_v127 V0)
set_option maxRecDepth 8192 in
/-- What `main_v129` holds at this point. -/
theorem val3_main_v129 (V0 : Valuation τ sig (Elt F)) : val3 V0 (no_index (Proc.devRef .tc main_v129)) = cmpi .slt (res_main_v18 V0) (broadcastInDim S1x1x128 ![] bcast_S_S1x1x128 (constantI S_ 32 0#32)) := by
  unfold val3
  simp only [ops_part2_2]
  after_results_simp
  simp only [val2_2_main_c_44, val2_2_main_v18] <;> rfl
set_option maxRecDepth 8192 in
/-- What `main_v131` holds at this point. -/
theorem val3_main_v131 (V0 : Valuation τ sig (Elt F)) : val3 V0 (no_index (Proc.devRef .tc main_v131)) = addi (res_main_v18 V0) (broadcastInDim S1x1x128 ![] bcast_S_S1x1x128 (constantI S_ 32 128#32)) := by
  unfold val3
  simp only [ops_part2_2]
  after_results_simp
  simp only [val2_2_main_v18] <;> rfl

end Cert.ReferenceIdeal.Run

end
-- ==== Proof.RefRun.lean ====
module

public import proofs.«01_k».proof.Proof.RefVal

/-! The buffers' contents after the remaining windows of the reference's operations, and the run: the result as one term of the arguments. -/

@[expose] public section

set_option Elab.async false

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after @main's first 228 operations. -/
def val3_1 (V0 : Valuation τ sig (Elt F)) : Valuation τ sig (Elt F) := after ops_part3_0 (val3 V0)
/-- The buffers that window `ops_part3_0`'s operations write. -/
abbrev ops_part3_0_W : List (Ref sig .tc) := [main_v132, main_v133, main_v134, main_v135, main_v136, main_v137, main_v138, main_v139, main_v140, main_v141, main_c_46, main_v142, main_v143, main_c_47, main_v144, main_v145, main_c_48, main_v146, main_v147, main_v148, main_cst_49, main_v149, main_v150, main_v151, main_v152, main_c_50, main_c_51, main_call6_v0, main_call6_v1, main_call6_v2]
set_option maxRecDepth 8192 in
/-- These operations write only the buffers listed. -/
theorem ops_part3_0_writes : (ops_part3_0 : List (HloOp τ sig (Elt F))).Forall fun op => op.writes ⊆ (ops_part3_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part3_0` does not write keeps its contents through it. -/
theorem val3_1_keep (V0 : Valuation τ sig (Elt F)) (r : Ref sig .tc) (h : r ∉ ops_part3_0_W) :
    val3_1 V0 (Proc.devRef .tc r) = val3 V0 (Proc.devRef .tc r) :=
  after_of_writes_sub ops_part3_0 _ ops_part3_0_writes h
/-- What `main_arg0` holds at this point. -/
theorem val3_1_main_arg0 (V0 : Valuation τ sig (Elt F)) : val3_1 V0 (no_index (Proc.devRef .tc main_arg0)) = V0 (Proc.devRef .tc main_arg0) :=
  (val3_1_keep V0 main_arg0 (by decide)).trans (val3_main_arg0 V0)
/-- What `main_arg1` holds at this point. -/
theorem val3_1_main_arg1 (V0 : Valuation τ sig (Elt F)) : val3_1 V0 (no_index (Proc.devRef .tc main_arg1)) = V0 (Proc.devRef .tc main_arg1) :=
  (val3_1_keep V0 main_arg1 (by decide)).trans (val3_main_arg1 V0)
/-- What `main_v10` holds at this point. -/
theorem val3_1_main_v10 (V0 : Valuation τ sig (Elt F)) : val3_1 V0 (no_index (Proc.devRef .tc main_v10)) = res_main_v10 V0 :=
  (val3_1_keep V0 main_v10 (by decide)).trans (val3_main_v10 V0)
/-- What `main_v11` holds at this point. -/
theorem val3_1_main_v11 (V0 : Valuation τ sig (Elt F)) : val3_1 V0 (no_index (Proc.devRef .tc main_v11)) = res_main_v11 V0 :=
  (val3_1_keep V0 main_v11 (by decide)).trans (val3_main_v11 V0)
/-- What `main_v14` holds at this point. -/
theorem val3_1_main_v14 (V0 : Valuation τ sig (Elt F)) : val3_1 V0 (no_index (Proc.devRef .tc main_v14)) = res_main_v14 V0 :=
  (val3_1_keep V0 main_v14 (by decide)).trans (val3_main_v14 V0)
/-- What `main_v16` holds at this point. -/
theorem val3_1_main_v16 (V0 : Valuation τ sig (Elt F)) : val3_1 V0 (no_index (Proc.devRef .tc main_v16)) = res_main_v16 V0 :=
  (val3_1_keep V0 main_v16 (by decide)).trans (val3_main_v16 V0)
/-- What `main_v18` holds at this point. -/
theorem val3_1_main_v18 (V0 : Valuation τ sig (Elt F)) : val3_1 V0 (no_index (Proc.devRef .tc main_v18)) = res_main_v18 V0 :=
  (val3_1_keep V0 main_v18 (by decide)).trans (val3_main_v18 V0)
set_option maxRecDepth 8192 in
set_option maxHeartbeats 2000000 in
/-- What `main_v141` holds at this point. -/
theorem val3_1_main_v141 (V0 : Valuation τ sig (Elt F)) : val3_1 V0 (no_index (Proc.devRef .tc main_v141)) = Host.scatterAdd scatter_S8x128x128x128_S8x128x128x4_S8x128x128_n_0123_0123_3 (res_main_v100 V0) ((concatenate S8x128x128x4 3 [⟨S8x128x128x1, ((broadcastInDim S8x128x128x1 ![0, 1, 2] bcast_S8x128x128_S8x128x128x1_0_1_2 (broadcastInDim S8x128x128 ![0, 1, 2] bcast_S8x1x1_S8x128x128_0_1_2 (select (cmpi .slt (res_main_v14 V0) (broadcastInDim S8x1x1 ![] bcast_S_S8x1x1 (constantI S_ 32 0#32))) (addi (res_main_v14 V0) (broadcastInDim S8x1x1 ![] bcast_S_S8x1x1 (constantI S_ 32 8#32))) (res_main_v14 V0)))) : (⟨S8x128x128x1, .i32⟩ : BufTy).Contents (Elt F))⟩, ⟨S8x128x128x1, ((broadcastInDim S8x128x128x1 ![0, 1, 2] bcast_S8x128x128_S8x128x128x1_0_1_2 (select (cmpi .slt (res_main_v112 V0) (broadcastInDim S8x128x128 ![] bcast_S_S8x128x128 (constantI S_ 32 0#32))) (addi (res_main_v112 V0) (broadcastInDim S8x128x128 ![] bcast_S_S8x128x128 (constantI S_ 32 128#32))) (res_main_v112 V0))) : (⟨S8x128x128x1, .i32⟩ : BufTy).Contents (Elt F))⟩, ⟨S8x128x128x1, ((broadcastInDim S8x128x128x1 ![0, 1, 2] bcast_S8x128x128_S8x128x128x1_0_1_2 (broadcastInDim S8x128x128 ![0, 1, 2] bcast_S1x128x1_S8x128x128_0_1_2 (select (cmpi .slt (res_main_v16 V0) (broadcastInDim S1x128x1 ![] bcast_S_S1x128x1 (constantI S_ 32 0#32))) (addi (res_main_v16 V0) (broadcastInDim S1x128x1 ![] bcast_S_S1x128x1 (constantI S_ 32 128#32))) (res_main_v16 V0)))) : (⟨S8x128x128x1, .i32⟩ : BufTy).Contents (Elt F))⟩, ⟨S8x128x128x1, ((broadcastInDim S8x128x128x1 ![0, 1, 2] bcast_S8x128x128_S8x128x128x1_0_1_2 (broadcastInDim S8x128x128 ![0, 1, 2] bcast_S1x1x128_S8x128x128_0_1_2 (select (cmpi .slt (res_main_v18 V0) (broadcastInDim S1x1x128 ![] bcast_S_S1x1x128 (constantI S_ 32 0#32))) (addi (res_main_v18 V0) (broadcastInDim S1x1x128 ![] bcast_S_S1x1x128 (constantI S_ 32 128#32))) (res_main_v18 V0)))) : (⟨S8x128x128x1, .i32⟩ : BufTy).Contents (Elt F))⟩] concatenates_S8x128x128x1_S8x128x128x1_S8x128x128x1_S8x128x128x1_S8x128x128x4_d3 : (⟨S8x128x128x4, .i32⟩ : BufTy).Contents (Elt F))) (mulf (mulf (res_main_v11 V0) (broadcastInDim S8x128x128 ![] bcast_S_S8x128x128 (constant S_ .f32 0x3F800000#32))) (uitofp .f32 (andi (cmpi .sge (res_main_v102 V0) (broadcastInDim S8x128x128 ![] bcast_S_S8x128x128 (constantI S_ 32 0#32))) (cmpi .slt (res_main_v102 V0) (broadcastInDim S8x128x128 ![] bcast_S_S8x128x128 (constantI S_ 32 128#32)))))) := by
  unfold val3_1
  simp only [ops_part3_0, TRef.binary, TRef.unary, TRef.toBuf, TRef.ofBuf, cast_eq]
  after_results_simp
  try dsimp only [Matrix.cons_val]
  try after_results_simp
  simp only [val3_main_v111, val3_main_v18, val3_main_v131, val3_main_v129, val3_main_v127, val3_main_v122, val3_main_v117, val3_main_v100] <;> rfl
set_option maxRecDepth 8192 in
set_option maxHeartbeats 2000000 in
/-- What `main_v152` holds at this point. -/
theorem val3_1_main_v152 (V0 : Valuation τ sig (Elt F)) : val3_1 V0 (no_index (Proc.devRef .tc main_v152)) = mulf (mulf (res_main_v11 V0) (broadcastInDim S8x128x128 ![] bcast_S_S8x128x128 (constant S_ .f32 0x3F1B4598#32))) (uitofp .f32 (andi (cmpi .sge (res_main_v143 V0) (broadcastInDim S8x128x128 ![] bcast_S_S8x128x128 (constantI S_ 32 0#32))) (cmpi .slt (res_main_v143 V0) (broadcastInDim S8x128x128 ![] bcast_S_S8x128x128 (constantI S_ 32 128#32))))) := by
  unfold val3_1
  simp only [ops_part3_0, TRef.binary, TRef.unary, TRef.toBuf, TRef.ofBuf, cast_eq]
  after_results_simp
  try dsimp only [Matrix.cons_val]
  try after_results_simp
  simp only [val3_main_v10, val3_main_v11] <;> rfl
set_option maxRecDepth 8192 in
set_option maxHeartbeats 2000000 in
/-- What `main_c_51` holds at this point. -/
theorem val3_1_main_c_51 (V0 : Valuation τ sig (Elt F)) : val3_1 V0 (no_index (Proc.devRef .tc main_c_51)) = constantI S_ 32 127#32 := by
  unfold val3_1
  simp only [ops_part3_0, TRef.binary, TRef.unary, TRef.toBuf, TRef.ofBuf, cast_eq]
  after_results_simp
  try dsimp only [Matrix.cons_val]
  try after_results_simp
  all_goals rfl
set_option maxRecDepth 8192 in
set_option maxHeartbeats 2000000 in
/-- What `main_call6_v2` holds at this point. -/
theorem val3_1_main_call6_v2 (V0 : Valuation τ sig (Elt F)) : val3_1 V0 (no_index (Proc.devRef .tc main_call6_v2)) = maxsi (broadcastInDim S8x128x128 ![] bcast_S_S8x128x128 (id (constantI S_ 32 0#32))) (res_main_v143 V0) := by
  unfold val3_1
  simp only [ops_part3_0, TRef.binary, TRef.unary, TRef.toBuf, TRef.ofBuf, cast_eq]
  after_results_simp
  try dsimp only [Matrix.cons_val]
  try after_results_simp
  simp only [val3_main_v10] <;> rfl

/-- The device's buffer contents after @main's first 258 operations. -/
def val3_2 (V0 : Valuation τ sig (Elt F)) : Valuation τ sig (Elt F) := after ops_part3_1 (val3_1 V0)
/-- The buffers that window `ops_part3_1`'s operations write. -/
abbrev ops_part3_1_W : List (Ref sig .tc) := [main_call6_v3, main_call6_v4, main_v153, main_c_52, main_v154, main_v155, main_c_53, main_v156, main_v157, main_v158, main_c_54, main_v159, main_v160, main_c_55, main_v161, main_v162, main_v163, main_c_56, main_v164, main_v165, main_c_57, main_v166, main_v167, main_v168, main_c_58, main_v169, main_v170, main_c_59, main_v171, main_v172]
set_option maxRecDepth 8192 in
/-- These operations write only the buffers listed. -/
theorem ops_part3_1_writes : (ops_part3_1 : List (HloOp τ sig (Elt F))).Forall fun op => op.writes ⊆ (ops_part3_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part3_1` does not write keeps its contents through it. -/
theorem val3_2_keep (V0 : Valuation τ sig (Elt F)) (r : Ref sig .tc) (h : r ∉ ops_part3_1_W) :
    val3_2 V0 (Proc.devRef .tc r) = val3_1 V0 (Proc.devRef .tc r) :=
  after_of_writes_sub ops_part3_1 _ ops_part3_1_writes h
/-- What `main_arg0` holds at this point. -/
theorem val3_2_main_arg0 (V0 : Valuation τ sig (Elt F)) : val3_2 V0 (no_index (Proc.devRef .tc main_arg0)) = V0 (Proc.devRef .tc main_arg0) :=
  (val3_2_keep V0 main_arg0 (by decide)).trans (val3_1_main_arg0 V0)
/-- What `main_arg1` holds at this point. -/
theorem val3_2_main_arg1 (V0 : Valuation τ sig (Elt F)) : val3_2 V0 (no_index (Proc.devRef .tc main_arg1)) = V0 (Proc.devRef .tc main_arg1) :=
  (val3_2_keep V0 main_arg1 (by decide)).trans (val3_1_main_arg1 V0)
/-- What `main_v10` holds at this point. -/
theorem val3_2_main_v10 (V0 : Valuation τ sig (Elt F)) : val3_2 V0 (no_index (Proc.devRef .tc main_v10)) = res_main_v10 V0 :=
  (val3_2_keep V0 main_v10 (by decide)).trans (val3_1_main_v10 V0)
/-- What `main_v11` holds at this point. -/
theorem val3_2_main_v11 (V0 : Valuation τ sig (Elt F)) : val3_2 V0 (no_index (Proc.devRef .tc main_v11)) = res_main_v11 V0 :=
  (val3_2_keep V0 main_v11 (by decide)).trans (val3_1_main_v11 V0)
/-- What `main_v14` holds at this point. -/
theorem val3_2_main_v14 (V0 : Valuation τ sig (Elt F)) : val3_2 V0 (no_index (Proc.devRef .tc main_v14)) = res_main_v14 V0 :=
  (val3_2_keep V0 main_v14 (by decide)).trans (val3_1_main_v14 V0)
/-- What `main_v16` holds at this point. -/
theorem val3_2_main_v16 (V0 : Valuation τ sig (Elt F)) : val3_2 V0 (no_index (Proc.devRef .tc main_v16)) = res_main_v16 V0 :=
  (val3_2_keep V0 main_v16 (by decide)).trans (val3_1_main_v16 V0)
/-- What `main_v18` holds at this point. -/
theorem val3_2_main_v18 (V0 : Valuation τ sig (Elt F)) : val3_2 V0 (no_index (Proc.devRef .tc main_v18)) = res_main_v18 V0 :=
  (val3_2_keep V0 main_v18 (by decide)).trans (val3_1_main_v18 V0)
/-- What `main_v141` holds at this point. -/
theorem val3_2_main_v141 (V0 : Valuation τ sig (Elt F)) : val3_2 V0 (no_index (Proc.devRef .tc main_v141)) = Host.scatterAdd scatter_S8x128x128x128_S8x128x128x4_S8x128x128_n_0123_0123_3 (res_main_v100 V0) ((concatenate S8x128x128x4 3 [⟨S8x128x128x1, ((broadcastInDim S8x128x128x1 ![0, 1, 2] bcast_S8x128x128_S8x128x128x1_0_1_2 (broadcastInDim S8x128x128 ![0, 1, 2] bcast_S8x1x1_S8x128x128_0_1_2 (select (cmpi .slt (res_main_v14 V0) (broadcastInDim S8x1x1 ![] bcast_S_S8x1x1 (constantI S_ 32 0#32))) (addi (res_main_v14 V0) (broadcastInDim S8x1x1 ![] bcast_S_S8x1x1 (constantI S_ 32 8#32))) (res_main_v14 V0)))) : (⟨S8x128x128x1, .i32⟩ : BufTy).Contents (Elt F))⟩, ⟨S8x128x128x1, ((broadcastInDim S8x128x128x1 ![0, 1, 2] bcast_S8x128x128_S8x128x128x1_0_1_2 (select (cmpi .slt (res_main_v112 V0) (broadcastInDim S8x128x128 ![] bcast_S_S8x128x128 (constantI S_ 32 0#32))) (addi (res_main_v112 V0) (broadcastInDim S8x128x128 ![] bcast_S_S8x128x128 (constantI S_ 32 128#32))) (res_main_v112 V0))) : (⟨S8x128x128x1, .i32⟩ : BufTy).Contents (Elt F))⟩, ⟨S8x128x128x1, ((broadcastInDim S8x128x128x1 ![0, 1, 2] bcast_S8x128x128_S8x128x128x1_0_1_2 (broadcastInDim S8x128x128 ![0, 1, 2] bcast_S1x128x1_S8x128x128_0_1_2 (select (cmpi .slt (res_main_v16 V0) (broadcastInDim S1x128x1 ![] bcast_S_S1x128x1 (constantI S_ 32 0#32))) (addi (res_main_v16 V0) (broadcastInDim S1x128x1 ![] bcast_S_S1x128x1 (constantI S_ 32 128#32))) (res_main_v16 V0)))) : (⟨S8x128x128x1, .i32⟩ : BufTy).Contents (Elt F))⟩, ⟨S8x128x128x1, ((broadcastInDim S8x128x128x1 ![0, 1, 2] bcast_S8x128x128_S8x128x128x1_0_1_2 (broadcastInDim S8x128x128 ![0, 1, 2] bcast_S1x1x128_S8x128x128_0_1_2 (select (cmpi .slt (res_main_v18 V0) (broadcastInDim S1x1x128 ![] bcast_S_S1x1x128 (constantI S_ 32 0#32))) (addi (res_main_v18 V0) (broadcastInDim S1x1x128 ![] bcast_S_S1x1x128 (constantI S_ 32 128#32))) (res_main_v18 V0)))) : (⟨S8x128x128x1, .i32⟩ : BufTy).Contents (Elt F))⟩] concatenates_S8x128x128x1_S8x128x128x1_S8x128x128x1_S8x128x128x1_S8x128x128x4_d3 : (⟨S8x128x128x4, .i32⟩ : BufTy).Contents (Elt F))) (mulf (mulf (res_main_v11 V0) (broadcastInDim S8x128x128 ![] bcast_S_S8x128x128 (constant S_ .f32 0x3F800000#32))) (uitofp .f32 (andi (cmpi .sge (res_main_v102 V0) (broadcastInDim S8x128x128 ![] bcast_S_S8x128x128 (constantI S_ 32 0#32))) (cmpi .slt (res_main_v102 V0) (broadcastInDim S8x128x128 ![] bcast_S_S8x128x128 (constantI S_ 32 128#32)))))) :=
  (val3_2_keep V0 main_v141 (by decide)).trans (val3_1_main_v141 V0)
/-- What `main_v152` holds at this point. -/
theorem val3_2_main_v152 (V0 : Valuation τ sig (Elt F)) : val3_2 V0 (no_index (Proc.devRef .tc main_v152)) = mulf (mulf (res_main_v11 V0) (broadcastInDim S8x128x128 ![] bcast_S_S8x128x128 (constant S_ .f32 0x3F1B4598#32))) (uitofp .f32 (andi (cmpi .sge (res_main_v143 V0) (broadcastInDim S8x128x128 ![] bcast_S_S8x128x128 (constantI S_ 32 0#32))) (cmpi .slt (res_main_v143 V0) (broadcastInDim S8x128x128 ![] bcast_S_S8x128x128 (constantI S_ 32 128#32))))) :=
  (val3_2_keep V0 main_v152 (by decide)).trans (val3_1_main_v152 V0)
set_option maxRecDepth 8192 in
set_option maxHeartbeats 2000000 in
/-- What `main_v158` holds at this point. -/
theorem val3_2_main_v158 (V0 : Valuation τ sig (Elt F)) : val3_2 V0 (no_index (Proc.devRef .tc main_v158)) = select (cmpi .slt (res_main_v14 V0) (broadcastInDim S8x1x1 ![] bcast_S_S8x1x1 (constantI S_ 32 0#32))) (addi (res_main_v14 V0) (broadcastInDim S8x1x1 ![] bcast_S_S8x1x1 (constantI S_ 32 8#32))) (res_main_v14 V0) := by
  unfold val3_2
  simp only [ops_part3_1, TRef.binary, TRef.unary, TRef.toBuf, TRef.ofBuf, cast_eq]
  after_results_simp
  simp only [val3_1_main_v14] <;> rfl
set_option maxRecDepth 8192 in
set_option maxHeartbeats 2000000 in
/-- What `main_v163` holds at this point. -/
theorem val3_2_main_v163 (V0 : Valuation τ sig (Elt F)) : val3_2 V0 (no_index (Proc.devRef .tc main_v163)) = select (cmpi .slt (res_main_v153 V0) (broadcastInDim S8x128x128 ![] bcast_S_S8x128x128 (constantI S_ 32 0#32))) (addi (res_main_v153 V0) (broadcastInDim S8x128x128 ![] bcast_S_S8x128x128 (constantI S_ 32 128#32))) (res_main_v153 V0) := by
  unfold val3_2
  simp only [ops_part3_1, TRef.binary, TRef.unary, TRef.toBuf, TRef.ofBuf, cast_eq]
  after_results_simp
  simp only [val3_1_main_call6_v2, val3_1_main_c_51] <;> rfl
set_option maxRecDepth 8192 in
set_option maxHeartbeats 2000000 in
/-- What `main_v168` holds at this point. -/
theorem val3_2_main_v168 (V0 : Valuation τ sig (Elt F)) : val3_2 V0 (no_index (Proc.devRef .tc main_v168)) = select (cmpi .slt (res_main_v16 V0) (broadcastInDim S1x128x1 ![] bcast_S_S1x128x1 (constantI S_ 32 0#32))) (addi (res_main_v16 V0) (broadcastInDim S1x128x1 ![] bcast_S_S1x128x1 (constantI S_ 32 128#32))) (res_main_v16 V0) := by
  unfold val3_2
  simp only [ops_part3_1, TRef.binary, TRef.unary, TRef.toBuf, TRef.ofBuf, cast_eq]
  after_results_simp
  simp only [val3_1_main_v16] <;> rfl
set_option maxRecDepth 8192 in
set_option maxHeartbeats 2000000 in
/-- What `main_v170` holds at this point. -/
theorem val3_2_main_v170 (V0 : Valuation τ sig (Elt F)) : val3_2 V0 (no_index (Proc.devRef .tc main_v170)) = cmpi .slt (res_main_v18 V0) (broadcastInDim S1x1x128 ![] bcast_S_S1x1x128 (constantI S_ 32 0#32)) := by
  unfold val3_2
  simp only [ops_part3_1, TRef.binary, TRef.unary, TRef.toBuf, TRef.ofBuf, cast_eq]
  after_results_simp
  simp only [val3_1_main_v18] <;> rfl
set_option maxRecDepth 8192 in
set_option maxHeartbeats 2000000 in
/-- What `main_v172` holds at this point. -/
theorem val3_2_main_v172 (V0 : Valuation τ sig (Elt F)) : val3_2 V0 (no_index (Proc.devRef .tc main_v172)) = addi (res_main_v18 V0) (broadcastInDim S1x1x128 ![] bcast_S_S1x1x128 (constantI S_ 32 128#32)) := by
  unfold val3_2
  simp only [ops_part3_1, TRef.binary, TRef.unary, TRef.toBuf, TRef.ofBuf, cast_eq]
  after_results_simp
  simp only [val3_1_main_v18] <;> rfl

/-- The device's buffer contents after @main's first 4 windows. -/
def val4 (V0 : Valuation τ sig (Elt F)) : Valuation τ sig (Elt F) := after ops_part3_2 (val3_2 V0)
/-- The buffers that window `ops_part3_2`'s operations write. -/
abbrev ops_part3_2_W : List (Ref sig .tc) := [main_v173, main_v174, main_v175, main_v176, main_v177]
set_option maxRecDepth 8192 in
/-- These operations write only the buffers listed. -/
theorem ops_part3_2_writes : (ops_part3_2 : List (HloOp τ sig (Elt F))).Forall fun op => op.writes ⊆ (ops_part3_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part3_2` does not write keeps its contents through it. -/
theorem val4_keep (V0 : Valuation τ sig (Elt F)) (r : Ref sig .tc) (h : r ∉ ops_part3_2_W) :
    val4 V0 (Proc.devRef .tc r) = val3_2 V0 (Proc.devRef .tc r) :=
  after_of_writes_sub ops_part3_2 _ ops_part3_2_writes h
/-- What `main_arg0` holds at this point. -/
theorem val4_main_arg0 (V0 : Valuation τ sig (Elt F)) : val4 V0 (no_index (Proc.devRef .tc main_arg0)) = V0 (Proc.devRef .tc main_arg0) :=
  (val4_keep V0 main_arg0 (by decide)).trans (val3_2_main_arg0 V0)
/-- What `main_arg1` holds at this point. -/
theorem val4_main_arg1 (V0 : Valuation τ sig (Elt F)) : val4 V0 (no_index (Proc.devRef .tc main_arg1)) = V0 (Proc.devRef .tc main_arg1) :=
  (val4_keep V0 main_arg1 (by decide)).trans (val3_2_main_arg1 V0)
/-- What `main_v10` holds at this point. -/
theorem val4_main_v10 (V0 : Valuation τ sig (Elt F)) : val4 V0 (no_index (Proc.devRef .tc main_v10)) = res_main_v10 V0 :=
  (val4_keep V0 main_v10 (by decide)).trans (val3_2_main_v10 V0)
/-- What `main_v11` holds at this point. -/
theorem val4_main_v11 (V0 : Valuation τ sig (Elt F)) : val4 V0 (no_index (Proc.devRef .tc main_v11)) = res_main_v11 V0 :=
  (val4_keep V0 main_v11 (by decide)).trans (val3_2_main_v11 V0)
/-- What `main_v14` holds at this point. -/
theorem val4_main_v14 (V0 : Valuation τ sig (Elt F)) : val4 V0 (no_index (Proc.devRef .tc main_v14)) = res_main_v14 V0 :=
  (val4_keep V0 main_v14 (by decide)).trans (val3_2_main_v14 V0)
/-- What `main_v16` holds at this point. -/
theorem val4_main_v16 (V0 : Valuation τ sig (Elt F)) : val4 V0 (no_index (Proc.devRef .tc main_v16)) = res_main_v16 V0 :=
  (val4_keep V0 main_v16 (by decide)).trans (val3_2_main_v16 V0)
/-- What `main_v18` holds at this point. -/
theorem val4_main_v18 (V0 : Valuation τ sig (Elt F)) : val4 V0 (no_index (Proc.devRef .tc main_v18)) = res_main_v18 V0 :=
  (val4_keep V0 main_v18 (by decide)).trans (val3_2_main_v18 V0)
/-- What `main_v141` holds at this point. -/
theorem val4_main_v141 (V0 : Valuation τ sig (Elt F)) : val4 V0 (no_index (Proc.devRef .tc main_v141)) = Host.scatterAdd scatter_S8x128x128x128_S8x128x128x4_S8x128x128_n_0123_0123_3 (res_main_v100 V0) ((concatenate S8x128x128x4 3 [⟨S8x128x128x1, ((broadcastInDim S8x128x128x1 ![0, 1, 2] bcast_S8x128x128_S8x128x128x1_0_1_2 (broadcastInDim S8x128x128 ![0, 1, 2] bcast_S8x1x1_S8x128x128_0_1_2 (select (cmpi .slt (res_main_v14 V0) (broadcastInDim S8x1x1 ![] bcast_S_S8x1x1 (constantI S_ 32 0#32))) (addi (res_main_v14 V0) (broadcastInDim S8x1x1 ![] bcast_S_S8x1x1 (constantI S_ 32 8#32))) (res_main_v14 V0)))) : (⟨S8x128x128x1, .i32⟩ : BufTy).Contents (Elt F))⟩, ⟨S8x128x128x1, ((broadcastInDim S8x128x128x1 ![0, 1, 2] bcast_S8x128x128_S8x128x128x1_0_1_2 (select (cmpi .slt (res_main_v112 V0) (broadcastInDim S8x128x128 ![] bcast_S_S8x128x128 (constantI S_ 32 0#32))) (addi (res_main_v112 V0) (broadcastInDim S8x128x128 ![] bcast_S_S8x128x128 (constantI S_ 32 128#32))) (res_main_v112 V0))) : (⟨S8x128x128x1, .i32⟩ : BufTy).Contents (Elt F))⟩, ⟨S8x128x128x1, ((broadcastInDim S8x128x128x1 ![0, 1, 2] bcast_S8x128x128_S8x128x128x1_0_1_2 (broadcastInDim S8x128x128 ![0, 1, 2] bcast_S1x128x1_S8x128x128_0_1_2 (select (cmpi .slt (res_main_v16 V0) (broadcastInDim S1x128x1 ![] bcast_S_S1x128x1 (constantI S_ 32 0#32))) (addi (res_main_v16 V0) (broadcastInDim S1x128x1 ![] bcast_S_S1x128x1 (constantI S_ 32 128#32))) (res_main_v16 V0)))) : (⟨S8x128x128x1, .i32⟩ : BufTy).Contents (Elt F))⟩, ⟨S8x128x128x1, ((broadcastInDim S8x128x128x1 ![0, 1, 2] bcast_S8x128x128_S8x128x128x1_0_1_2 (broadcastInDim S8x128x128 ![0, 1, 2] bcast_S1x1x128_S8x128x128_0_1_2 (select (cmpi .slt (res_main_v18 V0) (broadcastInDim S1x1x128 ![] bcast_S_S1x1x128 (constantI S_ 32 0#32))) (addi (res_main_v18 V0) (broadcastInDim S1x1x128 ![] bcast_S_S1x1x128 (constantI S_ 32 128#32))) (res_main_v18 V0)))) : (⟨S8x128x128x1, .i32⟩ : BufTy).Contents (Elt F))⟩] concatenates_S8x128x128x1_S8x128x128x1_S8x128x128x1_S8x128x128x1_S8x128x128x4_d3 : (⟨S8x128x128x4, .i32⟩ : BufTy).Contents (Elt F))) (mulf (mulf (res_main_v11 V0) (broadcastInDim S8x128x128 ![] bcast_S_S8x128x128 (constant S_ .f32 0x3F800000#32))) (uitofp .f32 (andi (cmpi .sge (res_main_v102 V0) (broadcastInDim S8x128x128 ![] bcast_S_S8x128x128 (constantI S_ 32 0#32))) (cmpi .slt (res_main_v102 V0) (broadcastInDim S8x128x128 ![] bcast_S_S8x128x128 (constantI S_ 32 128#32)))))) :=
  (val4_keep V0 main_v141 (by decide)).trans (val3_2_main_v141 V0)
/-- What `main_v152` holds at this point. -/
theorem val4_main_v152 (V0 : Valuation τ sig (Elt F)) : val4 V0 (no_index (Proc.devRef .tc main_v152)) = mulf (mulf (res_main_v11 V0) (broadcastInDim S8x128x128 ![] bcast_S_S8x128x128 (constant S_ .f32 0x3F1B4598#32))) (uitofp .f32 (andi (cmpi .sge (res_main_v143 V0) (broadcastInDim S8x128x128 ![] bcast_S_S8x128x128 (constantI S_ 32 0#32))) (cmpi .slt (res_main_v143 V0) (broadcastInDim S8x128x128 ![] bcast_S_S8x128x128 (constantI S_ 32 128#32))))) :=
  (val4_keep V0 main_v152 (by decide)).trans (val3_2_main_v152 V0)
/-- What `main_v163` holds at this point. -/
theorem val4_main_v163 (V0 : Valuation τ sig (Elt F)) : val4 V0 (no_index (Proc.devRef .tc main_v163)) = select (cmpi .slt (res_main_v153 V0) (broadcastInDim S8x128x128 ![] bcast_S_S8x128x128 (constantI S_ 32 0#32))) (addi (res_main_v153 V0) (broadcastInDim S8x128x128 ![] bcast_S_S8x128x128 (constantI S_ 32 128#32))) (res_main_v153 V0) :=
  (val4_keep V0 main_v163 (by decide)).trans (val3_2_main_v163 V0)
set_option maxRecDepth 8192 in
/-- What `main_v175` holds at this point. -/
theorem val4_main_v175 (V0 : Valuation τ sig (Elt F)) : val4 V0 (no_index (Proc.devRef .tc main_v175)) = broadcastInDim S8x128x128 ![0, 1, 2] bcast_S1x128x1_S8x128x128_0_1_2 (select (cmpi .slt (res_main_v16 V0) (broadcastInDim S1x128x1 ![] bcast_S_S1x128x1 (constantI S_ 32 0#32))) (addi (res_main_v16 V0) (broadcastInDim S1x128x1 ![] bcast_S_S1x128x1 (constantI S_ 32 128#32))) (res_main_v16 V0)) := by
  unfold val4
  simp only [ops_part3_2]
  after_results_simp
  simp only [val3_2_main_v168] <;> rfl
set_option maxRecDepth 8192 in
/-- What `main_v176` holds at this point. -/
theorem val4_main_v176 (V0 : Valuation τ sig (Elt F)) : val4 V0 (no_index (Proc.devRef .tc main_v176)) = broadcastInDim S8x128x128 ![0, 1, 2] bcast_S1x1x128_S8x128x128_0_1_2 (select (cmpi .slt (res_main_v18 V0) (broadcastInDim S1x1x128 ![] bcast_S_S1x1x128 (constantI S_ 32 0#32))) (addi (res_main_v18 V0) (broadcastInDim S1x1x128 ![] bcast_S_S1x1x128 (constantI S_ 32 128#32))) (res_main_v18 V0)) := by
  unfold val4
  simp only [ops_part3_2]
  after_results_simp
  simp only [val3_2_main_v18, val3_2_main_v172, val3_2_main_v170] <;> rfl
set_option maxRecDepth 8192 in
/-- What `main_v177` holds at this point. -/
theorem val4_main_v177 (V0 : Valuation τ sig (Elt F)) : val4 V0 (no_index (Proc.devRef .tc main_v177)) = broadcastInDim S8x128x128x1 ![0, 1, 2] bcast_S8x128x128_S8x128x128x1_0_1_2 (broadcastInDim S8x128x128 ![0, 1, 2] bcast_S8x1x1_S8x128x128_0_1_2 (select (cmpi .slt (res_main_v14 V0) (broadcastInDim S8x1x1 ![] bcast_S_S8x1x1 (constantI S_ 32 0#32))) (addi (res_main_v14 V0) (broadcastInDim S8x1x1 ![] bcast_S_S8x1x1 (constantI S_ 32 8#32))) (res_main_v14 V0))) := by
  unfold val4
  simp only [ops_part3_2]
  after_results_simp
  simp only [val3_2_main_v158] <;> rfl

/-- The device's buffer contents after @main's first 293 operations. -/
def val4_1 (V0 : Valuation τ sig (Elt F)) : Valuation τ sig (Elt F) := after ops_part4_0 (val4 V0)
/-- The buffers that window `ops_part4_0`'s operations write. -/
abbrev ops_part4_0_W : List (Ref sig .tc) := [main_v178, main_v179, main_v180, main_v181, main_v182, main_c_60, main_v183, main_v184, main_c_61, main_v185, main_v186, main_c_62, main_v187, main_v188, main_v189, main_cst_63, main_v190, main_v191, main_v192, main_v193, main_c_64, main_c_65, main_call7_v0, main_call7_v1, main_call7_v2, main_call7_v3, main_call7_v4, main_v194, main_c_66, main_v195]
set_option maxRecDepth 8192 in
/-- These operations write only the buffers listed. -/
theorem ops_part4_0_writes : (ops_part4_0 : List (HloOp τ sig (Elt F))).Forall fun op => op.writes ⊆ (ops_part4_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part4_0` does not write keeps its contents through it. -/
theorem val4_1_keep (V0 : Valuation τ sig (Elt F)) (r : Ref sig .tc) (h : r ∉ ops_part4_0_W) :
    val4_1 V0 (Proc.devRef .tc r) = val4 V0 (Proc.devRef .tc r) :=
  after_of_writes_sub ops_part4_0 _ ops_part4_0_writes h
/-- What `main_arg0` holds at this point. -/
theorem val4_1_main_arg0 (V0 : Valuation τ sig (Elt F)) : val4_1 V0 (no_index (Proc.devRef .tc main_arg0)) = V0 (Proc.devRef .tc main_arg0) :=
  (val4_1_keep V0 main_arg0 (by decide)).trans (val4_main_arg0 V0)
/-- What `main_arg1` holds at this point. -/
theorem val4_1_main_arg1 (V0 : Valuation τ sig (Elt F)) : val4_1 V0 (no_index (Proc.devRef .tc main_arg1)) = V0 (Proc.devRef .tc main_arg1) :=
  (val4_1_keep V0 main_arg1 (by decide)).trans (val4_main_arg1 V0)
/-- What `main_v14` holds at this point. -/
theorem val4_1_main_v14 (V0 : Valuation τ sig (Elt F)) : val4_1 V0 (no_index (Proc.devRef .tc main_v14)) = res_main_v14 V0 :=
  (val4_1_keep V0 main_v14 (by decide)).trans (val4_main_v14 V0)
/-- What `main_v16` holds at this point. -/
theorem val4_1_main_v16 (V0 : Valuation τ sig (Elt F)) : val4_1 V0 (no_index (Proc.devRef .tc main_v16)) = res_main_v16 V0 :=
  (val4_1_keep V0 main_v16 (by decide)).trans (val4_main_v16 V0)
/-- What `main_v18` holds at this point. -/
theorem val4_1_main_v18 (V0 : Valuation τ sig (Elt F)) : val4_1 V0 (no_index (Proc.devRef .tc main_v18)) = res_main_v18 V0 :=
  (val4_1_keep V0 main_v18 (by decide)).trans (val4_main_v18 V0)
set_option maxRecDepth 8192 in
set_option maxHeartbeats 2000000 in
/-- What `main_v182` holds at this point. -/
theorem val4_1_main_v182 (V0 : Valuation τ sig (Elt F)) : val4_1 V0 (no_index (Proc.devRef .tc main_v182)) = res_main_v182 V0 := by
  unfold val4_1
  simp only [ops_part4_0, TRef.binary, TRef.unary, TRef.toBuf, TRef.ofBuf, cast_eq]
  after_results_simp
  try dsimp only [Matrix.cons_val]
  try after_results_simp
  simp only [val4_main_v152, val4_main_v176, val4_main_v175, val4_main_v163, val4_main_v177, val4_main_v141] <;> rfl
set_option maxRecDepth 8192 in
set_option maxHeartbeats 2000000 in
/-- What `main_v193` holds at this point. -/
theorem val4_1_main_v193 (V0 : Valuation τ sig (Elt F)) : val4_1 V0 (no_index (Proc.devRef .tc main_v193)) = mulf (mulf (res_main_v11 V0) (broadcastInDim S8x128x128 ![] bcast_S_S8x128x128 (constant S_ .f32 0x3E0A9555#32))) (uitofp .f32 (andi (cmpi .sge (res_main_v184 V0) (broadcastInDim S8x128x128 ![] bcast_S_S8x128x128 (constantI S_ 32 0#32))) (cmpi .slt (res_main_v184 V0) (broadcastInDim S8x128x128 ![] bcast_S_S8x128x128 (constantI S_ 32 128#32))))) := by
  unfold val4_1
  simp only [ops_part4_0, TRef.binary, TRef.unary, TRef.toBuf, TRef.ofBuf, cast_eq]
  after_results_simp
  try dsimp only [Matrix.cons_val]
  try after_results_simp
  simp only [val4_main_v10, val4_main_v11] <;> rfl
set_option maxRecDepth 8192 in
set_option maxHeartbeats 2000000 in
/-- What `main_v194` holds at this point. -/
theorem val4_1_main_v194 (V0 : Valuation τ sig (Elt F)) : val4_1 V0 (no_index (Proc.devRef .tc main_v194)) = res_main_v194 V0 := by
  unfold val4_1
  simp only [ops_part4_0, TRef.binary, TRef.unary, TRef.toBuf, TRef.ofBuf, cast_eq]
  after_results_simp
  try dsimp only [Matrix.cons_val]
  try after_results_simp
  simp only [val4_main_v10] <;> rfl
set_option maxRecDepth 8192 in
set_option maxHeartbeats 2000000 in
/-- What `main_v195` holds at this point. -/
theorem val4_1_main_v195 (V0 : Valuation τ sig (Elt F)) : val4_1 V0 (no_index (Proc.devRef .tc main_v195)) = broadcastInDim S8x1x1 ![] bcast_S_S8x1x1 (constantI S_ 32 0#32) := by
  unfold val4_1
  simp only [ops_part4_0, TRef.binary, TRef.unary, TRef.toBuf, TRef.ofBuf, cast_eq]
  after_results_simp
  try dsimp only [Matrix.cons_val]
  try after_results_simp
  all_goals rfl

/-- The device's buffer contents after @main's first 323 operations. -/
def val4_2 (V0 : Valuation τ sig (Elt F)) : Valuation τ sig (Elt F) := after ops_part4_1 (val4_1 V0)
/-- The buffers that window `ops_part4_1`'s operations write. -/
abbrev ops_part4_1_W : List (Ref sig .tc) := [main_v196, main_c_67, main_v197, main_v198, main_v199, main_c_68, main_v200, main_v201, main_c_69, main_v202, main_v203, main_v204, main_c_70, main_v205, main_v206, main_c_71, main_v207, main_v208, main_v209, main_c_72, main_v210, main_v211, main_c_73, main_v212, main_v213, main_v214, main_v215, main_v216, main_v217, main_v218]
set_option maxRecDepth 8192 in
/-- These operations write only the buffers listed. -/
theorem ops_part4_1_writes : (ops_part4_1 : List (HloOp τ sig (Elt F))).Forall fun op => op.writes ⊆ (ops_part4_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part4_1` does not write keeps its contents through it. -/
theorem val4_2_keep (V0 : Valuation τ sig (Elt F)) (r : Ref sig .tc) (h : r ∉ ops_part4_1_W) :
    val4_2 V0 (Proc.devRef .tc r) = val4_1 V0 (Proc.devRef .tc r) :=
  after_of_writes_sub ops_part4_1 _ ops_part4_1_writes h
/-- What `main_arg0` holds at this point. -/
theorem val4_2_main_arg0 (V0 : Valuation τ sig (Elt F)) : val4_2 V0 (no_index (Proc.devRef .tc main_arg0)) = V0 (Proc.devRef .tc main_arg0) :=
  (val4_2_keep V0 main_arg0 (by decide)).trans (val4_1_main_arg0 V0)
/-- What `main_arg1` holds at this point. -/
theorem val4_2_main_arg1 (V0 : Valuation τ sig (Elt F)) : val4_2 V0 (no_index (Proc.devRef .tc main_arg1)) = V0 (Proc.devRef .tc main_arg1) :=
  (val4_2_keep V0 main_arg1 (by decide)).trans (val4_1_main_arg1 V0)
/-- What `main_v182` holds at this point. -/
theorem val4_2_main_v182 (V0 : Valuation τ sig (Elt F)) : val4_2 V0 (no_index (Proc.devRef .tc main_v182)) = res_main_v182 V0 :=
  (val4_2_keep V0 main_v182 (by decide)).trans (val4_1_main_v182 V0)
/-- What `main_v193` holds at this point. -/
theorem val4_2_main_v193 (V0 : Valuation τ sig (Elt F)) : val4_2 V0 (no_index (Proc.devRef .tc main_v193)) = mulf (mulf (res_main_v11 V0) (broadcastInDim S8x128x128 ![] bcast_S_S8x128x128 (constant S_ .f32 0x3E0A9555#32))) (uitofp .f32 (andi (cmpi .sge (res_main_v184 V0) (broadcastInDim S8x128x128 ![] bcast_S_S8x128x128 (constantI S_ 32 0#32))) (cmpi .slt (res_main_v184 V0) (broadcastInDim S8x128x128 ![] bcast_S_S8x128x128 (constantI S_ 32 128#32))))) :=
  (val4_2_keep V0 main_v193 (by decide)).trans (val4_1_main_v193 V0)
set_option maxRecDepth 8192 in
set_option maxHeartbeats 2000000 in
/-- What `main_v204` holds at this point. -/
theorem val4_2_main_v204 (V0 : Valuation τ sig (Elt F)) : val4_2 V0 (no_index (Proc.devRef .tc main_v204)) = select (cmpi .slt (res_main_v194 V0) (broadcastInDim S8x128x128 ![] bcast_S_S8x128x128 (constantI S_ 32 0#32))) (addi (res_main_v194 V0) (broadcastInDim S8x128x128 ![] bcast_S_S8x128x128 (constantI S_ 32 128#32))) (res_main_v194 V0) := by
  unfold val4_2
  simp only [ops_part4_1]
  after_results_simp
  simp only [val4_1_main_v194] <;> rfl
set_option maxRecDepth 8192 in
set_option maxHeartbeats 2000000 in
/-- What `main_v216` holds at this point. -/
theorem val4_2_main_v216 (V0 : Valuation τ sig (Elt F)) : val4_2 V0 (no_index (Proc.devRef .tc main_v216)) = broadcastInDim S8x128x128 ![0, 1, 2] bcast_S1x128x1_S8x128x128_0_1_2 (select (cmpi .slt (res_main_v16 V0) (broadcastInDim S1x128x1 ![] bcast_S_S1x128x1 (constantI S_ 32 0#32))) (addi (res_main_v16 V0) (broadcastInDim S1x128x1 ![] bcast_S_S1x128x1 (constantI S_ 32 128#32))) (res_main_v16 V0)) := by
  unfold val4_2
  simp only [ops_part4_1]
  after_results_simp
  simp only [val4_1_main_v16] <;> rfl
set_option maxRecDepth 8192 in
set_option maxHeartbeats 2000000 in
/-- What `main_v217` holds at this point. -/
theorem val4_2_main_v217 (V0 : Valuation τ sig (Elt F)) : val4_2 V0 (no_index (Proc.devRef .tc main_v217)) = broadcastInDim S8x128x128 ![0, 1, 2] bcast_S1x1x128_S8x128x128_0_1_2 (select (cmpi .slt (res_main_v18 V0) (broadcastInDim S1x1x128 ![] bcast_S_S1x1x128 (constantI S_ 32 0#32))) (addi (res_main_v18 V0) (broadcastInDim S1x1x128 ![] bcast_S_S1x1x128 (constantI S_ 32 128#32))) (res_main_v18 V0)) := by
  unfold val4_2
  simp only [ops_part4_1]
  after_results_simp
  simp only [val4_1_main_v18] <;> rfl
set_option maxRecDepth 8192 in
set_option maxHeartbeats 2000000 in
/-- What `main_v218` holds at this point. -/
theorem val4_2_main_v218 (V0 : Valuation τ sig (Elt F)) : val4_2 V0 (no_index (Proc.devRef .tc main_v218)) = broadcastInDim S8x128x128x1 ![0, 1, 2] bcast_S8x128x128_S8x128x128x1_0_1_2 (broadcastInDim S8x128x128 ![0, 1, 2] bcast_S8x1x1_S8x128x128_0_1_2 (select (cmpi .slt (res_main_v14 V0) (broadcastInDim S8x1x1 ![] bcast_S_S8x1x1 (constantI S_ 32 0#32))) (addi (res_main_v14 V0) (broadcastInDim S8x1x1 ![] bcast_S_S8x1x1 (constantI S_ 32 8#32))) (res_main_v14 V0))) := by
  unfold val4_2
  simp only [ops_part4_1]
  after_results_simp
  simp only [val4_1_main_v14, val4_1_main_v195] <;> rfl

/-- The device's buffer contents after @main's first 5 windows. -/
def val5 (V0 : Valuation τ sig (Elt F)) : Valuation τ sig (Elt F) := after ops_part4_2 (val4_2 V0)
/-- The buffers that window `ops_part4_2`'s operations write. -/
abbrev ops_part4_2_W : List (Ref sig .tc) := [main_v219, main_v220, main_v221, main_v222, main_v223]
set_option maxRecDepth 8192 in
/-- These operations write only the buffers listed. -/
theorem ops_part4_2_writes : (ops_part4_2 : List (HloOp τ sig (Elt F))).Forall fun op => op.writes ⊆ (ops_part4_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part4_2` does not write keeps its contents through it. -/
theorem val5_keep (V0 : Valuation τ sig (Elt F)) (r : Ref sig .tc) (h : r ∉ ops_part4_2_W) :
    val5 V0 (Proc.devRef .tc r) = val4_2 V0 (Proc.devRef .tc r) :=
  after_of_writes_sub ops_part4_2 _ ops_part4_2_writes h
/-- What `main_arg0` holds at this point. -/
theorem val5_main_arg0 (V0 : Valuation τ sig (Elt F)) : val5 V0 (no_index (Proc.devRef .tc main_arg0)) = V0 (Proc.devRef .tc main_arg0) :=
  (val5_keep V0 main_arg0 (by decide)).trans (val4_2_main_arg0 V0)
/-- What `main_arg1` holds at this point. -/
theorem val5_main_arg1 (V0 : Valuation τ sig (Elt F)) : val5 V0 (no_index (Proc.devRef .tc main_arg1)) = V0 (Proc.devRef .tc main_arg1) :=
  (val5_keep V0 main_arg1 (by decide)).trans (val4_2_main_arg1 V0)
set_option maxRecDepth 8192 in
/-- What `main_v223` holds at this point. -/
theorem val5_main_v223 (V0 : Valuation τ sig (Elt F)) : val5 V0 (no_index (Proc.devRef .tc main_v223)) = Host.scatterAdd scatter_S8x128x128x128_S8x128x128x4_S8x128x128_n_0123_0123_3 (res_main_v182 V0) ((concatenate S8x128x128x4 3 [⟨S8x128x128x1, ((broadcastInDim S8x128x128x1 ![0, 1, 2] bcast_S8x128x128_S8x128x128x1_0_1_2 (broadcastInDim S8x128x128 ![0, 1, 2] bcast_S8x1x1_S8x128x128_0_1_2 (select (cmpi .slt (res_main_v14 V0) (broadcastInDim S8x1x1 ![] bcast_S_S8x1x1 (constantI S_ 32 0#32))) (addi (res_main_v14 V0) (broadcastInDim S8x1x1 ![] bcast_S_S8x1x1 (constantI S_ 32 8#32))) (res_main_v14 V0)))) : (⟨S8x128x128x1, .i32⟩ : BufTy).Contents (Elt F))⟩, ⟨S8x128x128x1, ((broadcastInDim S8x128x128x1 ![0, 1, 2] bcast_S8x128x128_S8x128x128x1_0_1_2 (select (cmpi .slt (res_main_v194 V0) (broadcastInDim S8x128x128 ![] bcast_S_S8x128x128 (constantI S_ 32 0#32))) (addi (res_main_v194 V0) (broadcastInDim S8x128x128 ![] bcast_S_S8x128x128 (constantI S_ 32 128#32))) (res_main_v194 V0))) : (⟨S8x128x128x1, .i32⟩ : BufTy).Contents (Elt F))⟩, ⟨S8x128x128x1, ((broadcastInDim S8x128x128x1 ![0, 1, 2] bcast_S8x128x128_S8x128x128x1_0_1_2 (broadcastInDim S8x128x128 ![0, 1, 2] bcast_S1x128x1_S8x128x128_0_1_2 (select (cmpi .slt (res_main_v16 V0) (broadcastInDim S1x128x1 ![] bcast_S_S1x128x1 (constantI S_ 32 0#32))) (addi (res_main_v16 V0) (broadcastInDim S1x128x1 ![] bcast_S_S1x128x1 (constantI S_ 32 128#32))) (res_main_v16 V0)))) : (⟨S8x128x128x1, .i32⟩ : BufTy).Contents (Elt F))⟩, ⟨S8x128x128x1, ((broadcastInDim S8x128x128x1 ![0, 1, 2] bcast_S8x128x128_S8x128x128x1_0_1_2 (broadcastInDim S8x128x128 ![0, 1, 2] bcast_S1x1x128_S8x128x128_0_1_2 (select (cmpi .slt (res_main_v18 V0) (broadcastInDim S1x1x128 ![] bcast_S_S1x1x128 (constantI S_ 32 0#32))) (addi (res_main_v18 V0) (broadcastInDim S1x1x128 ![] bcast_S_S1x1x128 (constantI S_ 32 128#32))) (res_main_v18 V0)))) : (⟨S8x128x128x1, .i32⟩ : BufTy).Contents (Elt F))⟩] concatenates_S8x128x128x1_S8x128x128x1_S8x128x128x1_S8x128x128x1_S8x128x128x4_d3 : (⟨S8x128x128x4, .i32⟩ : BufTy).Contents (Elt F))) (mulf (mulf (res_main_v11 V0) (broadcastInDim S8x128x128 ![] bcast_S_S8x128x128 (constant S_ .f32 0x3E0A9555#32))) (uitofp .f32 (andi (cmpi .sge (res_main_v184 V0) (broadcastInDim S8x128x128 ![] bcast_S_S8x128x128 (constantI S_ 32 0#32))) (cmpi .slt (res_main_v184 V0) (broadcastInDim S8x128x128 ![] bcast_S_S8x128x128 (constantI S_ 32 128#32)))))) := by
  unfold val5
  simp only [ops_part4_2]
  after_results_simp
  try dsimp only [Matrix.cons_val]
  try after_results_simp
  simp only [val4_2_main_v193, val4_2_main_v217, val4_2_main_v216, val4_2_main_v204, val4_2_main_v218, val4_2_main_v182] <;> rfl

/-- The device's buffer contents after @main's first 6 windows. -/
def val6 (V0 : Valuation τ sig (Elt F)) : Valuation τ sig (Elt F) := after ops_part5 (val5 V0)
/-- The buffers that window `main_part5`'s operations write. -/
abbrev ops_part5_W : List (Ref sig .tc) := [main_v224, main_cst_74, main_v225, main_v226, main_cst_75, main_v227, main_v228]
set_option maxRecDepth 8192 in
/-- These operations write only the buffers listed. -/
theorem ops_part5_writes : (ops_part5 : List (HloOp τ sig (Elt F))).Forall fun op => op.writes ⊆ (ops_part5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part5` does not write keeps its contents through it. -/
theorem val6_keep (V0 : Valuation τ sig (Elt F)) (r : Ref sig .tc) (h : r ∉ ops_part5_W) :
    val6 V0 (Proc.devRef .tc r) = val5 V0 (Proc.devRef .tc r) :=
  after_of_writes_sub ops_part5 _ ops_part5_writes h
/-- What `main_arg0` holds at this point. -/
theorem val6_main_arg0 (V0 : Valuation τ sig (Elt F)) : val6 V0 (no_index (Proc.devRef .tc main_arg0)) = V0 (Proc.devRef .tc main_arg0) :=
  (val6_keep V0 main_arg0 (by decide)).trans (val5_main_arg0 V0)
/-- What `main_arg1` holds at this point. -/
theorem val6_main_arg1 (V0 : Valuation τ sig (Elt F)) : val6 V0 (no_index (Proc.devRef .tc main_arg1)) = V0 (Proc.devRef .tc main_arg1) :=
  (val6_keep V0 main_arg1 (by decide)).trans (val5_main_arg1 V0)
set_option maxRecDepth 8192 in
/-- What `main_v228` holds at this point. -/
theorem val6_main_v228 (V0 : Valuation τ sig (Elt F)) : val6 V0 (no_index (Proc.devRef .tc main_v228)) = Host.divf (Host.reduceWindowAdd ![1, 1, 3, 3, 3] ![1, 1, 1, 1, 1] ![0, 0, 1, 1, 1] ![0, 0, 1, 1, 1] (broadcastInDim S8x1x128x128x128 ![0, 2, 3, 4] bcast_S8x128x128x128_S8x1x128x128x128_0_2_3_4 (Host.scatterAdd scatter_S8x128x128x128_S8x128x128x4_S8x128x128_n_0123_0123_3 (res_main_v182 V0) ((concatenate S8x128x128x4 3 [⟨S8x128x128x1, ((broadcastInDim S8x128x128x1 ![0, 1, 2] bcast_S8x128x128_S8x128x128x1_0_1_2 (broadcastInDim S8x128x128 ![0, 1, 2] bcast_S8x1x1_S8x128x128_0_1_2 (select (cmpi .slt (res_main_v14 V0) (broadcastInDim S8x1x1 ![] bcast_S_S8x1x1 (constantI S_ 32 0#32))) (addi (res_main_v14 V0) (broadcastInDim S8x1x1 ![] bcast_S_S8x1x1 (constantI S_ 32 8#32))) (res_main_v14 V0)))) : (⟨S8x128x128x1, .i32⟩ : BufTy).Contents (Elt F))⟩, ⟨S8x128x128x1, ((broadcastInDim S8x128x128x1 ![0, 1, 2] bcast_S8x128x128_S8x128x128x1_0_1_2 (select (cmpi .slt (res_main_v194 V0) (broadcastInDim S8x128x128 ![] bcast_S_S8x128x128 (constantI S_ 32 0#32))) (addi (res_main_v194 V0) (broadcastInDim S8x128x128 ![] bcast_S_S8x128x128 (constantI S_ 32 128#32))) (res_main_v194 V0))) : (⟨S8x128x128x1, .i32⟩ : BufTy).Contents (Elt F))⟩, ⟨S8x128x128x1, ((broadcastInDim S8x128x128x1 ![0, 1, 2] bcast_S8x128x128_S8x128x128x1_0_1_2 (broadcastInDim S8x128x128 ![0, 1, 2] bcast_S1x128x1_S8x128x128_0_1_2 (select (cmpi .slt (res_main_v16 V0) (broadcastInDim S1x128x1 ![] bcast_S_S1x128x1 (constantI S_ 32 0#32))) (addi (res_main_v16 V0) (broadcastInDim S1x128x1 ![] bcast_S_S1x128x1 (constantI S_ 32 128#32))) (res_main_v16 V0)))) : (⟨S8x128x128x1, .i32⟩ : BufTy).Contents (Elt F))⟩, ⟨S8x128x128x1, ((broadcastInDim S8x128x128x1 ![0, 1, 2] bcast_S8x128x128_S8x128x128x1_0_1_2 (broadcastInDim S8x128x128 ![0, 1, 2] bcast_S1x1x128_S8x128x128_0_1_2 (select (cmpi .slt (res_main_v18 V0) (broadcastInDim S1x1x128 ![] bcast_S_S1x1x128 (constantI S_ 32 0#32))) (addi (res_main_v18 V0) (broadcastInDim S1x1x128 ![] bcast_S_S1x1x128 (constantI S_ 32 128#32))) (res_main_v18 V0)))) : (⟨S8x128x128x1, .i32⟩ : BufTy).Contents (Elt F))⟩] concatenates_S8x128x128x1_S8x128x128x1_S8x128x128x1_S8x128x128x1_S8x128x128x4_d3 : (⟨S8x128x128x4, .i32⟩ : BufTy).Contents (Elt F))) (mulf (mulf (res_main_v11 V0) (broadcastInDim S8x128x128 ![] bcast_S_S8x128x128 (constant S_ .f32 0x3E0A9555#32))) (uitofp .f32 (andi (cmpi .sge (res_main_v184 V0) (broadcastInDim S8x128x128 ![] bcast_S_S8x128x128 (constantI S_ 32 0#32))) (cmpi .slt (res_main_v184 V0) (broadcastInDim S8x128x128 ![] bcast_S_S8x128x128 (constantI S_ 32 128#32)))))))) (broadcastInDim S_ ![] bcast_S_S_ (constant S_ .f32 0x00000000#32)) reduceWindows_S8x1x128x128x128_S8x1x128x128x128_w1s1p0_0_w1s1p0_0_w3s1p1_1_w3s1p1_1_w3s1p1_1 h_S_) (broadcastInDim S8x1x128x128x128 ![] bcast_S_S8x1x128x128x128 (constant S_ .f32 0x41D80000#32)) := by
  unfold val6
  simp only [ops_part5]
  after_results_simp
  simp only [val5_main_v223] <;> rfl

/-- After all operations the buffers hold what the last window leaves. -/
theorem after_ops (V0 : Valuation τ sig (Elt F)) : after ops V0 = val6 V0 := by
  simp only [ops, ops_part0, ops_part1, ops_part2, ops_part3, ops_part4, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v228) = Host.divf (Host.reduceWindowAdd ![1, 1, 3, 3, 3] ![1, 1, 1, 1, 1] ![0, 0, 1, 1, 1] ![0, 0, 1, 1, 1] (broadcastInDim S8x1x128x128x128 ![0, 2, 3, 4] bcast_S8x128x128x128_S8x1x128x128x128_0_2_3_4 (Host.scatterAdd scatter_S8x128x128x128_S8x128x128x4_S8x128x128_n_0123_0123_3 (res_main_v182 (launchContents m c)) ((concatenate S8x128x128x4 3 [⟨S8x128x128x1, ((broadcastInDim S8x128x128x1 ![0, 1, 2] bcast_S8x128x128_S8x128x128x1_0_1_2 (broadcastInDim S8x128x128 ![0, 1, 2] bcast_S8x1x1_S8x128x128_0_1_2 (select (cmpi .slt (res_main_v14 (launchContents m c)) (broadcastInDim S8x1x1 ![] bcast_S_S8x1x1 (constantI S_ 32 0#32))) (addi (res_main_v14 (launchContents m c)) (broadcastInDim S8x1x1 ![] bcast_S_S8x1x1 (constantI S_ 32 8#32))) (res_main_v14 (launchContents m c))))) : (⟨S8x128x128x1, .i32⟩ : BufTy).Contents (Elt F))⟩, ⟨S8x128x128x1, ((broadcastInDim S8x128x128x1 ![0, 1, 2] bcast_S8x128x128_S8x128x128x1_0_1_2 (select (cmpi .slt (res_main_v194 (launchContents m c)) (broadcastInDim S8x128x128 ![] bcast_S_S8x128x128 (constantI S_ 32 0#32))) (addi (res_main_v194 (launchContents m c)) (broadcastInDim S8x128x128 ![] bcast_S_S8x128x128 (constantI S_ 32 128#32))) (res_main_v194 (launchContents m c)))) : (⟨S8x128x128x1, .i32⟩ : BufTy).Contents (Elt F))⟩, ⟨S8x128x128x1, ((broadcastInDim S8x128x128x1 ![0, 1, 2] bcast_S8x128x128_S8x128x128x1_0_1_2 (broadcastInDim S8x128x128 ![0, 1, 2] bcast_S1x128x1_S8x128x128_0_1_2 (select (cmpi .slt (res_main_v16 (launchContents m c)) (broadcastInDim S1x128x1 ![] bcast_S_S1x128x1 (constantI S_ 32 0#32))) (addi (res_main_v16 (launchContents m c)) (broadcastInDim S1x128x1 ![] bcast_S_S1x128x1 (constantI S_ 32 128#32))) (res_main_v16 (launchContents m c))))) : (⟨S8x128x128x1, .i32⟩ : BufTy).Contents (Elt F))⟩, ⟨S8x128x128x1, ((broadcastInDim S8x128x128x1 ![0, 1, 2] bcast_S8x128x128_S8x128x128x1_0_1_2 (broadcastInDim S8x128x128 ![0, 1, 2] bcast_S1x1x128_S8x128x128_0_1_2 (select (cmpi .slt (res_main_v18 (launchContents m c)) (broadcastInDim S1x1x128 ![] bcast_S_S1x1x128 (constantI S_ 32 0#32))) (addi (res_main_v18 (launchContents m c)) (broadcastInDim S1x1x128 ![] bcast_S_S1x1x128 (constantI S_ 32 128#32))) (res_main_v18 (launchContents m c))))) : (⟨S8x128x128x1, .i32⟩ : BufTy).Contents (Elt F))⟩] concatenates_S8x128x128x1_S8x128x128x1_S8x128x128x1_S8x128x128x1_S8x128x128x4_d3 : (⟨S8x128x128x4, .i32⟩ : BufTy).Contents (Elt F))) (mulf (mulf (res_main_v11 (launchContents m c)) (broadcastInDim S8x128x128 ![] bcast_S_S8x128x128 (constant S_ .f32 0x3E0A9555#32))) (uitofp .f32 (andi (cmpi .sge (res_main_v184 (launchContents m c)) (broadcastInDim S8x128x128 ![] bcast_S_S8x128x128 (constantI S_ 32 0#32))) (cmpi .slt (res_main_v184 (launchContents m c)) (broadcastInDim S8x128x128 ![] bcast_S_S8x128x128 (constantI S_ 32 128#32)))))))) (broadcastInDim S_ ![] bcast_S_S_ (constant S_ .f32 0x00000000#32)) reduceWindows_S8x1x128x128x128_S8x1x128x128x128_w1s1p0_0_w1s1p0_0_w3s1p1_1_w3s1p1_1_w3s1p1_1 h_S_) (broadcastInDim S8x1x128x128x128 ![] bcast_S_S8x1x128x128x128 (constant S_ .f32 0x41D80000#32))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v228).trans ((congrFun (after_ops (launchContents m c)) (Proc.devRef .tc main_v228)).trans (val6_main_v228 (launchContents m c))),
      (h c main_arg0).trans ((congrFun (after_ops (launchContents m c)) (Proc.devRef .tc main_arg0)).trans (val6_main_arg0 (launchContents m c))),
      (h c main_arg1).trans ((congrFun (after_ops (launchContents m c)) (Proc.devRef .tc main_arg1)).trans (val6_main_arg1 (launchContents m c)))⟩)
    (run_seq scopedRefs_eq scopedSems_eq defs main (fun _ => ops) main_eq (fun _ => ops_sub) m ρ fun _ => ops_fresh)

end Cert.ReferenceIdeal.Run

end
-- ==== Proof.Frames.lean ====
/- The frames of the three programs, and the one entry of the idealization's ledger: what the certificate says beside the
   equation of the two results. The two kernel frames are the generated ones. The reference is a line of host operations on
   a program without semaphores, so its run gives the arguments and the counters are zero for want of any. -/
module

public import proofs.«01_k».proof.Defs
public import proofs.«01_k».proof.Proof.Gen.Kernel.Frame
public import proofs.«01_k».proof.Proof.Gen.KernelIdeal.Frame
public import proofs.«01_k».proof.Proof.RefRun
public import Idealize.ShloMosaic.Lib.Quiescent

@[expose] public section

noncomputable section

namespace Cert.Proof

open Idealize.ShloMosaic Idealize.SL.Sem

/-- The kernel on machine words runs, leaves its arguments as launched and every counter at zero. -/
theorem frame_kernel : Cert.quiescent_Kernel := fun m ρ _ => Cert.Kernel.Gen.frame m ρ

/-- The same of the idealized kernel. -/
theorem frame_kernelIdeal : Cert.quiescent_KernelIdeal := fun m ρ _ => Cert.KernelIdeal.Gen.frame m ρ

/-- The same of the reference, which has no semaphore at all. -/
theorem frame_referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Run.run (F := Ideal) m ρ)

/-- The idealization's one rewrite: the word the kernel multiplies by is named, and the name's value is 1/27. -/
theorem preserves : Cert.preserves_Kernel_KernelIdeal :=
  IdealRules.named_const.statement Cert.KernelIdeal.κ "inv27" .f32 0x3D17B426#32 ((1 / 27 : ℝ) : EReal) rfl

end Cert.Proof

end
-- ==== Proof.Finite.lean ====
/- What the precondition says: every intensity is a real number. -/
module

public import proofs.«01_k».proof.Defs
public import proofs.«01_k».proof.Proof.Gen.Pre_finite_intensity
public import Idealize.ShloMosaic.Lib.Pointwise

@[expose] public section

set_option maxRecDepth 16384

noncomputable section

namespace Cert.Proof

open Idealize.ShloMosaic Cert.Pre_finite_intensity

/-- A one-bit fold of ands that ends at 1 started at 1 and met only 1. -/
theorem foldl_andi {α : Type} (f : α → BitVec 1) : ∀ (l : List α) (v : BitVec 1), l.foldl (fun r n => IntOp.andi r (f n)) v = 1#1 → v = 1#1 ∧ ∀ n ∈ l, f n = 1#1
  | [], v, h => ⟨h, by simp⟩
  | a :: l, v, h => by
    have hb : ∀ c d : BitVec 1, IntOp.andi c d = 1#1 → c = 1#1 ∧ d = 1#1 := by decide
    obtain ⟨h1, h2⟩ := foldl_andi f l _ h
    obtain ⟨h3, h4⟩ := hb _ _ h1
    exact ⟨h3, by simpa using ⟨h4, h2⟩⟩

/-- The word the precondition compares with is infinity. -/
theorem ofBits_inf : Ideal.ofBits .f32 0x7F800000#32 = (⊤ : EReal) := by
  simp [Ideal.ofBits, Ideal.ieee]

/-- Under the precondition every intensity is a real number. -/
theorem real_of_finite (a0 a1 : FVec Ideal S8x1x128x128 .f32) (h : fn (F := Ideal) a0 a1 = fun _ => 1#1) (j : S8x1x128x128.Idx) :
    a1 j = ((EReal.toReal (a1 j) : ℝ) : EReal) := by
  have h := congrFun h ix0
  simp only [fn] at h
  unfold Host.reduce at h
  obtain ⟨-, h2⟩ := foldl_andi _ _ _ h
  have h3 := h2 (S8x1x128x128.rowMajor j) (by
    rw [List.mem_filter]
    exact ⟨List.mem_finRange _, decide_eq_true (funext fun a => a.elim0)⟩)
  rw [Equiv.symm_apply_apply] at h3
  have h4 : Ideal.cmp .olt (max (a1 j) (-a1 j)) (Ideal.ofBits .f32 0x7F800000#32) = 1 := h3
  have h5 : a1 j ⊔ -a1 j < Ideal.ofBits .f32 0x7F800000#32 := by
    by_contra hc
    have h6 : BitVec.ofBool (decide (a1 j ⊔ -a1 j < Ideal.ofBits .f32 0x7F800000#32)) = 1#1 := h4
    rw [decide_eq_false hc] at h6
    exact absurd h6 (by decide)
  rw [ofBits_inf] at h5
  rw [max_lt_iff] at h5
  refine (EReal.coe_toReal h5.1.ne ?_).symm
  intro hb
  rw [hb] at h5
  simp at h5

end Cert.Proof

end
-- ==== Proof.Model.lean ====
/- The result written once over the reals, apart from either program.

   A pixel of the depth map at height `h` and width `w` lies at the depth index `n h w` and has the intensity `y h w`. Spread
   along the depth axis it adds `y` at its own index, `g1 * y` one plane away and `g2 * y` two planes away (`splat`). The
   reference averages the volume so obtained over boxes of 3 by 3 by 3 voxels, the volume continued by zero beyond its 128
   planes; the kernel sums over boxes of intensities already divided by 27, of a volume NOT cut at 128 planes, and takes the
   two planes just outside off again at the first and the last plane. The two agree (`kout_eq_rout`). -/
module

public import Idealize.ShloMosaic.Lib.Pointwise

@[expose] public section

noncomputable section

namespace Cert.Model

/-- What a pixel of intensity `y` at depth index `n` adds to the plane `e`. -/
def splat (g1 g2 y : ℝ) (n e : ℤ) : ℝ :=
  (if e = n then y else 0) + g1 * ((if e - 1 = n then y else 0) + (if e + 1 = n then y else 0))
    + g2 * ((if e - 2 = n then y else 0) + (if e + 2 = n then y else 0))

/-- The sum of an image over the 3 by 3 box around a pixel. -/
def box (T : ℤ → ℤ → ℝ) (h w : ℤ) : ℝ :=
  (T h w + T (h - 1) w + T (h + 1) w) + (T h (w - 1) + T (h - 1) (w - 1) + T (h + 1) (w - 1))
    + (T h (w + 1) + T (h - 1) (w + 1) + T (h + 1) (w + 1))

/-- A table of 128 by 128 entries continued by zero over all the integers. -/
def pix {α : Type} [Zero α] (f : Fin 128 → Fin 128 → α) (h w : ℤ) : α :=
  if hh : (0 ≤ h ∧ h < 128) ∧ (0 ≤ w ∧ w < 128) then f ⟨h.toNat, by omega⟩ ⟨w.toNat, by omega⟩ else 0

/-- Inside, the continued table is the table. -/
theorem pix_coe {α : Type} [Zero α] (f : Fin 128 → Fin 128 → α) (h w : Fin 128) : pix f ((h : ℕ) : ℤ) ((w : ℕ) : ℤ) = f h w := by
  unfold pix
  rw [dif_pos (by omega)]
  congr 1

/-- Outside, it is zero. -/
theorem pix_out {α : Type} [Zero α] (f : Fin 128 → Fin 128 → α) (h w : ℤ) (hh : h < 0 ∨ 128 ≤ h ∨ w < 0 ∨ 128 ≤ w) : pix f h w = 0 := by
  unfold pix
  rw [dif_neg (by omega)]

/-- The plane `e` of the volume that is not cut at 128 planes. -/
def plane (g1 g2 : ℝ) (n : ℤ → ℤ → ℤ) (y : ℤ → ℤ → ℝ) (e h w : ℤ) : ℝ := splat g1 g2 (y h w) (n h w) e

/-- A plane is zero wherever the intensities are. -/
theorem plane_zero (g1 g2 : ℝ) (n : ℤ → ℤ → ℤ) (y : ℤ → ℤ → ℝ) (e h w : ℤ) (hy : y h w = 0) : plane g1 g2 n y e h w = 0 := by
  simp [plane, splat, hy]

/-- The plane `e` of the volume of 128 planes, continued by zero. -/
def vol (g1 g2 : ℝ) (n : ℤ → ℤ → ℤ) (y : ℤ → ℤ → ℝ) (e h w : ℤ) : ℝ := if 0 ≤ e ∧ e < 128 then plane g1 g2 n y e h w else 0

/-- The kernel's voxel. -/
def kout (g1 g2 : ℝ) (n : ℤ → ℤ → ℤ) (y : ℤ → ℤ → ℝ) (e h w : ℤ) : ℝ :=
  box (fun h w => plane g1 g2 n (fun h w => y h w * (1 / 27)) e h w + plane g1 g2 n (fun h w => y h w * (1 / 27)) (e - 1) h w
      + plane g1 g2 n (fun h w => y h w * (1 / 27)) (e + 1) h w) h w
    - (if e = 0 then box (plane g1 g2 n (fun h w => y h w * (1 / 27)) (-1)) h w else 0)
    - (if e = 127 then box (plane g1 g2 n (fun h w => y h w * (1 / 27)) 128) h w else 0)

/-- The reference's voxel. -/
def rout (g1 g2 : ℝ) (n : ℤ → ℤ → ℤ) (y : ℤ → ℤ → ℝ) (e h w : ℤ) : ℝ :=
  box (fun h w => vol g1 g2 n y e h w + vol g1 g2 n y (e - 1) h w + vol g1 g2 n y (e + 1) h w) h w * (1 / 27)

/-- Spreading is linear in the intensity. -/
theorem plane_scale (g1 g2 : ℝ) (n : ℤ → ℤ → ℤ) (y : ℤ → ℤ → ℝ) (s : ℝ) (e h w : ℤ) :
    plane g1 g2 n (fun h w => y h w * s) e h w = plane g1 g2 n y e h w * s := by
  unfold plane splat
  have k : ∀ p : Prop, [Decidable p] → (if p then y h w * s else 0) = (if p then y h w else 0) * s := by
    intro p _; split <;> simp
  rw [k, k, k, k, k]; ring

/-- The kernel's voxel is the reference's. -/
theorem kout_eq_rout (g1 g2 : ℝ) (n : ℤ → ℤ → ℤ) (y : ℤ → ℤ → ℝ) (e h w : ℤ) (h0 : 0 ≤ e) (h1 : e < 128) :
    kout g1 g2 n y e h w = rout g1 g2 n y e h w := by
  have hl : vol g1 g2 n y (e - 1) = fun h w => if e = 0 then 0 else plane g1 g2 n y (e - 1) h w := by
    funext h w; unfold vol
    by_cases hc : e = 0
    · rw [if_neg (by omega), if_pos hc]
    · rw [if_pos (by omega), if_neg hc]
  have hr : vol g1 g2 n y (e + 1) = fun h w => if e = 127 then 0 else plane g1 g2 n y (e + 1) h w := by
    funext h w; unfold vol
    by_cases hc : e = 127
    · rw [if_neg (by omega), if_pos hc]
    · rw [if_pos (by omega), if_neg hc]
  have hm : vol g1 g2 n y e = plane g1 g2 n y e := by
    funext h w; unfold vol; rw [if_pos ⟨h0, h1⟩]
  unfold kout rout
  rw [hl, hr, hm]
  simp only [box, plane_scale]
  by_cases c0 : e = 0
  · subst c0; norm_num; ring
  · by_cases c1 : e = 127
    · subst c1; norm_num; ring
    · simp only [if_neg c0, if_neg c1]; ring

end Cert.Model

end
-- ==== Proof.Pixel.lean ====
/- What the two programs share at a pixel, at the ideal instance: the constants as reals, and the depth index of a pixel,
   which is a natural number below 128 whatever the depth is. -/
module

public import proofs.«01_k».proof.Proof.Model
public import Idealize.ShloMosaic.Lib.Pointwise
public import Idealize.ShloMosaic.Lib.Tactic.WordOmega

@[expose] public section

noncomputable section

namespace Cert.Pixel

open Idealize.ShloMosaic

/-- The weight of the planes one away. -/
def g1 : ℝ := (Ideal.ofBits .f32 0x3F1B4598#32).toReal
/-- The weight of the planes two away. -/
def g2 : ℝ := (Ideal.ofBits .f32 0x3E0A9555#32).toReal

/-- Its word denotes a real number. -/
theorem ofBits_g1 : Ideal.ofBits .f32 0x3F1B4598#32 = ((g1 : ℝ) : EReal) := by
  have h : ∃ r : ℝ, Ideal.ofBits .f32 0x3F1B4598#32 = ((r : ℝ) : EReal) := by
    simp [Ideal.ofBits, Ideal.ieee, -EReal.coe_mul]
  obtain ⟨r, hr⟩ := h
  rw [g1, hr, EReal.toReal_coe]

/-- Its word denotes a real number. -/
theorem ofBits_g2 : Ideal.ofBits .f32 0x3E0A9555#32 = ((g2 : ℝ) : EReal) := by
  have h : ∃ r : ℝ, Ideal.ofBits .f32 0x3E0A9555#32 = ((r : ℝ) : EReal) := by
    simp [Ideal.ofBits, Ideal.ieee, -EReal.coe_mul]
  obtain ⟨r, hr⟩ := h
  rw [g2, hr, EReal.toReal_coe]

/-- The word the reference divides by is 27. -/
theorem ofBits_27 : Ideal.ofBits .f32 0x41D80000#32 = ((27 : ℝ) : EReal) := by
  simp [Ideal.ofBits, Ideal.ieee, -EReal.coe_mul]; norm_num

/-- A pixel's depth index, as a word. -/
def word (x : EReal) : BitVec 32 :=
  IntOp.minsi (127#32) (IntOp.maxsi (0#32) (FloatOps.fptosi (F := Ideal) (φ := .f32) 32 (x * Ideal.ofBits .f32 0x42FE0000#32)))

/-- A word clipped between 0 and 127 is a natural number below 128. -/
theorem clip_lt (v : BitVec 32) : (IntOp.minsi (127#32) (IntOp.maxsi (0#32) v)).toNat < 128 := by
  have h127 : (127#32 : BitVec 32).toInt = 127 := by decide
  have h0 : (0#32 : BitVec 32).toInt = 0 := by decide
  have hv := BitVec.toInt_eq_toNat_cond v
  have hl := v.isLt
  unfold IntOp.minsi IntOp.maxsi
  by_cases c : v.slt (0#32) = true
  · rw [if_pos c]; decide
  · rw [if_neg c]
    by_cases c' : (127#32 : BitVec 32).slt v = true
    · rw [if_pos c']; decide
    · rw [if_neg c']
      simp only [BitVec.slt, decide_eq_true_eq, h127, h0] at c c'
      split at hv <;> omega

/-- A pixel's depth index, as a number. -/
def idx (x : EReal) : ℕ := (word x).toNat

/-- It is below 128. -/
theorem idx_lt (x : EReal) : idx x < 128 := clip_lt _

/-- The depth indices of batch entry `b`. -/
def nn (A : Vec Ideal (⟨4, ![8, 1, 128, 128]⟩ : Shape) .f32) (b : Fin 8) : ℤ → ℤ → ℤ := Model.pix fun h w => (idx (A (ix4 b 0 h w)) : ℤ)
/-- The intensities of batch entry `b`. -/
def yy (A : Vec Ideal (⟨4, ![8, 1, 128, 128]⟩ : Shape) .f32) (b : Fin 8) : ℤ → ℤ → ℝ := Model.pix fun h w => EReal.toReal (A (ix4 b 0 h w))

/-- The kernel's comparison of a plane's depth with the pixel's depth index, as a choice over the reals. -/
theorem select_word (i q : ℕ) (hi : i < 2) (hq : q < 70) (x : EReal) (y : ℝ) :
    Scalar.select (IntOp.cmpi CmpIPredicate.eq
        (IntOp.addi (Scalar.subi (Scalar.muli (BitVec.ofNat 32 i) 64#32) 3#32) (BitVec.ofNat 32 q)) (word x)) (y : EReal) 0
      = ((if 64 * (i : ℤ) + (q : ℤ) - 3 = (idx x : ℤ) then y else 0 : ℝ) : EReal) := by
  have hx := idx_lt x
  have hw : word x = BitVec.ofNat 32 (idx x) := by simp [idx]
  rw [hw]
  generalize idx x = n at hx
  have key : (IntOp.addi (Scalar.subi (Scalar.muli (BitVec.ofNat 32 i) 64#32) 3#32) (BitVec.ofNat 32 q) = BitVec.ofNat 32 n)
      ↔ 64 * (i : ℤ) + (q : ℤ) - 3 = (n : ℤ) := by
    rw [← BitVec.toNat_inj]
    simp only [IntOp.addi, Scalar.subi, IntOp.subi, Scalar.muli, IntOp.muli, BitVec.toNat_add, BitVec.toNat_sub, BitVec.toNat_mul,
      BitVec.toNat_ofNat]
    omega
  rw [IntOp.cmpi]
  by_cases c : 64 * (i : ℤ) + (q : ℤ) - 3 = (n : ℤ)
  · rw [if_pos c, key.mpr c]; simp [Scalar.select]
  · rw [if_neg c]
    have hne := fun h => c (key.mp h)
    have hb : (IntOp.addi (Scalar.subi (Scalar.muli (BitVec.ofNat 32 i) 64#32) 3#32) (BitVec.ofNat 32 q) == BitVec.ofNat 32 n) = false :=
      beq_eq_false_iff_ne.mpr hne
    simp [Scalar.select, hb]

end Cert.Pixel

end
-- ==== Proof.KPay.lean ====
/- The kernel's payloads at an index, over real planes: the planes are the pixels spread along the depth axis, what is
   stored is the 3 by 3 by 3 box of three neighbouring planes, and each border correction takes one plane's 3 by 3 box off. -/
module

public import proofs.«01_k».proof.Proof.Gen.KernelIdeal.Frame
public import proofs.«01_k».proof.Proof.Pixel

@[expose] public section

set_option maxRecDepth 16384

noncomputable section

namespace Cert.KernelIdeal.Val

open Cert.KernelIdeal Cert.KernelIdeal.Gen Idealize.ShloMosaic Cert.Model Cert.Pixel

/-- The planes, from a depth map and real intensities: plane `p` of the block at grid coordinate `i 1` lies at depth
    `64 * i 1 + p - 1`. -/
theorem pay4_apply (i : grid0.Coords) (hi : (i 1).val < 2) (v0 v2 : Vec Ideal S1x1x128x128 .f32) (p : Fin 66) (h w : Fin 128) (y : ℝ)
    (hy : v2 (ix4 0 0 h w) = (y : EReal)) :
    k0_pay4 i v0 v2 (ix3 p h w)
      = ((splat g1 g2 (y * (1 / 27)) (idx (v0 (ix4 0 0 h w)) : ℤ) (64 * ((i 1).val : ℤ) + ((p : ℕ) : ℤ) - 1) : ℝ) : EReal) := by
  have hp := p.isLt
  have hc : (Named.named (F := Ideal) (φ := .f32) κ "inv27" 0x3D17B426#32 : EReal) = ((1 / 27 : ℝ) : EReal) :=
    IdealRules.named_const.ideal_named_scalar _ _ _ _ rfl
  pointwise [k0_pay4]
  rw [hc, hy, ofBits_g1, ofBits_g2, ← EReal.coe_mul]
  change Scalar.select (IntOp.cmpi _ _ (word _)) _ _
      + _ * (Scalar.select (IntOp.cmpi _ _ (word _)) _ _ + Scalar.select (IntOp.cmpi _ _ (word _)) _ _)
      + _ * (Scalar.select (IntOp.cmpi _ _ (word _)) _ _ + Scalar.select (IntOp.cmpi _ _ (word _)) _ _) = _
  rw [select_word _ _ hi (by omega), select_word _ _ hi (by omega), select_word _ _ hi (by omega), select_word _ _ hi (by omega),
    select_word _ _ hi (by omega)]
  simp only [← EReal.coe_add, ← EReal.coe_mul]
  congr 1
  unfold splat
  have e (a b c : ℤ) (hab : a = b) : (a = c) = (b = c) := by rw [hab]
  congr 1
  · congr 1
    · congr 1
      exact e _ _ _ (by push_cast; ring)
    · congr 2
      · congr 1; exact e _ _ _ (by push_cast; ring)
      · congr 1; exact e _ _ _ (by push_cast; ring)
  · congr 2
    · congr 1; exact e _ _ _ (by push_cast; ring)
    · congr 1; exact e _ _ _ (by push_cast; ring)

/-- What is stored first at every plane `d` of the block: the box of the planes `d`, `d + 1` and `d + 2`. -/
theorem pay1_apply (v39 : FVec Ideal S66x128x128 .f32) (v40 : FVec Ideal S64x128x128 .f32) (G : ℤ → ℤ → ℤ → ℝ)
    (hv : ∀ (p : Fin 66) (h w : Fin 128), v39 (ix3 p h w) = ((G ((p : ℕ) : ℤ) ((h : ℕ) : ℤ) ((w : ℕ) : ℤ) : ℝ) : EReal))
    (hv' : ∀ (d : Fin 64) (h w : Fin 128), v40 (ix3 d h w) = ((G (((d : ℕ) : ℤ) + 1) ((h : ℕ) : ℤ) ((w : ℕ) : ℤ) : ℝ) : EReal))
    (hz : ∀ p h w : ℤ, h < 0 ∨ 128 ≤ h ∨ w < 0 ∨ 128 ≤ w → G p h w = 0) (d : Fin 64) (h w : Fin 128) :
    k0_pay1 v39 v40 (ix4 0 d h w)
      = ((box (fun h w => G (((d : ℕ) : ℤ) + 1) h w + G ((d : ℕ) : ℤ) h w + G (((d : ℕ) : ℤ) + 2) h w) ((h : ℕ) : ℤ) ((w : ℕ) : ℤ) : ℝ) : EReal) := by
  pointwise [k0_pay1]
  simp only [hv, hv', ← EReal.coe_add, ← EReal.coe_zero]
  have hd : (((2 + (d : ℕ) : ℕ)) : ℤ) = ((d : ℕ) : ℤ) + 2 := by push_cast; ring
  have hs (a : ℕ) : ((1 + a : ℕ) : ℤ) = (a : ℤ) + 1 := by push_cast; ring
  have hm (a : ℕ) (ha : ¬a < 1) : ((a - 1 : ℕ) : ℤ) = (a : ℤ) - 1 := by omega
  have hH := h.isLt
  have hW := w.isLt
  simp only [hd, hs, box]
  by_cases a : (h : ℕ) < 1 <;> by_cases b : (h : ℕ) < 127 <;> by_cases e : (w : ℕ) < 1 <;> by_cases f : (w : ℕ) < 127
  all_goals try (exfalso; omega)
  all_goals
    simp only [a, b, e, f, ↓reduceDIte, ← EReal.coe_add]
    congr 1
    simp (disch := omega) only [hm, hz]
    try ring

/-- The correction at the first plane: the box of plane 0 off what is there. -/
theorem pay2_apply (v39 : FVec Ideal S66x128x128 .f32) (v68 : Vec Ideal S1x1x128x128 .f32) (G : ℤ → ℤ → ℤ → ℝ) (x : ℝ)
    (hv : ∀ (p : Fin 66) (h w : Fin 128), v39 (ix3 p h w) = ((G ((p : ℕ) : ℤ) ((h : ℕ) : ℤ) ((w : ℕ) : ℤ) : ℝ) : EReal))
    (hz : ∀ p h w : ℤ, h < 0 ∨ 128 ≤ h ∨ w < 0 ∨ 128 ≤ w → G p h w = 0) (h w : Fin 128) (hx : v68 (ix4 0 0 h w) = (x : EReal)) :
    k0_pay2 v39 v68 (ix4 0 0 h w) = ((x - box (G 0) ((h : ℕ) : ℤ) ((w : ℕ) : ℤ) : ℝ) : EReal) := by
  pointwise [k0_pay2]
  have hp : (((0 : Fin 66) : ℕ) : ℤ) = 0 := rfl
  simp only [hv, hx, ← EReal.coe_add, ← EReal.coe_zero]
  have hs (a : ℕ) : ((1 + a : ℕ) : ℤ) = (a : ℤ) + 1 := by push_cast; ring
  have hm (a : ℕ) (ha : ¬a < 1) : ((a - 1 : ℕ) : ℤ) = (a : ℤ) - 1 := by omega
  have hH := h.isLt
  have hW := w.isLt
  simp only [hp, hs, box]
  by_cases a : (h : ℕ) < 1 <;> by_cases b : (h : ℕ) < 127 <;> by_cases e : (w : ℕ) < 1 <;> by_cases f : (w : ℕ) < 127
  all_goals try (exfalso; omega)
  all_goals
    simp only [a, b, e, f, ↓reduceDIte, ← EReal.coe_add, ← EReal.coe_sub]
    congr 1
    simp (disch := omega) only [hm, hz]
    try ring

/-- The correction at the last plane: the box of plane 65 off what is there. -/
theorem pay3_apply (v39 : FVec Ideal S66x128x128 .f32) (v68 : Vec Ideal S1x1x128x128 .f32) (G : ℤ → ℤ → ℤ → ℝ) (x : ℝ)
    (hv : ∀ (p : Fin 66) (h w : Fin 128), v39 (ix3 p h w) = ((G ((p : ℕ) : ℤ) ((h : ℕ) : ℤ) ((w : ℕ) : ℤ) : ℝ) : EReal))
    (hz : ∀ p h w : ℤ, h < 0 ∨ 128 ≤ h ∨ w < 0 ∨ 128 ≤ w → G p h w = 0) (h w : Fin 128) (hx : v68 (ix4 0 0 h w) = (x : EReal)) :
    k0_pay3 v39 v68 (ix4 0 0 h w) = ((x - box (G 65) ((h : ℕ) : ℤ) ((w : ℕ) : ℤ) : ℝ) : EReal) := by
  pointwise [k0_pay3]
  have hp : (((65 : Fin 66) : ℕ) : ℤ) = 65 := rfl
  simp only [hv, hx, ← EReal.coe_add, ← EReal.coe_zero]
  have hs (a : ℕ) : ((1 + a : ℕ) : ℤ) = (a : ℤ) + 1 := by push_cast; ring
  have hm (a : ℕ) (ha : ¬a < 1) : ((a - 1 : ℕ) : ℤ) = (a : ℤ) - 1 := by omega
  have hH := h.isLt
  have hW := w.isLt
  simp only [hp, hs, box]
  by_cases a : (h : ℕ) < 1 <;> by_cases b : (h : ℕ) < 127 <;> by_cases e : (w : ℕ) < 1 <;> by_cases f : (w : ℕ) < 127
  all_goals try (exfalso; omega)
  all_goals
    simp only [a, b, e, f, ↓reduceDIte, ← EReal.coe_add, ← EReal.coe_sub]
    congr 1
    simp (disch := omega) only [hm, hz]
    try ring

end Cert.KernelIdeal.Val

end
-- ==== Proof.KBlock.lean ====
/- The kernel's output array at an index: every grid point leaves in its block the voxels of `Cert.Model.kout`, and the blocks
   tile the array. -/
module

public import proofs.«01_k».proof.Proof.KPay
public import Idealize.ShloMosaic.Lib.Pipeline.ValueKit
public import Idealize.ShloMosaic.Lib.Pipeline.ReadBack

@[expose] public section

set_option maxRecDepth 16384

noncomputable section

namespace Cert.KernelIdeal.Val

open Cert.KernelIdeal Cert.KernelIdeal.Gen Idealize.ShloMosaic Idealize.ShloMosaic.TcCoe Idealize.SL.Sem Cert.Model Cert.Pixel

/-- A store of one plane over a store of the whole block: the plane's index reads the second, the others the first. -/
theorem two_stores (k : ℕ) (inb : ∀ a, (![0, k, 0, 0] : Fin 4 → ℕ) a + (![1, 1, 128, 128] : Fin 4 → ℕ) a ≤ S1x64x128x128.size a)
    (inb' : ∀ a, (![0, 0, 0, 0] : Fin 4 → ℕ) a + S1x64x128x128.size a ≤ S1x64x128x128.size a)
    (P2 : Vec Ideal S1x1x128x128 .f32) (P1 : Vec Ideal S1x64x128x128 .f32) (d : Fin 64) (h w : Fin 128) :
    View.canon (Val := Elt Ideal) (s := S1x64x128x128) (e := .f32) [⟨Rect.unit ![0, k, 0, 0] ![1, 1, 128, 128] inb, P2⟩, ⟨Rect.unit ![0, 0, 0, 0] ![1, 64, 128, 128] inb', P1⟩] (ix4 0 d h w)
      = if (d : ℕ) = k then P2 (ix4 0 0 h w) else P1 (ix4 0 d h w) := by
  by_cases hd : (d : ℕ) = k
  · rw [if_pos hd]
    have e : (ix4 0 d h w : S1x64x128x128.Idx) = (Rect.unit (s := S1x64x128x128) ![0, k, 0, 0] ![1, 1, 128, 128] inb).emb (ix4 0 0 h w) := by
      funext a
      apply Fin.ext
      match a with
      | 0 => rfl
      | 1 => simpa [Rect.emb, Rect.unit] using hd
      | 2 => simp [Rect.emb, Rect.unit]
      | 3 => simp [Rect.emb, Rect.unit]
    rw [e]
    exact View.canon_cons_emb _ _ _ _
  · rw [if_neg hd]
    rw [View.canon_cons_of_not_mem, View.canon_cons_unit_lit inb' P1 [] (by decide)]
    intro hm
    have := (Rect.mem_set_unit (inb := inb)).mp hm 1
    simp at this
    omega

/-- The planes that the kernel spreads in the block at grid coordinate `i`, continued by zero off the image. -/
def GG (A0 A1 : Vec Ideal S8x1x128x128 .f32) (b : Fin 8) (i p h w : ℤ) : ℝ :=
  plane g1 g2 (nn A0 b) (fun h w => yy A1 b h w * (1 / 27)) (64 * i + p - 1) h w

/-- Outside the plane the smoothed splat is zero. -/
theorem GG_zero (A0 A1 : Vec Ideal S8x1x128x128 .f32) (b : Fin 8) (i p h w : ℤ) (hh : h < 0 ∨ 128 ≤ h ∨ w < 0 ∨ 128 ≤ w) :
    GG A0 A1 b i p h w = 0 :=
  plane_zero _ _ _ _ _ _ _ (by rw [yy, pix_out _ _ _ hh, zero_mul])

/-- The kernel's voxel from the two input arrays. -/
def K (A0 A1 : Vec Ideal S8x1x128x128 .f32) (b : Fin 8) (e : ℤ) (h w : Fin 128) : ℝ :=
  kout g1 g2 (nn A0 b) (yy A1 b) e ((h : ℕ) : ℤ) ((w : ℕ) : ℤ)

/-- The spread planes of a block whose input slabs are batch entry `b` of two arrays, the second real. -/
theorem pay4_GG (i : grid0.Coords) (v0 v2 : Vec Ideal S1x1x128x128 .f32) (A0 A1 : Vec Ideal S8x1x128x128 .f32) (b : Fin 8)
    (h0 : ∀ h w, v0 (ix4 0 0 h w) = A0 (ix4 b 0 h w)) (h2 : ∀ h w, v2 (ix4 0 0 h w) = A1 (ix4 b 0 h w))
    (hr : ∀ j, A1 j = ((EReal.toReal (A1 j) : ℝ) : EReal)) (p : Fin 66) (h w : Fin 128) :
    k0_pay4 i v0 v2 (ix3 p h w) = ((GG A0 A1 b ((i 1).val : ℤ) ((p : ℕ) : ℤ) ((h : ℕ) : ℤ) ((w : ℕ) : ℤ) : ℝ) : EReal) := by
  rw [pay4_apply i (i 1).isLt v0 v2 p h w _ ((h2 h w).trans (hr _)), GG, plane, nn, yy, pix_coe, pix_coe, h0]

/-- The block's voxels before the correction. -/
theorem pay1_GG (i : grid0.Coords) (v0 v2 : Vec Ideal S1x1x128x128 .f32) (A0 A1 : Vec Ideal S8x1x128x128 .f32) (b : Fin 8)
    (h0 : ∀ h w, v0 (ix4 0 0 h w) = A0 (ix4 b 0 h w)) (h2 : ∀ h w, v2 (ix4 0 0 h w) = A1 (ix4 b 0 h w))
    (hr : ∀ j, A1 j = ((EReal.toReal (A1 j) : ℝ) : EReal)) (d : Fin 64) (h w : Fin 128) :
    k0_pay1 (k0_pay4 i v0 v2) (k0_pay5 i v0 v2) (ix4 0 d h w)
      = ((box (fun h w => GG A0 A1 b ((i 1).val : ℤ) (((d : ℕ) : ℤ) + 1) h w + GG A0 A1 b ((i 1).val : ℤ) ((d : ℕ) : ℤ) h w
          + GG A0 A1 b ((i 1).val : ℤ) (((d : ℕ) : ℤ) + 2) h w) ((h : ℕ) : ℤ) ((w : ℕ) : ℤ) : ℝ) : EReal) := by
  refine pay1_apply _ _ _ (pay4_GG i v0 v2 A0 A1 b h0 h2 hr) ?_ (fun p h w => GG_zero A0 A1 b _ p h w) d h w
  intro d h w
  have e : k0_pay5 i v0 v2 (ix3 d h w) = k0_pay4 i v0 v2 (ix3 ⟨d.val + 1, by omega⟩ h w) := by
    have u : k0_pay5 i v0 v2 = extractStridedSlice S64x128x128 ![1, 0, 0] (k0_pay4 i v0 v2) slices_S66x128x128_o1_0_0_S64x128x128 := rfl
    rw [u]
    pointwise
    congr 2
    exact Fin.ext (Nat.add_comm _ _)
  rw [e, pay4_GG i v0 v2 A0 A1 b h0 h2 hr]
  norm_num

/-- The block of the first half of the planes: the correction falls on its first plane. -/
theorem block_A (A0 A1 : Vec Ideal S8x1x128x128 .f32) (b : Fin 8) (d : Fin 64) (h w : Fin 128) :
    box (fun h w => GG A0 A1 b 0 (((d : ℕ) : ℤ) + 1) h w + GG A0 A1 b 0 ((d : ℕ) : ℤ) h w + GG A0 A1 b 0 (((d : ℕ) : ℤ) + 2) h w) ((h : ℕ) : ℤ) ((w : ℕ) : ℤ)
      - (if (d : ℕ) = 0 then box (GG A0 A1 b 0 0) ((h : ℕ) : ℤ) ((w : ℕ) : ℤ) else 0) = K A0 A1 b ((d : ℕ) : ℤ) h w := by
  have hd := d.isLt
  have e1 : (64 * 0 + (((d : ℕ) : ℤ) + 1) - 1) = ((d : ℕ) : ℤ) := by ring
  have e0 : (64 * 0 + ((d : ℕ) : ℤ) - 1) = ((d : ℕ) : ℤ) - 1 := by ring
  have e2 : (64 * 0 + (((d : ℕ) : ℤ) + 2) - 1) = ((d : ℕ) : ℤ) + 1 := by ring
  have e3 : (64 * 0 + 0 - 1 : ℤ) = -1 := by norm_num
  have g : GG A0 A1 b 0 0 = plane g1 g2 (nn A0 b) (fun h w => yy A1 b h w * (1 / 27)) (-1) := by funext h w; rw [GG, e3]
  rw [g]
  simp only [GG, e1, e0, e2]
  unfold K kout
  rw [if_neg (show ¬ ((d : ℕ) : ℤ) = 127 by omega), sub_zero]
  congr 1
  simp only [Nat.cast_eq_zero]

/-- The block of the second half of the planes: the correction falls on its last plane. -/
theorem block_B (A0 A1 : Vec Ideal S8x1x128x128 .f32) (b : Fin 8) (d : Fin 64) (h w : Fin 128) :
    box (fun h w => GG A0 A1 b 1 (((d : ℕ) : ℤ) + 1) h w + GG A0 A1 b 1 ((d : ℕ) : ℤ) h w + GG A0 A1 b 1 (((d : ℕ) : ℤ) + 2) h w) ((h : ℕ) : ℤ) ((w : ℕ) : ℤ)
      - (if (d : ℕ) = 63 then box (GG A0 A1 b 1 65) ((h : ℕ) : ℤ) ((w : ℕ) : ℤ) else 0) = K A0 A1 b (64 + ((d : ℕ) : ℤ)) h w := by
  have hd := d.isLt
  have e1 : (64 * 1 + (((d : ℕ) : ℤ) + 1) - 1) = 64 + ((d : ℕ) : ℤ) := by ring
  have e0 : (64 * 1 + ((d : ℕ) : ℤ) - 1) = 64 + ((d : ℕ) : ℤ) - 1 := by ring
  have e2 : (64 * 1 + (((d : ℕ) : ℤ) + 2) - 1) = 64 + ((d : ℕ) : ℤ) + 1 := by ring
  have e3 : (64 * 1 + 65 - 1 : ℤ) = 128 := by norm_num
  have g : GG A0 A1 b 1 65 = plane g1 g2 (nn A0 b) (fun h w => yy A1 b h w * (1 / 27)) 128 := by funext h w; rw [GG, e3]
  rw [g]
  simp only [GG, e1, e0, e2]
  unfold K kout
  rw [if_neg (show ¬ (64 + ((d : ℕ) : ℤ)) = 0 by omega), sub_zero]
  have c : (64 + ((d : ℕ) : ℤ) = 127) = ((d : ℕ) = 63) := by apply propext; omega
  simp only [c]

variable (m : (ℓ : Loc nD τ sig) → Buf (Elt Ideal) ℓ)

/-- The depth map as launched. -/
abbrev A0 (c : Dev nD) : Vec Ideal S8x1x128x128 .f32 := m ((c : Thread nD τ).loc main_arg0)
/-- The intensities as launched. -/
abbrev A1 (c : Dev nD) : Vec Ideal S8x1x128x128 .f32 := m ((c : Thread nD τ).loc main_arg1)

/-- The batch entry of a grid point. -/
def bat (t : Fin cfg0.N) : Fin 8 := ⟨t.val / 2, by have := Nat.lt_of_lt_of_eq t.isLt N_0; omega⟩

/-- Where the blocks of the three windows lie. -/
theorem index0 : ∀ t : Fin cfg0.N, win0_0.index t 0 = t.val / 2 ∧ win0_0.index t 1 = 0 ∧ win0_0.index t 2 = 0 ∧ win0_0.index t 3 = 0 := by decide +kernel
/-- Grid step t reads the second argument at batch t / 2. -/
theorem index1 : ∀ t : Fin cfg0.N, win0_1.index t 0 = t.val / 2 ∧ win0_1.index t 1 = 0 ∧ win0_1.index t 2 = 0 ∧ win0_1.index t 3 = 0 := by decide +kernel
/-- Grid step t writes batch t / 2 and the half t % 2 of the depths. -/
theorem index2 : ∀ t : Fin cfg0.N, win0_2.index t 0 = t.val / 2 ∧ win0_2.index t 1 = t.val % 2 ∧ win0_2.index t 2 = 0 ∧ win0_2.index t 3 = 0 := by decide +kernel

/-- What a grid step reads of the depth map: its batch's plane. -/
theorem iblk0 (c : Dev nD) (t : Fin cfg0.N) (h w : Fin 128) : iblk m c 0 t (ix4 0 0 h w) = A0 m c (ix4 (bat t) 0 h w) := by
  change _ = V m c main_arg0 (ix4 (bat t) 0 h w)
  obtain ⟨e0, e1, e2, e3⟩ := index0 t
  blk_ext [iblk, V, bat, e0, e1, e2, e3]

/-- What a grid step reads of the intensities: its batch's plane. -/
theorem iblk1 (c : Dev nD) (t : Fin cfg0.N) (h w : Fin 128) : iblk m c 1 t (ix4 0 0 h w) = A1 m c (ix4 (bat t) 0 h w) := by
  change _ = V m c main_arg1 (ix4 (bat t) 0 h w)
  obtain ⟨e0, e1, e2, e3⟩ := index1 t
  blk_ext [iblk, V, bat, e0, e1, e2, e3]

/-- The second grid coordinate of step t is t % 2. -/
theorem coord1 (t : Fin cfg0.N) : (grid0.coords t 1).val = t.val % 2 := by
  have e1 : (grid0.coords t 1).val = t.val / 1 % 2 := Pipeline.Grid.coords_val t 1 (by decide) rfl
  rw [e1, Nat.div_one]

/-- The block that an even step, the first half of the depths, writes. -/
theorem outs_A (c : Dev nD) (hr : ∀ j, A1 m c j = ((EReal.toReal (A1 m c j) : ℝ) : EReal)) (t : Fin cfg0.N) (h0 : t.val % 2 = 0)
    (h1 : ¬t.val % 2 = 1) (d : Fin 64) (h w : Fin 128) :
    outsAt0 m c t.val t.isLt (ix4 0 d h w) = ((K (A0 m c) (A1 m c) (bat t) ((d : ℕ) : ℤ) h w : ℝ) : EReal) := by
  rw [outsAt0_A m c t h0 h1]
  frame_out
  have hc : ((grid0.coords t 1).val : ℤ) = 0 := by rw [coord1, h0]; rfl
  have p1 := fun d h w => pay1_GG (grid0.coords t) _ _ (A0 m c) (A1 m c) (bat t) (iblk0 m c t) (iblk1 m c t) hr d h w
  have p4 := fun p h w => pay4_GG (grid0.coords t) _ _ (A0 m c) (A1 m c) (bat t) (iblk0 m c t) (iblk1 m c t) hr p h w
  rw [hc] at p1 p4
  rw [two_stores, ← block_A]
  by_cases hd : (d : ℕ) = 0
  · rw [if_pos hd, if_pos hd]
    have hd' : d = 0 := Fin.ext hd
    subst hd'
    refine pay2_apply _ _ (GG (A0 m c) (A1 m c) (bat t) 0) _ p4 (fun p h w => GG_zero _ _ _ _ p h w) h w ?_
    rw [View.readCov_fill, ← p1]
    · pointwise
    · decide
  · rw [if_neg hd, if_neg hd, sub_zero, p1]

/-- The block that an odd step, the second half of the depths, writes. -/
theorem outs_B (c : Dev nD) (hr : ∀ j, A1 m c j = ((EReal.toReal (A1 m c j) : ℝ) : EReal)) (t : Fin cfg0.N) (h0 : ¬t.val % 2 = 0)
    (h1 : t.val % 2 = 1) (d : Fin 64) (h w : Fin 128) :
    outsAt0 m c t.val t.isLt (ix4 0 d h w) = ((K (A0 m c) (A1 m c) (bat t) (64 + ((d : ℕ) : ℤ)) h w : ℝ) : EReal) := by
  rw [outsAt0_B m c t h0 h1]
  frame_out
  have hc : ((grid0.coords t 1).val : ℤ) = 1 := by rw [coord1, h1]; rfl
  have p1 := fun d h w => pay1_GG (grid0.coords t) _ _ (A0 m c) (A1 m c) (bat t) (iblk0 m c t) (iblk1 m c t) hr d h w
  have p4 := fun p h w => pay4_GG (grid0.coords t) _ _ (A0 m c) (A1 m c) (bat t) (iblk0 m c t) (iblk1 m c t) hr p h w
  rw [hc] at p1 p4
  rw [two_stores, ← block_B]
  by_cases hd : (d : ℕ) = 63
  · rw [if_pos hd, if_pos hd]
    have hd' : d = 63 := Fin.ext hd
    subst hd'
    refine pay3_apply _ _ (GG (A0 m c) (A1 m c) (bat t) 1) _ p4 (fun p h w => GG_zero _ _ _ _ p h w) h w ?_
    rw [View.readCov_fill, ← p1]
    · pointwise
    · decide
  · rw [if_neg hd, if_neg hd, sub_zero, p1]

/-- The output array after the region: the kernel's voxel at every index. -/
def out (A0 A1 : Vec Ideal S8x1x128x128 .f32) : Vec Ideal S8x128x128x128 .f32 :=
  fun j => ((K A0 A1 (j 0) (((j 1 : Fin 128) : ℕ) : ℤ) (j 2) (j 3) : ℝ) : EReal)

/-- The whole array that the pipelined call leaves. -/
theorem arr (c : Dev nD) (hr : ∀ j, A1 m c j = ((EReal.toReal (A1 m c j) : ℝ) : EReal)) :
    (dats m 0 c).arrAt 2 cfg0.N = out (A0 m c) (A1 m c) := by
  refine (dats m 0 c).arrAt_eq_of_covers 2 _ (by decide +kernel) fun t hf y => ?_
  have ht := Nat.lt_of_lt_of_eq t.isLt N_0
  blk_simp
  rw [after0_2]
  obtain ⟨a, d, h, w, rfl⟩ : ∃ (a : Fin 1) (d : Fin 64) (h w : Fin 128), y = ix4 a d h w := ⟨y 0, y 1, y 2, y 3, eq_ix4 y⟩
  obtain rfl : a = 0 := Subsingleton.elim _ _
  obtain ⟨e0, e1, e2, e3⟩ := index2 t
  by_cases h0 : t.val % 2 = 0
  · have e : (win0_2.blk t).view.emb (ix4 0 d h w) = ix4 (bat t) ⟨d.val, by omega⟩ h w := by
      funext a
      apply Fin.ext
      change ((win0_2.rect t).emb (ix4 0 d h w) a).val = _
      rw [Pipeline.Window.rect_emb_val _ _ _ _ rfl]
      match a with
      | 0 => rw [e0]; simp [win0_2, bat]
      | 1 => rw [e1]; simp [win0_2]; omega
      | 2 => rw [e2]; simp
      | 3 => rw [e3]; simp
    rw [outs_A m c hr t h0 (by omega), e]
    rfl
  · have e : (win0_2.blk t).view.emb (ix4 0 d h w) = ix4 (bat t) ⟨64 + d.val, by omega⟩ h w := by
      funext a
      apply Fin.ext
      change ((win0_2.rect t).emb (ix4 0 d h w) a).val = _
      rw [Pipeline.Window.rect_emb_val _ _ _ _ rfl]
      match a with
      | 0 => rw [e0]; simp [win0_2, bat]
      | 1 => rw [e1]; simp [win0_2]; omega
      | 2 => rw [e2]; simp
      | 3 => rw [e3]; simp
    rw [outs_B m c hr t h0 (by omega), e]
    simp only [out, Nat.cast_add, Nat.cast_ofNat]
    rfl

end Cert.KernelIdeal.Val
end
-- ==== Proof.KRun.lean ====
/- The kernel's run: its result buffer holds the kernel's voxel at every index. -/
module

public import proofs.«01_k».proof.Proof.KBlock

@[expose] public section

set_option maxRecDepth 16384

noncomputable section

namespace Cert.KernelIdeal.Val

open Cert.KernelIdeal Cert.KernelIdeal.Gen Idealize.ShloMosaic Idealize.ShloMosaic.TcCoe Idealize.SL.Sem Cert.Model Cert.Pixel

variable (m : (ℓ : Loc nD τ sig) → Buf (Elt Ideal) ℓ) (ρ : Dev nD → PrngReg)

/-- The kernel's result, with its channel axis of extent 1. -/
def result (A0 A1 : Vec Ideal S8x1x128x128 .f32) : Vec Ideal S8x1x128x128x128 .f32 :=
  fun j => ((K A0 A1 (j 0) (((j 2 : Fin 128) : ℕ) : ℤ) (j 3) (j 4) : ℝ) : EReal)

/-- The lines after the region give the output array its channel axis. -/
theorem tail (c : Dev nD) (hr : ∀ j, A1 m c j = ((EReal.toReal (A1 m c j) : ℝ) : EReal)) :
    Pipeline.afterTail₀ cfgs (dats m) 0 (V0 m) [hostOps1] c main_v1 = result (A0 m c) (A1 m c) := by
  have e : Pipeline.withArrays spec0 c (V0 m c) (fun w => (dats m 0 c).arrAt w cfg0.N) (Proc.devRef .tc main_v0) = (dats m 0 c).arrAt 2 cfg0.N := by
    exact Pipeline.withArrays_arr spec0 launch0.win.arr_inj c (V0 m c) _ 2
  have e2 : Pipeline.afterTail₀ cfgs (dats m) 0 (V0 m) [hostOps1] c main_v1
      = broadcastInDim S8x1x128x128x128 ![0, 2, 3, 4] bcast_S8x128x128x128_S8x1x128x128x128_0_2_3_4
        (Pipeline.withArrays spec0 c (V0 m c) (fun w => (dats m 0 c).arrAt w cfg0.N) (Proc.devRef .tc main_v0)) := rfl
  rw [e2, e, arr m c hr]
  funext j
  idx_vars j
  pointwise [result, out]

/-- The kernel's run from real intensities. -/
theorem run (hr : ∀ c j, A1 m c j = ((EReal.toReal (A1 m c j) : ℝ) : EReal)) :
    θ_run defs (onTc (τ := τ) (main (F := Ideal))) ⟨m, fun _ => 0, ρ⟩ fun r => ∀ c : Dev nD,
      r.2.mem ((c : Thread nD τ).loc main_v1) = result (A0 m c) (A1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v1 (by decide +kernel)).trans (tail m c (hr c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Val
end
-- ==== Proof.RefScatter.lean ====
/- One of the reference's scatters at an index: each pixel adds its weighted intensity at its own depth index moved by a fixed
   offset, where that lies inside the volume, and nothing elsewhere. -/
module

public import proofs.«01_k».proof.Proof.RefVal
public import proofs.«01_k».proof.Proof.Pixel
public import Idealize.ShloMosaic.Lib.Pointwise
public import Idealize.ShloMosaic.Lib.Tactic.CleanTypes
public import Idealize.ShloMosaic.Lib.Routing.OpsPair

@[expose] public section

set_option maxRecDepth 16384

noncomputable section

namespace Cert.ReferenceIdeal.Val

open Cert.ReferenceIdeal Cert.ReferenceIdeal.Gen Idealize.ShloMosaic Idealize.ShloMosaic.TcCoe Cert.Model Cert.Pixel

/-- The reference's scatter. -/
abbrev D : ScatterDims S8x128x128x128 S8x128x128x4 S8x128x128 := scatter_S8x128x128x128_S8x128x128x4_S8x128x128_n_0123_0123_3

/-- The start of an update's window on an axis: the index table's entry for that pixel and axis. -/
theorem start_eq (ind : IVec S8x128x128x4 32) (b : Fin 8) (h w : Fin 128) (a : Fin 4) :
    ScatterDims.start D (ix3 b h w) ind a = (ind (ix4 b h w a)).toInt := by
  unfold ScatterDims.start
  rw [dif_pos (by revert a; decide)]
  congr 2
  funext c
  match a, c with
  | 0, 0 => rfl
  | 0, 1 => rfl
  | 0, 2 => rfl
  | 0, 3 => rfl
  | 1, 0 => rfl
  | 1, 1 => rfl
  | 1, 2 => rfl
  | 1, 3 => rfl
  | 2, 0 => rfl
  | 2, 1 => rfl
  | 2, 2 => rfl
  | 2, 3 => rfl
  | 3, 0 => rfl
  | 3, 1 => rfl
  | 3, 2 => rfl
  | 3, 3 => rfl

/-- A window is one element. -/
theorem window_eq (b : Fin 8) (h w : Fin 128) (a : Fin 4) : ScatterDims.window D (ix3 b h w) a = 0 := by
  unfold ScatterDims.window
  rw [dif_neg (by revert a; decide)]

/-- The scatter at an index, where the index table sends the pixel `(b, h, w)` to `(b, N b h w, h, w)`. -/
theorem scatter_at (x : Vec Ideal S8x128x128x128 .f32) (ind : IVec S8x128x128x4 32) (upd : Vec Ideal S8x128x128 .f32)
    (N : Fin 8 → Fin 128 → Fin 128 → ℤ)
    (h0 : ∀ b h w, (ind (ix4 b h w 0)).toInt = ((b : ℕ) : ℤ)) (h1 : ∀ b h w, (ind (ix4 b h w 1)).toInt = N b h w)
    (h2 : ∀ b h w, (ind (ix4 b h w 2)).toInt = ((h : ℕ) : ℤ)) (h3 : ∀ b h w, (ind (ix4 b h w 3)).toInt = ((w : ℕ) : ℤ))
    (b : Fin 8) (e h w : Fin 128) :
    Host.scatterAdd (F := Ideal) (φ := .f32) D x ind upd (ix4 b e h w) = x (ix4 b e h w) + if N b h w = ((e : ℕ) : ℤ) then upd (ix3 b h w) else (0 : EReal) := by
  have key (b' : Fin 8) (h' w' : Fin 128) : ScatterDims.resultIdx? D (ix3 b' h' w') ind = some (ix4 b e h w)
      ↔ (b' = b ∧ h' = h ∧ w' = w) ∧ N b h w = ((e : ℕ) : ℤ) := by
    rw [Routing.resultIdx?_eq_some]
    constructor
    · intro q
      have q0 := q 0
      have q1 := q 1
      have q2 := q 2
      have q3 := q 3
      rw [start_eq, window_eq, h0] at q0
      rw [start_eq, window_eq, h1] at q1
      rw [start_eq, window_eq, h2] at q2
      rw [start_eq, window_eq, h3] at q3
      change ((b' : ℕ) : ℤ) + ((0 : ℕ) : ℤ) = ((b : ℕ) : ℤ) at q0
      change N b' h' w' + ((0 : ℕ) : ℤ) = ((e : ℕ) : ℤ) at q1
      change ((h' : ℕ) : ℤ) + ((0 : ℕ) : ℤ) = ((h : ℕ) : ℤ) at q2
      change ((w' : ℕ) : ℤ) + ((0 : ℕ) : ℤ) = ((w : ℕ) : ℤ) at q3
      have e0 : b' = b := Fin.ext (by omega)
      have e2 : h' = h := Fin.ext (by omega)
      have e3 : w' = w := Fin.ext (by omega)
      subst e0 e2 e3
      exact ⟨⟨rfl, rfl, rfl⟩, by omega⟩
    · rintro ⟨⟨rfl, rfl, rfl⟩, q⟩ a
      rw [start_eq, window_eq]
      match a with
      | 0 => rw [h0]; simp
      | 1 => rw [h1, q]; simp
      | 2 => rw [h2]; simp
      | 3 => rw [h3]; simp
  change Ideal.hostScatterAdd D x ind upd (ix4 b e h w) = _
  unfold Ideal.hostScatterAdd
  congr 1
  rw [Finset.sum_filter, Finset.sum_eq_single (ix3 b h w)]
  · simp only [key, true_and, and_self]
  · intro j _ hj
    obtain ⟨b', h', w', rfl⟩ : ∃ (b' : Fin 8) (h' w' : Fin 128), j = ix3 b' h' w' := ⟨j 0, j 1, j 2, eq_ix3 j⟩
    rw [if_neg]
    rw [key]
    rintro ⟨⟨rfl, rfl, rfl⟩, -⟩
    exact hj rfl
  · intro q
    exact absurd (Finset.mem_univ _) q

/-- A word that is a natural number below 128 is not moved by the redirection of negative words. -/
theorem wrap (v c : BitVec 32) (hv : v.toNat < 128) : Scalar.select (IntOp.cmpi .slt v 0#32) (IntOp.addi v c) v = v := by
  have h : v.slt 0#32 = false := by
    have hi := BitVec.toInt_eq_toNat_cond v
    simp only [BitVec.slt, decide_eq_false_iff_not]
    rw [show (0#32 : BitVec 32).toInt = 0 from rfl]
    split at hi <;> omega
  simp [Scalar.select, IntOp.cmpi, h]

/-- Such a word read as an integer. -/
theorem toInt_small (v : BitVec 32) (hv : v.toNat < 128) : v.toInt = (v.toNat : ℤ) := by
  have hi := BitVec.toInt_eq_toNat_cond v
  split at hi <;> omega

/-- One scatter of the reference: depth words `off`, intensities `y`, the weight's word `W`. -/
def scat (v14 : IVec S8x1x1 32) (v16 : IVec S1x128x1 32) (v18 : IVec S1x1x128 32) (off : IVec S8x128x128 32) (y : Vec Ideal S8x128x128 .f32)
    (W : BitVec 32) (x : Vec Ideal S8x128x128x128 .f32) : Vec Ideal S8x128x128x128 .f32 :=
  Host.scatterAdd (F := Ideal) (φ := .f32) D x ((concatenate S8x128x128x4 3 [⟨S8x128x128x1, ((broadcastInDim S8x128x128x1 ![0, 1, 2] bcast_S8x128x128_S8x128x128x1_0_1_2 (broadcastInDim S8x128x128 ![0, 1, 2] bcast_S8x1x1_S8x128x128_0_1_2 (select (cmpi .slt v14 (broadcastInDim S8x1x1 ![] bcast_S_S8x1x1 (constantI S_ 32 0#32))) (addi v14 (broadcastInDim S8x1x1 ![] bcast_S_S8x1x1 (constantI S_ 32 8#32))) v14))) : (⟨S8x128x128x1, .i32⟩ : BufTy).Contents (Elt Ideal))⟩, ⟨S8x128x128x1, ((broadcastInDim S8x128x128x1 ![0, 1, 2] bcast_S8x128x128_S8x128x128x1_0_1_2 (select (cmpi .slt (clip off) (broadcastInDim S8x128x128 ![] bcast_S_S8x128x128 (constantI S_ 32 0#32))) (addi (clip off) (broadcastInDim S8x128x128 ![] bcast_S_S8x128x128 (constantI S_ 32 128#32))) (clip off))) : (⟨S8x128x128x1, .i32⟩ : BufTy).Contents (Elt Ideal))⟩, ⟨S8x128x128x1, ((broadcastInDim S8x128x128x1 ![0, 1, 2] bcast_S8x128x128_S8x128x128x1_0_1_2 (broadcastInDim S8x128x128 ![0, 1, 2] bcast_S1x128x1_S8x128x128_0_1_2 (select (cmpi .slt v16 (broadcastInDim S1x128x1 ![] bcast_S_S1x128x1 (constantI S_ 32 0#32))) (addi v16 (broadcastInDim S1x128x1 ![] bcast_S_S1x128x1 (constantI S_ 32 128#32))) v16))) : (⟨S8x128x128x1, .i32⟩ : BufTy).Contents (Elt Ideal))⟩, ⟨S8x128x128x1, ((broadcastInDim S8x128x128x1 ![0, 1, 2] bcast_S8x128x128_S8x128x128x1_0_1_2 (broadcastInDim S8x128x128 ![0, 1, 2] bcast_S1x1x128_S8x128x128_0_1_2 (select (cmpi .slt v18 (broadcastInDim S1x1x128 ![] bcast_S_S1x1x128 (constantI S_ 32 0#32))) (addi v18 (broadcastInDim S1x1x128 ![] bcast_S_S1x1x128 (constantI S_ 32 128#32))) v18))) : (⟨S8x128x128x1, .i32⟩ : BufTy).Contents (Elt Ideal))⟩] concatenates_S8x128x128x1_S8x128x128x1_S8x128x128x1_S8x128x128x1_S8x128x128x4_d3 : (⟨S8x128x128x4, .i32⟩ : BufTy).Contents (Elt Ideal))) (mulf (mulf y (broadcastInDim S8x128x128 ![] bcast_S_S8x128x128 (constant S_ .f32 W))) (uitofp .f32 (andi (cmpi .sge off (broadcastInDim S8x128x128 ![] bcast_S_S8x128x128 (constantI S_ 32 0#32))) (cmpi .slt off (broadcastInDim S8x128x128 ![] bcast_S_S8x128x128 (constantI S_ 32 128#32))))))
where
  /-- The depth words clipped into the volume. -/
  clip (off : IVec S8x128x128 32) : IVec S8x128x128 32 :=
    minsi (broadcastInDim S8x128x128 ![] bcast_S_S8x128x128 (id (constantI S_ 32 127#32))) (maxsi (broadcastInDim S8x128x128 ![] bcast_S_S8x128x128 (id (constantI S_ 32 0#32))) off)

/-- The five offsets as words. -/
def K : Fin 5 → BitVec 32 := ![4294967294#32, 4294967295#32, 0#32, 1#32, 2#32]

/-- A depth index moved by an offset: the reference's bit says whether it lies inside the volume. -/
theorem bit_eq : ∀ (n : Fin 128) (k : Fin 5), IntOp.andi (IntOp.cmpi .sge (IntOp.addi (BitVec.ofNat 32 n) (K k)) 0#32) (IntOp.cmpi .slt (IntOp.addi (BitVec.ofNat 32 n) (K k)) 128#32)
    = if 0 ≤ ((n : ℕ) : ℤ) + ((k : ℕ) : ℤ) - 2 ∧ ((n : ℕ) : ℤ) + ((k : ℕ) : ℤ) - 2 < 128 then 1#1 else 0#1 := by decide +kernel

/-- A depth index moved by an offset: where it lies inside the volume the clipping leaves it. -/
theorem clip_eq : ∀ (n : Fin 128) (k : Fin 5), 0 ≤ ((n : ℕ) : ℤ) + ((k : ℕ) : ℤ) - 2 ∧ ((n : ℕ) : ℤ) + ((k : ℕ) : ℤ) - 2 < 128 →
    ((IntOp.minsi (127#32) (IntOp.maxsi (0#32) (IntOp.addi (BitVec.ofNat 32 n) (K k)))).toNat : ℤ) = ((n : ℕ) : ℤ) + ((k : ℕ) : ℤ) - 2 := by decide +kernel

/-- One scatter at an index: the depth words are a depth index below 128 moved by one of the five offsets. -/
theorem scat_at (v14 : IVec S8x1x1 32) (v16 : IVec S1x128x1 32) (v18 : IVec S1x1x128 32) (off : IVec S8x128x128 32) (y : Vec Ideal S8x128x128 .f32)
    (W : BitVec 32) (x : Vec Ideal S8x128x128x128 .f32) (N : Fin 8 → Fin 128 → Fin 128 → Fin 128) (Y : Fin 8 → Fin 128 → Fin 128 → ℝ) (k : Fin 5) (g : ℝ)
    (h14 : ∀ b, v14 (ix3 b 0 0) = BitVec.ofNat 32 b) (h16 : ∀ h, v16 (ix3 0 h 0) = BitVec.ofNat 32 h) (h18 : ∀ w, v18 (ix3 0 0 w) = BitVec.ofNat 32 w)
    (hoff : ∀ b h w, off (ix3 b h w) = IntOp.addi (BitVec.ofNat 32 (N b h w)) (K k)) (hy : ∀ b h w, y (ix3 b h w) = ((Y b h w : ℝ) : EReal))
    (hW : Ideal.ofBits .f32 W = ((g : ℝ) : EReal)) (b : Fin 8) (e h w : Fin 128) :
    scat v14 v16 v18 off y W x (ix4 b e h w)
      = x (ix4 b e h w) + ((if ((N b h w : ℕ) : ℤ) + ((k : ℕ) : ℤ) - 2 = ((e : ℕ) : ℤ) then Y b h w * g else 0 : ℝ) : EReal) := by
  unfold scat
  rw [scatter_at (N := fun b h w => ((IntOp.minsi (127#32) (IntOp.maxsi (0#32) (IntOp.addi (BitVec.ofNat 32 (N b h w)) (K k)))).toNat : ℤ))]
  · congr 1
    pointwise
    rw [hy, hW, hoff, bit_eq]
    by_cases c : 0 ≤ ((N b h w : ℕ) : ℤ) + ((k : ℕ) : ℤ) - 2 ∧ ((N b h w : ℕ) : ℤ) + ((k : ℕ) : ℤ) - 2 < 128
    · rw [if_pos c, clip_eq _ _ c]
      have u : (FloatOps.uitofp (F := Ideal) .f32 (1#1 : BitVec 1) : EReal) = ((1 : ℝ) : EReal) := by
        change (((1#1 : BitVec 1).toNat : ℝ) : EReal) = _
        norm_num
      by_cases q : ((N b h w : ℕ) : ℤ) + ((k : ℕ) : ℤ) - 2 = ((e : ℕ) : ℤ)
      · rw [if_pos q, if_pos q, u, ← EReal.coe_mul, ← EReal.coe_mul, mul_one]
      · rw [if_neg q, if_neg q, EReal.coe_zero]
    · rw [if_neg c]
      have u : (FloatOps.uitofp (F := Ideal) .f32 (0#1 : BitVec 1) : EReal) = ((0 : ℝ) : EReal) := by
        change (((0#1 : BitVec 1).toNat : ℝ) : EReal) = _
        norm_num
      have he := e.isLt
      have q : ¬((N b h w : ℕ) : ℤ) + ((k : ℕ) : ℤ) - 2 = ((e : ℕ) : ℤ) := by omega
      rw [if_neg q, u, ← EReal.coe_mul, ← EReal.coe_mul, mul_zero, EReal.coe_zero, ite_self]
  · intro b h w
    have hb : (BitVec.ofNat 32 (b : ℕ)).toNat = (b : ℕ) := by rw [BitVec.toNat_ofNat]; omega
    pointwise
    rw [h14, wrap _ _ (by omega), toInt_small _ (by omega), hb]
  · intro b h w
    pointwise [scat.clip]
    rw [hoff]
    change BitVec.toInt (Scalar.select (IntOp.cmpi .slt (IntOp.minsi (127#32) (IntOp.maxsi (0#32) (IntOp.addi (BitVec.ofNat 32 (N b h w)) (K k)))) 0#32)
      (IntOp.addi (IntOp.minsi (127#32) (IntOp.maxsi (0#32) (IntOp.addi (BitVec.ofNat 32 (N b h w)) (K k)))) 128#32)
      (IntOp.minsi (127#32) (IntOp.maxsi (0#32) (IntOp.addi (BitVec.ofNat 32 (N b h w)) (K k))))) = _
    rw [wrap _ _ (clip_lt _), toInt_small _ (clip_lt _)]
  · intro b h w
    have hb : (BitVec.ofNat 32 (h : ℕ)).toNat = (h : ℕ) := by rw [BitVec.toNat_ofNat]; omega
    pointwise
    rw [h16, wrap _ _ (by omega), toInt_small _ (by omega), hb]
  · intro b h w
    have hb : (BitVec.ofNat 32 (w : ℕ)).toNat = (w : ℕ) := by rw [BitVec.toNat_ofNat]; omega
    pointwise
    rw [h18, wrap _ _ (by omega), toInt_small _ (by omega), hb]

end Cert.ReferenceIdeal.Val
end
-- ==== Proof.RefWindow.lean ====
/- The reference's window sum at an index: over a volume of real entries it is the 3 by 3 box of three neighbouring planes,
   the volume continued by zero. -/
module

public import proofs.«01_k».proof.ReferenceIdeal
public import proofs.«01_k».proof.Proof.Pixel
public import Idealize.ShloMosaic.Lib.Pointwise

@[expose] public section

set_option maxRecDepth 16384

noncomputable section

namespace Cert.ReferenceIdeal.Val

open Cert.ReferenceIdeal Idealize.ShloMosaic Cert.Model Cert.Pixel

/-- Adding up along a list is the sum over it. -/
theorem foldl_sum {N : ℕ} (f : Fin N → EReal) (v : EReal) : (List.finRange N).foldl (fun r n => r + f n) v = v + ∑ n, f n := by
  have k : ∀ (l : List (Fin N)) (v : EReal), l.foldl (fun r n => r + f n) v = v + (l.map f).sum := by
    intro l
    induction l with
    | nil => intro v; simp
    | cons a l ih => intro v; rw [List.foldl_cons, ih, List.map_cons, List.sum_cons, add_assoc]
  rw [k, ← List.ofFn_eq_map, List.sum_ofFn]

/-- The window sum, over the positions of the window. -/
theorem window_sum (x : Vec Ideal S8x1x128x128x128 .f32) (init : Vec Ideal S_ .f32) (hi : ∀ i, init i = (0 : EReal))
    (hw : S8x1x128x128x128.ReduceWindows (![1, 1, 3, 3, 3] : Fin 5 → Nat) ![1, 1, 1, 1, 1] ![0, 0, 1, 1, 1] ![0, 0, 1, 1, 1] S8x1x128x128x128)
    (hu : 0 < S_.numel) (T : ℤ → ℤ → ℤ → ℝ) (b : Fin 8)
    (hx : ∀ e h w : Fin 128, x (ix5 b 0 e h w) = ((T ((e : ℕ) : ℤ) ((h : ℕ) : ℤ) ((w : ℕ) : ℤ) : ℝ) : EReal))
    (hz : ∀ e h w : ℤ, e < 0 ∨ 128 ≤ e ∨ h < 0 ∨ 128 ≤ h ∨ w < 0 ∨ 128 ≤ w → T e h w = 0) (e h w : Fin 128) :
    Host.reduceWindowAdd (F := Ideal) (φ := .f32) ![1, 1, 3, 3, 3] ![1, 1, 1, 1, 1] ![0, 0, 1, 1, 1] ![0, 0, 1, 1, 1] x init hw hu (ix5 b 0 e h w)
      = ((∑ i : Fin 3, ∑ j : Fin 3, ∑ k : Fin 3, T (((e : ℕ) : ℤ) + ((i : ℕ) : ℤ) - 1) (((h : ℕ) : ℤ) + ((j : ℕ) : ℤ) - 1) (((w : ℕ) : ℤ) + ((k : ℕ) : ℤ) - 1) : ℝ) : EReal) := by
  have he := e.isLt
  have hh := h.isLt
  have hw' := w.isLt
  change Host.reduceWindow (· + ·) _ _ _ _ x (fun _ : (⟨0, ![]⟩ : Shape).Idx => init (Shape.Idx.first hu)) hw (by decide) (ix5 b 0 e h w) = _
  rw [hi]
  unfold Host.reduceWindow
  dsimp only
  refine (foldl_sum _ _).trans ?_
  rw [zero_add]
  refine (Finset.sum_congr rfl fun n _ => dite_congr rfl (fun _ => rfl) (fun _ => rfl)).trans
    ((Equiv.sum_comp ((⟨5, ![1, 1, 3, 3, 3]⟩ : Shape).rowMajor.symm) fun q : (⟨5, ![1, 1, 3, 3, 3]⟩ : Shape).Idx =>
    if hin : ∀ a : Fin 5, (![0, 0, 1, 1, 1] : Fin 5 → ℕ) a ≤ ((ix5 b 0 e h w : S8x1x128x128x128.Idx) a).val * (![1, 1, 1, 1, 1] : Fin 5 → ℕ) a + (q a).val
      ∧ ((ix5 b 0 e h w : S8x1x128x128x128.Idx) a).val * (![1, 1, 1, 1, 1] : Fin 5 → ℕ) a + (q a).val - (![0, 0, 1, 1, 1] : Fin 5 → ℕ) a < S8x1x128x128x128.size a
    then x (fun a => ⟨((ix5 b 0 e h w : S8x1x128x128x128.Idx) a).val * (![1, 1, 1, 1, 1] : Fin 5 → ℕ) a + (q a).val - (![0, 0, 1, 1, 1] : Fin 5 → ℕ) a, (hin a).2⟩) else (0 : EReal)).trans ?_)
  rw [sum_idx5, Fin.sum_univ_one, Fin.sum_univ_one]
  have term (i j k : Fin 3) : (if hin : ∀ a : Fin 5, (![0, 0, 1, 1, 1] : Fin 5 → ℕ) a ≤ ((ix5 b 0 e h w : S8x1x128x128x128.Idx) a).val * (![1, 1, 1, 1, 1] : Fin 5 → ℕ) a + ((ix5 0 0 i j k : (⟨5, ![1, 1, 3, 3, 3]⟩ : Shape).Idx) a).val
      ∧ ((ix5 b 0 e h w : S8x1x128x128x128.Idx) a).val * (![1, 1, 1, 1, 1] : Fin 5 → ℕ) a + ((ix5 0 0 i j k : (⟨5, ![1, 1, 3, 3, 3]⟩ : Shape).Idx) a).val - (![0, 0, 1, 1, 1] : Fin 5 → ℕ) a < S8x1x128x128x128.size a
    then x (fun a => ⟨((ix5 b 0 e h w : S8x1x128x128x128.Idx) a).val * (![1, 1, 1, 1, 1] : Fin 5 → ℕ) a + ((ix5 0 0 i j k : (⟨5, ![1, 1, 3, 3, 3]⟩ : Shape).Idx) a).val - (![0, 0, 1, 1, 1] : Fin 5 → ℕ) a, (hin a).2⟩) else (0 : EReal))
      = ((T (((e : ℕ) : ℤ) + ((i : ℕ) : ℤ) - 1) (((h : ℕ) : ℤ) + ((j : ℕ) : ℤ) - 1) (((w : ℕ) : ℤ) + ((k : ℕ) : ℤ) - 1) : ℝ) : EReal) := by
    by_cases c : ((1 ≤ (e : ℕ) + (i : ℕ) ∧ (e : ℕ) + (i : ℕ) - 1 < 128) ∧ (1 ≤ (h : ℕ) + (j : ℕ) ∧ (h : ℕ) + (j : ℕ) - 1 < 128)) ∧ (1 ≤ (w : ℕ) + (k : ℕ) ∧ (w : ℕ) + (k : ℕ) - 1 < 128)
    · obtain ⟨⟨c1, c2⟩, c3⟩ := c
      rw [dif_pos]
      · rw [show (((e : ℕ) : ℤ) + ((i : ℕ) : ℤ) - 1) = (((e : ℕ) + (i : ℕ) - 1 : ℕ) : ℤ) by omega,
          show (((h : ℕ) : ℤ) + ((j : ℕ) : ℤ) - 1) = (((h : ℕ) + (j : ℕ) - 1 : ℕ) : ℤ) by omega,
          show (((w : ℕ) : ℤ) + ((k : ℕ) : ℤ) - 1) = (((w : ℕ) + (k : ℕ) - 1 : ℕ) : ℤ) by omega]
        refine Eq.trans (congrArg x (funext fun a => Fin.ext ?_)) (hx ⟨_, c1.2⟩ ⟨_, c2.2⟩ ⟨_, c3.2⟩)
        match a with
        | 0 => change (b : ℕ) * 1 + 0 - 0 = b; omega
        | 1 => rfl
        | 2 => change (e : ℕ) * 1 + (i : ℕ) - 1 = (e : ℕ) + (i : ℕ) - 1; omega
        | 3 => change (h : ℕ) * 1 + (j : ℕ) - 1 = (h : ℕ) + (j : ℕ) - 1; omega
        | 4 => change (w : ℕ) * 1 + (k : ℕ) - 1 = (w : ℕ) + (k : ℕ) - 1; omega
      · intro a
        match a with
        | 0 => change 0 ≤ (b : ℕ) * 1 + 0 ∧ (b : ℕ) * 1 + 0 - 0 < 8; omega
        | 1 => change 0 ≤ 0 * 1 + 0 ∧ 0 * 1 + 0 - 0 < 1; omega
        | 2 => change 1 ≤ (e : ℕ) * 1 + (i : ℕ) ∧ (e : ℕ) * 1 + (i : ℕ) - 1 < 128; omega
        | 3 => change 1 ≤ (h : ℕ) * 1 + (j : ℕ) ∧ (h : ℕ) * 1 + (j : ℕ) - 1 < 128; omega
        | 4 => change 1 ≤ (w : ℕ) * 1 + (k : ℕ) ∧ (w : ℕ) * 1 + (k : ℕ) - 1 < 128; omega
    · rw [hz _ _ _ (by omega), dif_neg]
      · rfl
      · intro q
        have q2 := q 2
        have q3 := q 3
        have q4 := q 4
        change 1 ≤ (e : ℕ) * 1 + (i : ℕ) ∧ (e : ℕ) * 1 + (i : ℕ) - 1 < 128 at q2
        change 1 ≤ (h : ℕ) * 1 + (j : ℕ) ∧ (h : ℕ) * 1 + (j : ℕ) - 1 < 128 at q3
        change 1 ≤ (w : ℕ) * 1 + (k : ℕ) ∧ (w : ℕ) * 1 + (k : ℕ) - 1 < 128 at q4
        omega
  simp only [Fin.sum_univ_three, ← term, EReal.coe_add]

/-- The same as a box of three neighbouring planes. -/
theorem box_sum (T : ℤ → ℤ → ℤ → ℝ) (e h w : ℤ) :
    (∑ i : Fin 3, ∑ j : Fin 3, ∑ k : Fin 3, T (e + ((i : ℕ) : ℤ) - 1) (h + ((j : ℕ) : ℤ) - 1) (w + ((k : ℕ) : ℤ) - 1))
      = box (fun h w => T e h w + T (e - 1) h w + T (e + 1) h w) h w := by
  have s0 (a : ℤ) : a + (((0 : Fin 3) : ℕ) : ℤ) - 1 = a - 1 := by simp
  have s1 (a : ℤ) : a + (((1 : Fin 3) : ℕ) : ℤ) - 1 = a := by simp
  have s2 (a : ℤ) : a + (((2 : Fin 3) : ℕ) : ℤ) - 1 = a + 1 := by
    change a + ((2 : ℕ) : ℤ) - 1 = a + 1
    push_cast; ring
  simp only [Fin.sum_univ_three, s0, s1, s2, box]
  ring

end Cert.ReferenceIdeal.Val
end
-- ==== Proof.RefPoint.lean ====
/- The reference's result at an index: its five scatters make the volume of spread pixels, whose window sums are then divided
   by 27. -/
module

public import proofs.«01_k».proof.Proof.RefRun
public import proofs.«01_k».proof.Proof.RefScatter
public import proofs.«01_k».proof.Proof.RefWindow

@[expose] public section

set_option maxRecDepth 16384

noncomputable section

namespace Cert.ReferenceIdeal.Val

open Cert.ReferenceIdeal Cert.ReferenceIdeal.Gen Cert.ReferenceIdeal.Run Idealize.ShloMosaic Idealize.ShloMosaic.TcCoe Idealize.SL.Sem Idealize.ShloMosaic.StableHlo Cert.Model Cert.Pixel

variable (V0 : Valuation τ sig (Elt Ideal))

/-- The depth map. -/
abbrev A0 : Vec Ideal S8x1x128x128 .f32 := V0 (Proc.devRef .tc main_arg0)
/-- The intensities. -/
abbrev A1 : Vec Ideal S8x1x128x128 .f32 := V0 (Proc.devRef .tc main_arg1)

/-- The depth words at a pixel. -/
theorem v10_at (b : Fin 8) (h w : Fin 128) : (res_main_v10 V0 : IVec S8x128x128 32) (ix3 b h w) = BitVec.ofNat 32 (idx (A0 V0 (ix4 b 0 h w))) := by
  unfold res_main_v10
  clean_types
  pointwise
  have d1 (x : EReal) : Ideal.div x 1 = x := by
    rw [← EReal.coe_one, Ideal.div_coe one_ne_zero]
    norm_num
  rw [d1]
  change word (A0 V0 (ix4 b 0 h w)) = _
  rw [idx, BitVec.ofNat_toNat, BitVec.setWidth_eq]

/-- The intensity at a pixel. -/
theorem v11_at (b : Fin 8) (h w : Fin 128) : (res_main_v11 V0 : Vec Ideal S8x128x128 .f32) (ix3 b h w) = A1 V0 (ix4 b 0 h w) := by
  unfold res_main_v11
  clean_types
  pointwise

/-- A scatter of the reference with its tables of indices filled in. -/
def sc (off : IVec S8x128x128 32) (W : BitVec 32) (x : Vec Ideal S8x128x128x128 .f32) : Vec Ideal S8x128x128x128 .f32 :=
  scat (res_main_v14 V0) (res_main_v16 V0) (res_main_v18 V0) off (res_main_v11 V0) W x

/-- The volume before the scatters. -/
def zero : Vec Ideal S8x128x128x128 .f32 := broadcastInDim S8x128x128x128 ![] bcast_S_S8x128x128x128 (constant (F := Ideal) S_ .f32 0x00000000#32)

/-- The first two scatters. -/
theorem v100_eq : (res_main_v100 V0 : Vec Ideal S8x128x128x128 .f32)
    = sc V0 (res_main_v61 V0) 0x3F1B4598#32 (sc V0 (res_main_v20 V0) 0x3E0A9555#32 zero) := rfl

/-- The next two scatters. -/
theorem v182_eq : (res_main_v182 V0 : Vec Ideal S8x128x128x128 .f32)
    = sc V0 (res_main_v143 V0) 0x3F1B4598#32 (sc V0 (res_main_v102 V0) 0x3F800000#32 (res_main_v100 V0)) := rfl

/-- A scatter at an index. -/
theorem sc_at (hr : ∀ j, A1 V0 j = ((EReal.toReal (A1 V0 j) : ℝ) : EReal)) (off : IVec S8x128x128 32) (W : BitVec 32) (x : Vec Ideal S8x128x128x128 .f32)
    (k : Fin 5) (g : ℝ) (hoff : ∀ b h w, off (ix3 b h w) = IntOp.addi ((res_main_v10 V0 : IVec S8x128x128 32) (ix3 b h w)) (K k))
    (hW : Ideal.ofBits .f32 W = ((g : ℝ) : EReal)) (b : Fin 8) (e h w : Fin 128) (r : ℝ) (hx : x (ix4 b e h w) = ((r : ℝ) : EReal)) :
    sc V0 off W x (ix4 b e h w)
      = ((r + (if nn (A0 V0) b ((h : ℕ) : ℤ) ((w : ℕ) : ℤ) + ((k : ℕ) : ℤ) - 2 = ((e : ℕ) : ℤ) then yy (A1 V0) b ((h : ℕ) : ℤ) ((w : ℕ) : ℤ) * g else 0) : ℝ) : EReal) := by
  rw [sc, scat_at _ _ _ _ _ _ _ (fun b h w => ⟨idx (A0 V0 (ix4 b 0 h w)), idx_lt _⟩) (fun b h w => EReal.toReal (A1 V0 (ix4 b 0 h w))) k g
    ?_ ?_ ?_ ?_ ?_ hW b e h w, hx, ← EReal.coe_add, nn, yy, pix_coe, pix_coe]
  · intro b
    unfold res_main_v14
    clean_types
    pointwise
    try rfl
  · intro h
    unfold res_main_v16
    clean_types
    pointwise
    try rfl
  · intro w
    unfold res_main_v18
    clean_types
    pointwise
    try rfl
  · intro b h w
    rw [hoff, v10_at]
  · intro b h w
    rw [v11_at, ← hr]

/-- The depth words moved by the five offsets. -/
theorem off0 (b : Fin 8) (h w : Fin 128) : (res_main_v20 V0 : IVec S8x128x128 32) (ix3 b h w) = IntOp.addi ((res_main_v10 V0 : IVec S8x128x128 32) (ix3 b h w)) (K 0) := rfl
/-- The second scatter's depth: the bin minus one. -/
theorem off1 (b : Fin 8) (h w : Fin 128) : (res_main_v61 V0 : IVec S8x128x128 32) (ix3 b h w) = IntOp.addi ((res_main_v10 V0 : IVec S8x128x128 32) (ix3 b h w)) (K 1) := rfl
/-- The third scatter's depth: the bin itself. -/
theorem off2 (b : Fin 8) (h w : Fin 128) : (res_main_v102 V0 : IVec S8x128x128 32) (ix3 b h w) = IntOp.addi ((res_main_v10 V0 : IVec S8x128x128 32) (ix3 b h w)) (K 2) := rfl
/-- The fourth scatter's depth: the bin plus one. -/
theorem off3 (b : Fin 8) (h w : Fin 128) : (res_main_v143 V0 : IVec S8x128x128 32) (ix3 b h w) = IntOp.addi ((res_main_v10 V0 : IVec S8x128x128 32) (ix3 b h w)) (K 3) := rfl
/-- The fifth scatter's depth: the bin plus two. -/
theorem off4 (b : Fin 8) (h w : Fin 128) : (res_main_v184 V0 : IVec S8x128x128 32) (ix3 b h w) = IntOp.addi ((res_main_v10 V0 : IVec S8x128x128 32) (ix3 b h w)) (K 4) := rfl

/-- The volume after the five scatters. -/
def volume : Vec Ideal S8x128x128x128 .f32 := sc V0 (res_main_v184 V0) 0x3E0A9555#32 (res_main_v182 V0)

/-- The volume at an index. -/
theorem volume_at (hr : ∀ j, A1 V0 j = ((EReal.toReal (A1 V0 j) : ℝ) : EReal)) (b : Fin 8) (e h w : Fin 128) :
    volume V0 (ix4 b e h w) = ((plane g1 g2 (nn (A0 V0) b) (yy (A1 V0) b) ((e : ℕ) : ℤ) ((h : ℕ) : ℤ) ((w : ℕ) : ℤ) : ℝ) : EReal) := by
  have h1 : Ideal.ofBits .f32 0x3F800000#32 = ((1 : ℝ) : EReal) := by rw [Ideal.ofBits_one_f32, EReal.coe_one]
  have z : zero (ix4 b e h w) = ((0 : ℝ) : EReal) := by
    pointwise [zero]
    rfl
  rw [volume, v182_eq, v100_eq]
  rw [sc_at V0 hr _ _ _ 4 g2 (off4 V0) ofBits_g2 b e h w _
    (sc_at V0 hr _ _ _ 3 g1 (off3 V0) ofBits_g1 b e h w _
      (sc_at V0 hr _ _ _ 2 1 (off2 V0) h1 b e h w _
        (sc_at V0 hr _ _ _ 1 g1 (off1 V0) ofBits_g1 b e h w _
          (sc_at V0 hr _ _ _ 0 g2 (off0 V0) ofBits_g2 b e h w _ z))))]
  congr 1
  unfold plane splat
  generalize nn (A0 V0) b ((h : ℕ) : ℤ) ((w : ℕ) : ℤ) = n
  generalize yy (A1 V0) b ((h : ℕ) : ℤ) ((w : ℕ) : ℤ) = y
  generalize ((e : ℕ) : ℤ) = q
  have c0 : (n + (((0 : Fin 5) : ℕ) : ℤ) - 2 = q) = (q + 2 = n) := by
    change (n + ((0 : ℕ) : ℤ) - 2 = q) = _
    apply propext; omega
  have c1 : (n + (((1 : Fin 5) : ℕ) : ℤ) - 2 = q) = (q + 1 = n) := by
    change (n + ((1 : ℕ) : ℤ) - 2 = q) = _
    apply propext; omega
  have c2 : (n + (((2 : Fin 5) : ℕ) : ℤ) - 2 = q) = (q = n) := by
    change (n + ((2 : ℕ) : ℤ) - 2 = q) = _
    apply propext; omega
  have c3 : (n + (((3 : Fin 5) : ℕ) : ℤ) - 2 = q) = (q - 1 = n) := by
    change (n + ((3 : ℕ) : ℤ) - 2 = q) = _
    apply propext; omega
  have c4 : (n + (((4 : Fin 5) : ℕ) : ℤ) - 2 = q) = (q - 2 = n) := by
    change (n + ((4 : ℕ) : ℤ) - 2 = q) = _
    apply propext; omega
  have k (p : Prop) [Decidable p] (g : ℝ) : (if p then y * g else 0) = g * (if p then y else 0) := by
    split
    · ring
    · ring
  simp only [c0, c1, c2, c3, c4, k]
  ring

/-- The reference's result, with its channel axis of extent 1. -/
def result (A0 A1 : Vec Ideal S8x1x128x128 .f32) : Vec Ideal S8x1x128x128x128 .f32 :=
  fun j => ((rout g1 g2 (nn A0 (j 0)) (yy A1 (j 0)) (((j 2 : Fin 128) : ℕ) : ℤ) (((j 3 : Fin 128) : ℕ) : ℤ) (((j 4 : Fin 128) : ℕ) : ℤ) : ℝ) : EReal)

/-- The reference's result over its volume. -/
def fin (x : Vec Ideal S8x128x128x128 .f32) : Vec Ideal S8x1x128x128x128 .f32 :=
  Host.divf (F := Ideal) (φ := .f32) (Host.reduceWindowAdd (F := Ideal) (φ := .f32) ![1, 1, 3, 3, 3] ![1, 1, 1, 1, 1] ![0, 0, 1, 1, 1] ![0, 0, 1, 1, 1] (broadcastInDim S8x1x128x128x128 ![0, 2, 3, 4] bcast_S8x128x128x128_S8x1x128x128x128_0_2_3_4 x) (broadcastInDim S_ ![] bcast_S_S_ (constant (F := Ideal) S_ .f32 0x00000000#32)) reduceWindows_S8x1x128x128x128_S8x1x128x128x128_w1s1p0_0_w1s1p0_0_w3s1p1_1_w3s1p1_1_w3s1p1_1 h_S_) (broadcastInDim S8x1x128x128x128 ![] bcast_S_S8x1x128x128x128 (constant (F := Ideal) S_ .f32 0x41D80000#32))

/-- It is the model's voxel at every index. -/
theorem fin_eq (hr : ∀ j, A1 V0 j = ((EReal.toReal (A1 V0 j) : ℝ) : EReal)) : fin (volume V0) = result (A0 V0) (A1 V0) := by
  funext j
  idx_vars j
  obtain rfl : j1 = 0 := Subsingleton.elim _ _
  have hs := window_sum (broadcastInDim S8x1x128x128x128 ![0, 2, 3, 4] bcast_S8x128x128x128_S8x1x128x128x128_0_2_3_4 (volume V0))
    (broadcastInDim S_ ![] bcast_S_S_ (constant (F := Ideal) S_ .f32 0x00000000#32))
    (fun i => by pointwise) reduceWindows_S8x1x128x128x128_S8x1x128x128x128_w1s1p0_0_w1s1p0_0_w3s1p1_1_w3s1p1_1_w3s1p1_1 h_S_
    (vol g1 g2 (nn (A0 V0) j0) (yy (A1 V0) j0)) j0
    (fun e h w => by
      have he := e.isLt
      pointwise
      rw [volume_at V0 hr, vol, if_pos (by omega)])
    (fun e h w q => by
      unfold vol
      split
      · exact plane_zero _ _ _ _ _ _ _ (by rw [yy, pix_out _ _ _ (by omega)])
      · rfl) j2 j3 j4
  have hd : fin (volume V0) (ix5 j0 0 j2 j3 j4) = Ideal.div (Host.reduceWindowAdd (F := Ideal) (φ := .f32) ![1, 1, 3, 3, 3] ![1, 1, 1, 1, 1] ![0, 0, 1, 1, 1] ![0, 0, 1, 1, 1] (broadcastInDim S8x1x128x128x128 ![0, 2, 3, 4] bcast_S8x128x128x128_S8x1x128x128x128_0_2_3_4 (volume V0)) (broadcastInDim S_ ![] bcast_S_S_ (constant (F := Ideal) S_ .f32 0x00000000#32)) reduceWindows_S8x1x128x128x128_S8x1x128x128x128_w1s1p0_0_w1s1p0_0_w3s1p1_1_w3s1p1_1_w3s1p1_1 h_S_ (ix5 j0 0 j2 j3 j4)) (Ideal.ofBits .f32 0x41D80000#32) := rfl
  rw [hd, hs, ofBits_27, Ideal.div_coe (by norm_num), ← EReal.coe_mul, box_sum]
  rfl

/-- The reference's run from real intensities. -/
theorem run (m : (ℓ : Loc nD τ sig) → Buf (Elt Ideal) ℓ) (ρ : Dev nD → PrngReg)
    (hr : ∀ (c : Dev nD) (j : S8x1x128x128.Idx), (m ((c.tc : Thread nD τ).loc main_arg1) : Vec Ideal S8x1x128x128 .f32) j = ((EReal.toReal ((m ((c.tc : Thread nD τ).loc main_arg1) : Vec Ideal S8x1x128x128 .f32) j) : ℝ) : EReal)) :
    θ_run defs (onTc (τ := τ) (main (F := Ideal))) ⟨m, fun _ => 0, ρ⟩ fun r => ∀ c : Dev nD,
      r.2.mem ((c.tc : Thread nD τ).loc main_v228) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (fin_eq (launchContents m c) (hr c)), (h c).2⟩) (Run.run m ρ)

end Cert.ReferenceIdeal.Val
end
-- ==== Proof.lean ====
/- The certificate's claim: the frames of the three programs, the idealization's ledger, and the equality of the kernel's and
   the reference's results over the extended reals, for real intensities and whatever depth map. -/
module

public import proofs.«01_k».proof.Proof.Frames
public import proofs.«01_k».proof.Proof.Finite
public import proofs.«01_k».proof.Proof.KRun
public import proofs.«01_k».proof.Proof.RefPoint

@[expose] public section

noncomputable section

namespace Cert.Proof

open Idealize.ShloMosaic Idealize.SL.Sem

/-- The kernel's result is the reference's, as functions of the two argument arrays. -/
theorem result_eq (A0 A1 : Vec Ideal Cert.KernelIdeal.S8x1x128x128 .f32) :
    Cert.KernelIdeal.Val.result A0 A1 = Cert.ReferenceIdeal.Val.result A0 A1 := by
  funext j
  unfold Cert.KernelIdeal.Val.result Cert.ReferenceIdeal.Val.result Cert.KernelIdeal.Val.K
  have h : (((j 2 : Fin 128) : ℕ) : ℤ) < 128 := by exact_mod_cast (j 2 : Fin 128).isLt
  rw [Cert.Model.kout_eq_rout _ _ _ _ _ _ _ (by positivity) h]

/-- The kernel and the reference end with equal results. -/
theorem algebraic : Cert.algebraic_KernelIdeal_ReferenceIdeal_pre_finite_intensity := by
  intro m g m' g' hpre hag
  have hr : ∀ c j, Cert.KernelIdeal.Val.A1 m c j = ((EReal.toReal (Cert.KernelIdeal.Val.A1 m c j) : ℝ) : EReal) :=
    fun c j => real_of_finite _ _ (hpre c) j
  refine ⟨fun c => Cert.KernelIdeal.Val.result (Cert.KernelIdeal.Val.A0 m c) (Cert.KernelIdeal.Val.A1 m c), Cert.KernelIdeal.Val.run m g hr, ?_⟩
  refine (θ_run Cert.ReferenceIdeal.defs _ _).mono (fun r h c => ⟨?_, (h c).2⟩)
    (Cert.ReferenceIdeal.Val.run m' g' fun c j => ?_)
  · rw [(h c).1, (hag c).1, (hag c).2]
    exact (result_eq _ _).symm
  · rw [(hag c).2]
    exact hr c j

/-- The claim. -/
theorem claim : Cert.Claim :=
  ⟨Cert.Kernel.Gen.facts, Cert.KernelIdeal.Gen.facts, Cert.ReferenceIdeal.Gen.facts, Cert.Pre_finite_intensity.Gen.facts,
    frame_kernel, frame_kernelIdeal, fun m g _ => frame_kernelIdeal m g trivial, frame_referenceIdeal,
    fun m g _ => frame_referenceIdeal m g trivial, preserves, algebraic⟩

end Cert.Proof

end
